-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv49" .bf16 0x3CA7#16 ((49⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_v289) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x21x50x64x7x7 : Shape := ⟨6, ![4, 21, 50, 64, 7, 7]⟩
abbrev S4x21x50x5 : Shape := ⟨4, ![4, 21, 50, 5]⟩
abbrev S4x20x5 : Shape := ⟨3, ![4, 20, 5]⟩
abbrev S64x64x3x3 : Shape := ⟨4, ![64, 64, 3, 3]⟩
abbrev S64 : Shape := ⟨1, ![64]⟩
abbrev S64x1 : Shape := ⟨2, ![64, 1]⟩
abbrev S1 : Shape := ⟨1, ![1]⟩
abbrev S64x21 : Shape := ⟨2, ![64, 21]⟩
abbrev S21 : Shape := ⟨1, ![21]⟩
abbrev S64x4 : Shape := ⟨2, ![64, 4]⟩
abbrev S4 : Shape := ⟨1, ![4]⟩
abbrev S4x20x1 : Shape := ⟨3, ![4, 20, 1]⟩
abbrev S4x20 : Shape := ⟨2, ![4, 20]⟩
abbrev S_ : Shape := ⟨0, ![]⟩

class Facts : Prop where
  slices_S4x20x5_S4x20x1_0_0_4 : S4x20x5.Slices ![0, 0, 4] S4x20x1
  shapeCasts_S4x20x1_S4x20 : S4x20x1.ShapeCasts S4x20
  bcast_S_S4x20 : S_.BroadcastsInDim S4x20 (![] : Fin 0 → Fin S4x20.rank)
  reducesTo_S4x20_S_d0_1 : S4x20.ReducesTo [0, 1] S_
  h_S_ : 0 < S_.numel
  bcast_S_S4x21x50x64x7x7 : S_.BroadcastsInDim S4x21x50x64x7x7 (![] : Fin 0 → Fin S4x21x50x64x7x7.rank)
  reducesTo_S4x21x50x64x7x7_S_d0_1_2_3_4_5 : S4x21x50x64x7x7.ReducesTo [0, 1, 2, 3, 4, 5] S_
  bcast_S_S64x64x3x3 : S_.BroadcastsInDim S64x64x3x3 (![] : Fin 0 → Fin S64x64x3x3.rank)
  reducesTo_S64x64x3x3_S_d0_1_2_3 : S64x64x3x3.ReducesTo [0, 1, 2, 3] S_
  bcast_S_S64 : S_.BroadcastsInDim S64 (![] : Fin 0 → Fin S64.rank)
  reducesTo_S64_S_d0 : S64.ReducesTo [0] S_
  bcast_S_S64x21 : S_.BroadcastsInDim S64x21 (![] : Fin 0 → Fin S64x21.rank)
  reducesTo_S64x21_S_d0_1 : S64x21.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_arg5 : FVec F S64 .f32) (main_arg8 : FVec F S64x21 .f32) (main_arg9 : FVec F S21 .f32) (main_v12 : IVec S_ 1) (main_v16 : IVec S_ 1) : IVec S_ 1 :=
  let main_v17 : IVec S_ 1 := andi main_v12 main_v16
  let main_v18 : FVec F S64 .f32 := Host.absf main_arg5
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_c_6 : IVec S_ 1 := constantI S_ 1 1#1
  let main_v21 : IVec S_ 1 := (fun x v => Host.reduce IntOp.andi x v reducesTo_S64_S_d0 h_S_) main_v20 main_c_6
  let main_v22 : IVec S_ 1 := andi main_v17 main_v21
  let main_v23 : FVec F S64x21 .f32 := Host.absf main_arg8
  let main_cst_7 : FVec F S_ .f32 := constant S_ .f32 0x7F800000#32
  let main_v24 : FVec F S64x21 .f32 := broadcastInDim S64x21 ![] bcast_S_S64x21 main_cst_7
  let main_v25 : IVec S64x21 1 := cmpf .olt main_v23 main_v24
  let main_c_8 : IVec S_ 1 := constantI S_ 1 1#1
  let main_v26 : IVec S_ 1 := (fun x v => Host.reduce IntOp.andi x v reducesTo_S64x21_S_d0_1 h_S_) main_v25 main_c_8
  let main_v27 : IVec S_ 1 := andi main_v22 main_v26
  let main_v28 : FVec F S21 .f32 := Host.absf main_arg9
  let main_cst_9 : FVec F S_ .f32 := constant S_ .f32 0x7F800000#32
  let main_v29 : FVec F S21 .f32 := broadcastInDim S21 ![] bcast_S_S21 main_cst_9
  let main_v30 : IVec S21 1 := cmpf .olt main_v28 main_v29
  let main_c_10 : IVec S_ 1 := constantI S_ 1 1#1
  let main_v31 : IVec S_ 1 := (fun x v => Host.reduce IntOp.andi x v reducesTo_S21_S_d0 h_S_) main_v30 main_c_10
  let main_v32 : IVec S_ 1 := andi main_v27 main_v31
  main_v32

def fn {F : FTy → Type} [FloatOps F] (main_arg0 : FVec F S4x21x50x64x7x7 .f32) (main_arg1 : FVec F S4x21x50x64x7x7 .f32) (main_arg2 : FVec F S4x21x50x5 .f32) (main_arg3 : FVec F S4x20x5 .f32) (main_arg4 : FVec F S64x64x3x3 .f32) (main_arg5 : FVec F S64 .f32) (main_arg6 : FVec F S64x1 .f32) (main_arg7 : FVec F S1 .f32) (main_arg8 : FVec F S64x21 .f32) (main_arg9 : FVec F S21 .f32) (main_arg10 : FVec F S64x4 .f32) (main_arg11 : FVec F S4 .f32) : IVec S_ 1 :=
  let main_v0 : FVec F S4x20x1 .f32 := (extractStridedSlice S4x20x1 ![0, 0, 4] · slices_S4x20x5_S4x20x1_0_0_4) main_arg3
  let main_v1 : FVec F S4x20 .f32 := shapeCast S4x20 main_v0 shapeCasts_S4x20x1_S4x20
  let main_cst : FVec F S_ .f32 := constant S_ .f32 0xBF800000#32
  let main_v2 : FVec F S4x20 .f32 := broadcastInDim S4x20 ![] bcast_S_S4x20 main_cst
  let main_v3 : IVec S4x20 1 := cmpf .ogt main_v1 main_v2
  let main_cst_0 : FVec F S_ .f32 := constant S_ .f32 0x41A80000#32
  let main_v4 : FVec F S4x20 .f32 := broadcastInDim S4x20 ![] bcast_S_S4x20 main_cst_0
  let main_v5 : IVec S4x20 1 := cmpf .olt main_v1 main_v4
  let main_v6 : IVec S4x20 1 := andi main_v3 main_v5
  let main_c : IVec S_ 1 := constantI S_ 1 1#1
  let main_v7 : IVec S_ 1 := (fun x v => Host.reduce IntOp.andi x v reducesTo_S4x20_S_d0_1 h_S_) main_v6 main_c
  let main_v8 : FVec F S4x21x50x64x7x7 .f32 := Host.absf main_arg1
  let main_cst_1 : FVec F S_ .f32 := constant S_ .f32 0x7F800000#32
  let main_v9 : FVec F S4x21x50x64x7x7 .f32 := broadcastInDim S4x21x50x64x7x7 ![] bcast_S_S4x21x50x64x7x7 main_cst_1
  let main_v10 : IVec S4x21x50x64x7x7 1 := cmpf .olt main_v8 main_v9
  let main_c_2 : IVec S_ 1 := constantI S_ 1 1#1
  let main_v11 : IVec S_ 1 := (fun x v => Host.reduce IntOp.andi x v reducesTo_S4x21x50x64x7x7_S_d0_1_2_3_4_5 h_S_) main_v10 main_c_2
  let main_v12 : IVec S_ 1 := andi main_v7 main_v11
  let main_v13 : FVec F S64x64x3x3 .f32 := Host.absf main_arg4
  let main_cst_3 : FVec F S_ .f32 := constant S_ .f32 0x7F800000#32
  let main_v14 : FVec F S64x64x3x3 .f32 := broadcastInDim S64x64x3x3 ![] bcast_S_S64x64x3x3 main_cst_3
  let main_v15 : IVec S64x64x3x3 1 := cmpf .olt main_v13 main_v14
  let main_c_4 : IVec S_ 1 := constantI S_ 1 1#1
  let main_v16 : IVec S_ 1 := (fun x v => Host.reduce IntOp.andi x v reducesTo_S64x64x3x3_S_d0_1_2_3 h_S_) main_v15 main_c_4
  fn_part1 (F := F) main_arg5 main_arg8 main_arg9 main_v12 main_v16
-- ==== Kernel.lean ====
abbrev S4x21x50x64x7x7 : Shape := ⟨6, ![4, 21, 50, 64, 7, 7]⟩
abbrev S4x21x50x5 : Shape := ⟨4, ![4, 21, 50, 5]⟩
abbrev S4x20x5 : Shape := ⟨3, ![4, 20, 5]⟩
abbrev S64x64x3x3 : Shape := ⟨4, ![64, 64, 3, 3]⟩
abbrev S64 : Shape := ⟨1, ![64]⟩
abbrev S64x1 : Shape := ⟨2, ![64, 1]⟩
abbrev S1 : Shape := ⟨1, ![1]⟩
abbrev S64x21 : Shape := ⟨2, ![64, 21]⟩
abbrev S21 : Shape := ⟨1, ![21]⟩
abbrev S64x4 : Shape := ⟨2, ![64, 4]⟩
abbrev S4 : Shape := ⟨1, ![4]⟩
abbrev S4200x64x7x7 : Shape := ⟨4, ![4200, 64, 7, 7]⟩
abbrev S_ : Shape := ⟨0, ![]⟩
abbrev S4200x64x8x8 : Shape := ⟨4, ![4200, 64, 8, 8]⟩
abbrev S4200x64x64 : Shape := ⟨3, ![4200, 64, 64]⟩
abbrev S64x4200x64 : Shape := ⟨3, ![64, 4200, 64]⟩
abbrev S4x1050x5 : Shape := ⟨3, ![4, 1050, 5]⟩
abbrev S4x5x20 : Shape := ⟨3, ![4, 5, 20]⟩
abbrev S3x3x64x64 : Shape := ⟨4, ![3, 3, 64, 64]⟩
abbrev S576x64 : Shape := ⟨2, ![576, 64]⟩
abbrev S64x26 : Shape := ⟨2, ![64, 26]⟩
abbrev S26 : Shape := ⟨1, ![26]⟩
abbrev S1x26 : Shape := ⟨2, ![1, 26]⟩
abbrev S1x64 : Shape := ⟨2, ![1, 64]⟩
abbrev S2x56x2x7x8x56 : Shape := ⟨6, ![2, 56, 2, 7, 8, 56]⟩
abbrev S112x6272 : Shape := ⟨2, ![112, 6272]⟩
abbrev S4x1050x16 : Shape := ⟨3, ![4, 1050, 16]⟩
abbrev S1x1 : Shape := ⟨2, ![1, 1]⟩
abbrev S1x1050x5 : Shape := ⟨3, ![1, 1050, 5]⟩
abbrev S1x5x20 : Shape := ⟨3, ![1, 5, 20]⟩
abbrev S1x1050x16 : Shape := ⟨3, ![1, 1050, 16]⟩
abbrev S1050x5 : Shape := ⟨2, ![1050, 5]⟩
abbrev S5x20 : Shape := ⟨2, ![5, 20]⟩
abbrev S1050x1 : Shape := ⟨2, ![1050, 1]⟩
abbrev S1x20 : Shape := ⟨2, ![1, 20]⟩
abbrev S1050x20 : Shape := ⟨2, ![1050, 20]⟩
abbrev S1050 : Shape := ⟨1, ![1050]⟩
abbrev S1050x4 : Shape := ⟨2, ![1050, 4]⟩
abbrev S1050x6 : Shape := ⟨2, ![1050, 6]⟩
abbrev S1050x16 : Shape := ⟨2, ![1050, 16]⟩
abbrev S1x1050x1 : Shape := ⟨3, ![1, 1050, 1]⟩
abbrev S1x1x1 : Shape := ⟨3, ![1, 1, 1]⟩
abbrev S4200x16 : Shape := ⟨2, ![4200, 16]⟩
abbrev S1x4 : Shape := ⟨2, ![1, 4]⟩
abbrev S64x56x64 : Shape := ⟨3, ![64, 56, 64]⟩
abbrev S56x16 : Shape := ⟨2, ![56, 16]⟩
abbrev S4608x64 : Shape := ⟨2, ![4608, 64]⟩
abbrev S512x64 : Shape := ⟨2, ![512, 64]⟩
abbrev S3584x64 : Shape := ⟨2, ![3584, 64]⟩
abbrev S3136x64 : Shape := ⟨2, ![3136, 64]⟩
abbrev S6272x64 : Shape := ⟨2, ![6272, 64]⟩
abbrev S6272x576 : Shape := ⟨2, ![6272, 576]⟩
abbrev S112x64 : Shape := ⟨2, ![112, 64]⟩
abbrev S112x26 : Shape := ⟨2, ![112, 26]⟩
abbrev S56x26 : Shape := ⟨2, ![56, 26]⟩
abbrev S56x1 : Shape := ⟨2, ![56, 1]⟩
abbrev S56x4 : Shape := ⟨2, ![56, 4]⟩
abbrev S56x21 : Shape := ⟨2, ![56, 21]⟩
abbrev S56 : Shape := ⟨1, ![56]⟩

abbrev nBuf : Space → Nat
  | .hbm => 91
  | .vmem => 20
  | .smem => 1
  | _ => 0

abbrev bufTy : (tb : Table) → Fin (tcTables nBuf tb) → BufTy
  | .hbm, ⟨0, _⟩ => ⟨S4x21x50x64x7x7, .f32⟩
  | .hbm, ⟨1, _⟩ => ⟨S4x21x50x64x7x7, .f32⟩
  | .hbm, ⟨2, _⟩ => ⟨S4x21x50x5, .f32⟩
  | .hbm, ⟨3, _⟩ => ⟨S4x20x5, .f32⟩
  | .hbm, ⟨4, _⟩ => ⟨S64x64x3x3, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S64x21, .f32⟩
  | .hbm, ⟨9, _⟩ => ⟨S21, .f32⟩
  | .hbm, ⟨10, _⟩ => ⟨S64x4, .f32⟩
  | .hbm, ⟨11, _⟩ => ⟨S4, .f32⟩
  | .hbm, ⟨12, _⟩ => ⟨S4200x64x7x7, .f32⟩
  | .hbm, ⟨13, _⟩ => ⟨S_, .i32⟩
  | .hbm, ⟨14, _⟩ => ⟨S_, .f32⟩
  | .hbm, ⟨15, _⟩ => ⟨S4200x64x8x8, .f32⟩
  | .hbm, ⟨16, _⟩ => ⟨S4200x64x64, .f32⟩
  | .hbm, ⟨17, _⟩ => ⟨S4200x64x64, .bf16⟩
  | .hbm, ⟨18, _⟩ => ⟨S4200x64x64, .bf16⟩
  | .hbm, ⟨19, _⟩ => ⟨S64x4200x64, .bf16⟩
  | .hbm, ⟨20, _⟩ => ⟨S4200x64x7x7, .f32⟩
  | .hbm, ⟨21, _⟩ => ⟨S_, .i32⟩
  | .hbm, ⟨22, _⟩ => ⟨S_, .f32⟩
  | .hbm, ⟨23, _⟩ => ⟨S4200x64x8x8, .f32⟩
  | .hbm, ⟨24, _⟩ => ⟨S4200x64x64, .f32⟩
  | .hbm, ⟨25, _⟩ => ⟨S4200x64x64, .bf16⟩
  | .hbm, ⟨26, _⟩ => ⟨S4200x64x64, .bf16⟩
  | .hbm, ⟨27, _⟩ => ⟨S64x4200x64, .bf16⟩
  | .hbm, ⟨28, _⟩ => ⟨S4x1050x5, .f32⟩
  | .hbm, ⟨29, _⟩ => ⟨S4x5x20, .f32⟩
  | .hbm, ⟨30, _⟩ => ⟨S3x3x64x64, .f32⟩
  | .hbm, ⟨31, _⟩ => ⟨S576x64, .f32⟩
  | .hbm, ⟨32, _⟩ => ⟨S576x64, .bf16⟩
  | .hbm, ⟨33, _⟩ => ⟨S64x26, .f32⟩
  | .hbm, ⟨34, _⟩ => ⟨S26, .f32⟩
  | .hbm, ⟨35, _⟩ => ⟨S1x26, .f32⟩
  | .hbm, ⟨36, _⟩ => ⟨S1x64, .f32⟩
  | .hbm, ⟨37, _⟩ => ⟨S2x56x2x7x8x56, .i32⟩
  | .hbm, ⟨38, _⟩ => ⟨S2x56x2x7x8x56, .i32⟩
  | .hbm, ⟨39, _⟩ => ⟨S2x56x2x7x8x56, .i32⟩
  | .hbm, ⟨40, _⟩ => ⟨S2x56x2x7x8x56, .i32⟩
  | .hbm, ⟨41, _⟩ => ⟨S2x56x2x7x8x56, .i32⟩
  | .hbm, ⟨42, _⟩ => ⟨S2x56x2x7x8x56, .i32⟩
  | .hbm, ⟨43, _⟩ => ⟨S2x56x2x7x8x56, .i1⟩
  | .hbm, ⟨44, _⟩ => ⟨S2x56x2x7x8x56, .i1⟩
  | .hbm, ⟨45, _⟩ => ⟨S2x56x2x7x8x56, .i1⟩
  | .hbm, ⟨46, _⟩ => ⟨S_, .i32⟩
  | .hbm, ⟨47, _⟩ => ⟨S2x56x2x7x8x56, .i32⟩
  | .hbm, ⟨48, _⟩ => ⟨S2x56x2x7x8x56, .i1⟩
  | .hbm, ⟨49, _⟩ => ⟨S2x56x2x7x8x56, .i1⟩
  | .hbm, ⟨50, _⟩ => ⟨S_, .f32⟩
  | .hbm, ⟨51, _⟩ => ⟨S_, .f32⟩
  | .hbm, ⟨52, _⟩ => ⟨S2x56x2x7x8x56, .f32⟩
  | .hbm, ⟨53, _⟩ => ⟨S2x56x2x7x8x56, .f32⟩
  | .hbm, ⟨54, _⟩ => ⟨S2x56x2x7x8x56, .f32⟩
  | .hbm, ⟨55, _⟩ => ⟨S112x6272, .f32⟩
  | .hbm, ⟨56, _⟩ => ⟨S112x6272, .bf16⟩
  | .hbm, ⟨57, _⟩ => ⟨S4x1050x16, .f32⟩
  | .hbm, ⟨58, _⟩ => ⟨S1x1, .f32⟩
  | .hbm, ⟨59, _⟩ => ⟨S4200x16, .f32⟩
  | .hbm, ⟨60, _⟩ => ⟨S1x4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S_, .f32⟩
  | .hbm, ⟨67, _⟩ => ⟨S1x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S1x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .local _ .vmem, ⟨0, _⟩ => ⟨S1x1050x5, .f32⟩
  | .local _ .vmem, ⟨1, _⟩ => ⟨S1x1050x5, .f32⟩
  | .local _ .vmem, ⟨2, _⟩ => ⟨S1x5x20, .f32⟩
  | .local _ .vmem, ⟨3, _⟩ => ⟨S1x5x20, .f32⟩
  | .local _ .vmem, ⟨4, _⟩ => ⟨S1x1050x16, .f32⟩
  | .local _ .vmem, ⟨5, _⟩ => ⟨S1x1050x16, .f32⟩
  | .local _ .vmem, ⟨6, _⟩ => ⟨S64x56x64, .bf16⟩
  | .local _ .vmem, ⟨7, _⟩ => ⟨S64x56x64, .bf16⟩
  | .local _ .vmem, ⟨8, _⟩ => ⟨S64x56x64, .bf16⟩
  | .local _ .vmem, ⟨9, _⟩ => ⟨S64x56x64, .bf16⟩
  | .local _ .vmem, ⟨10, _⟩ => ⟨S56x16, .f32⟩
  | .local _ .vmem, ⟨11, _⟩ => ⟨S56x16, .f32⟩
  | .local _ .vmem, ⟨12, _⟩ => ⟨S576x64, .bf16⟩
  | .local _ .vmem, ⟨13, _⟩ => ⟨S1x64, .f32⟩
  | .local _ .vmem, ⟨14, _⟩ => ⟨S64x26, .f32⟩
  | .local _ .vmem, ⟨15, _⟩ => ⟨S1x26, .f32⟩
  | .local _ .vmem, ⟨16, _⟩ => ⟨S112x6272, .bf16⟩
  | .local _ .vmem, ⟨17, _⟩ => ⟨S1x4, .f32⟩
  | .local _ .vmem, ⟨18, _⟩ => ⟨S4608x64, .bf16⟩
  | .local _ .vmem, ⟨19, _⟩ => ⟨S4608x64, .bf16⟩
  | .local _ .smem, ⟨0, _⟩ => ⟨S1x1, .f32⟩
  | _, _ => ⟨S4x21x50x64x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_5 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_scratch0 : Ref sig .tc := ⟨.vmem, 18, rfl⟩
abbrev cc1_scratch1 : Ref sig .tc := ⟨.vmem, 19, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1050x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1050x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![75], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x56x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x56x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S56x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S576x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x26 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x26 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S112x6272 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== KernelIdeal.lean ====
variable {F : FTy → Type} [FloatOps F] [Named F]
def κ : String → Option EReal := fun
  | "inv49" => some ((49⁻¹ : ℝ) : EReal)
  | _ => none
-- ==== ReferenceIdeal.lean ====
abbrev S4x21x50x64x7x7 : Shape := ⟨6, ![4, 21, 50, 64, 7, 7]⟩
abbrev S4x21x50x5 : Shape := ⟨4, ![4, 21, 50, 5]⟩
abbrev S4x20x5 : Shape := ⟨3, ![4, 20, 5]⟩
abbrev S64x64x3x3 : Shape := ⟨4, ![64, 64, 3, 3]⟩
abbrev S64 : Shape := ⟨1, ![64]⟩
abbrev S64x1 : Shape := ⟨2, ![64, 1]⟩
abbrev S1 : Shape := ⟨1, ![1]⟩
abbrev S64x21 : Shape := ⟨2, ![64, 21]⟩
abbrev S21 : Shape := ⟨1, ![21]⟩
abbrev S64x4 : Shape := ⟨2, ![64, 4]⟩
abbrev S4 : Shape := ⟨1, ![4]⟩
abbrev S4x1050x5 : Shape := ⟨3, ![4, 1050, 5]⟩
abbrev S4x1050x4 : Shape := ⟨3, ![4, 1050, 4]⟩
abbrev S4x1050x1 : Shape := ⟨3, ![4, 1050, 1]⟩
abbrev S4x1050 : Shape := ⟨2, ![4, 1050]⟩
abbrev S4x20x4 : Shape := ⟨3, ![4, 20, 4]⟩
abbrev S4x20x1 : Shape := ⟨3, ![4, 20, 1]⟩
abbrev S4x20 : Shape := ⟨2, ![4, 20]⟩
abbrev S4x20x2 : Shape := ⟨3, ![4, 20, 2]⟩
abbrev S4x20x1x2 : Shape := ⟨4, ![4, 20, 1, 2]⟩
abbrev S4x1050x2 : Shape := ⟨3, ![4, 1050, 2]⟩
abbrev S4x1x1050x2 : Shape := ⟨4, ![4, 1, 1050, 2]⟩
abbrev S4x20x1050x2 : Shape := ⟨4, ![4, 20, 1050, 2]⟩
abbrev S_ : Shape := ⟨0, ![]⟩
abbrev S4x20x1050x1 : Shape := ⟨4, ![4, 20, 1050, 1]⟩
abbrev S4x20x1050 : Shape := ⟨3, ![4, 20, 1050]⟩
abbrev S4x1x1050 : Shape := ⟨3, ![4, 1, 1050]⟩
abbrev S4200 : Shape := ⟨1, ![4200]⟩
abbrev S4200x64x7x7 : Shape := ⟨4, ![4200, 64, 7, 7]⟩
abbrev S4200x64x9x9 : Shape := ⟨4, ![4200, 64, 9, 9]⟩
abbrev S64x64x1x1 : Shape := ⟨4, ![64, 64, 1, 1]⟩
abbrev S64x64 : Shape := ⟨2, ![64, 64]⟩
abbrev S64x4200x7x7 : Shape := ⟨4, ![64, 4200, 7, 7]⟩
abbrev S1x64x1x1 : Shape := ⟨4, ![1, 64, 1, 1]⟩
abbrev S4200x64 : Shape := ⟨2, ![4200, 64]⟩
abbrev S4200x1 : Shape := ⟨2, ![4200, 1]⟩
abbrev S1x1 : Shape := ⟨2, ![1, 1]⟩
abbrev S4200x21 : Shape := ⟨2, ![4200, 21]⟩
abbrev S1x21 : Shape := ⟨2, ![1, 21]⟩
abbrev S4200x4 : Shape := ⟨2, ![4200, 4]⟩
abbrev S1x4 : Shape := ⟨2, ![1, 4]⟩
abbrev S4200x1x1 : Shape := ⟨3, ![4200, 1, 1]⟩
abbrev S1x1x1 : Shape := ⟨3, ![1, 1, 1]⟩

abbrev nBuf : Space → Nat
  | .hbm => 402
  | .vmem => 0
  | .smem => 0
  | _ => 0

abbrev hbmTy0_0 (i : Nat) : BufTy := match i % 128 with
  | 0 => ⟨S4x21x50x64x7x7, .f32⟩
  | 1 => ⟨S4x21x50x64x7x7, .f32⟩
  | 2 => ⟨S4x21x50x5, .f32⟩
  | 3 => ⟨S4x20x5, .f32⟩
  | 4 => ⟨S64x64x3x3, .f32⟩
  | 5 => ⟨S64, .f32⟩
  | 6 => ⟨S64x1, .f32⟩
  | 7 => ⟨S1, .f32⟩
  | 8 => ⟨S64x21, .f32⟩
  | 9 => ⟨S21, .f32⟩
  | 10 => ⟨S64x4, .f32⟩
  | 11 => ⟨S4, .f32⟩
  | 12 => ⟨S4x1050x5, .f32⟩
  | 13 => ⟨S4x1050x4, .f32⟩
  | 14 => ⟨S4x1050x1, .f32⟩
  | 15 => ⟨S4x1050, .f32⟩
  | 16 => ⟨S4x20x4, .f32⟩
  | 17 => ⟨S4x20x1, .f32⟩
  | 18 => ⟨S4x20, .f32⟩
  | 19 => ⟨S4x20x2, .f32⟩
  | 20 => ⟨S4x20x1x2, .f32⟩
  | 21 => ⟨S4x1050x2, .f32⟩
  | 22 => ⟨S4x1x1050x2, .f32⟩
  | 23 => ⟨S4x20x1050x2, .f32⟩
  | 24 => ⟨S4x20x1050x2, .f32⟩
  | 25 => ⟨S4x20x1050x2, .f32⟩
  | 26 => ⟨S4x20x2, .f32⟩
  | 27 => ⟨S4x20x1x2, .f32⟩
  | 28 => ⟨S4x1050x2, .f32⟩
  | 29 => ⟨S4x1x1050x2, .f32⟩
  | 30 => ⟨S4x20x1050x2, .f32⟩
  | 31 => ⟨S4x20x1050x2, .f32⟩
  | 32 => ⟨S4x20x1050x2, .f32⟩
  | 33 => ⟨S4x20x1050x2, .f32⟩
  | 34 => ⟨S_, .f32⟩
  | 35 => ⟨S_, .f32⟩
  | 36 => ⟨S4x20x1050x2, .f32⟩
  | 37 => ⟨S4x20x1050x2, .f32⟩
  | 38 => ⟨S4x20x1050x1, .f32⟩
  | 39 => ⟨S4x20x1050, .f32⟩
  | 40 => ⟨S4x20x1050x1, .f32⟩
  | 41 => ⟨S4x20x1050, .f32⟩
  | 42 => ⟨S4x20x1050, .f32⟩
  | 43 => ⟨S4x20x1, .f32⟩
  | 44 => ⟨S4x20, .f32⟩
  | 45 => ⟨S4x20x1, .f32⟩
  | 46 => ⟨S4x20, .f32⟩
  | 47 => ⟨S4x20, .f32⟩
  | 48 => ⟨S4x20x1, .f32⟩
  | 49 => ⟨S4x20, .f32⟩
  | 50 => ⟨S4x20x1, .f32⟩
  | 51 => ⟨S4x20, .f32⟩
  | 52 => ⟨S4x20, .f32⟩
  | 53 => ⟨S4x20, .f32⟩
  | 54 => ⟨S4x20x1, .f32⟩
  | 55 => ⟨S4x1050x1, .f32⟩
  | 56 => ⟨S4x1050, .f32⟩
  | 57 => ⟨S4x1050x1, .f32⟩
  | 58 => ⟨S4x1050, .f32⟩
  | 59 => ⟨S4x1050, .f32⟩
  | 60 => ⟨S4x1050x1, .f32⟩
  | 61 => ⟨S4x1050, .f32⟩
  | 62 => ⟨S4x1050x1, .f32⟩
  | 63 => ⟨S4x1050, .f32⟩
  | 64 => ⟨S4x1050, .f32⟩
  | 65 => ⟨S4x1050, .f32⟩
  | 66 => ⟨S4x1x1050, .f32⟩
  | 67 => ⟨S4x20x1050, .f32⟩
  | 68 => ⟨S4x20x1050, .f32⟩
  | 69 => ⟨S4x20x1050, .f32⟩
  | 70 => ⟨S4x20x1050, .f32⟩
  | 71 => ⟨S4x20x1050, .f32⟩
  | 72 => ⟨S_, .f32⟩
  | 73 => ⟨S4x1050, .f32⟩
  | 74 => ⟨S4x20x1050, .i32⟩
  | 75 => ⟨S_, .f32⟩
  | 76 => ⟨S_, .i32⟩
  | 77 => ⟨S4x1050, .f32⟩
  | 78 => ⟨S4x1050, .i32⟩
  | 79 => ⟨S_, .i32⟩
  | 80 => ⟨S4x1050, .i32⟩
  | 81 => ⟨S4x1050, .i1⟩
  | 82 => ⟨S_, .i32⟩
  | 83 => ⟨S4x1050, .i32⟩
  | 84 => ⟨S4x1050, .i32⟩
  | 85 => ⟨S4x1050, .i32⟩
  | 86 => ⟨S4x1050x1, .i32⟩
  | 87 => ⟨S4x1050, .f32⟩
  | 88 => ⟨S_, .i32⟩
  | 89 => ⟨S4x1050, .i32⟩
  | 90 => ⟨S4x1050, .i1⟩
  | 91 => ⟨S_, .i32⟩
  | 92 => ⟨S4x1050, .i32⟩
  | 93 => ⟨S4x1050, .i32⟩
  | 94 => ⟨S4x1050, .i32⟩
  | 95 => ⟨S4x1050x1, .i32⟩
  | 96 => ⟨S4x1050x4, .f32⟩
  | 97 => ⟨S_, .f32⟩
  | 98 => ⟨S4x1050, .f32⟩
  | 99 => ⟨S4x1050, .i1⟩
  | 100 => ⟨S_, .f32⟩
  | 101 => ⟨S4x1050, .f32⟩
  | 102 => ⟨S4x1050, .i1⟩
  | 103 => ⟨S4x1050, .i1⟩
  | 104 => ⟨S4200, .i1⟩
  | 105 => ⟨S4200, .f32⟩
  | 106 => ⟨S_, .f32⟩
  | 107 => ⟨S_, .f32⟩
  | 108 => ⟨S_, .f32⟩
  | 109 => ⟨S_, .f32⟩
  | 110 => ⟨S4200x64x7x7, .f32⟩
  | 111 => ⟨S4200x64x7x7, .f32⟩
  | 112 => ⟨S_, .i32⟩
  | 113 => ⟨S_, .f32⟩
  | 114 => ⟨S4200x64x9x9, .f32⟩
  | 115 => ⟨S4200x64x7x7, .f32⟩
  | 116 => ⟨S64x64x1x1, .f32⟩
  | 117 => ⟨S64x64, .f32⟩
  | 118 => ⟨S64x4200x7x7, .f32⟩
  | 119 => ⟨S4200x64x7x7, .f32⟩
  | 120 => ⟨S4200x64x7x7, .f32⟩
  | 121 => ⟨S64x64x1x1, .f32⟩
  | 122 => ⟨S64x64, .f32⟩
  | 123 => ⟨S64x4200x7x7, .f32⟩
  | 124 => ⟨S4200x64x7x7, .f32⟩
  | 125 => ⟨S4200x64x7x7, .f32⟩
  | 126 => ⟨S4200x64x7x7, .f32⟩
  | 127 => ⟨S64x64x1x1, .f32⟩
  | _ => ⟨S4x21x50x64x7x7, .f32⟩

abbrev hbmTy0_1 (i : Nat) : BufTy := match i % 128 with
  | 0 => ⟨S64x64, .f32⟩
  | 1 => ⟨S64x4200x7x7, .f32⟩
  | 2 => ⟨S4200x64x7x7, .f32⟩
  | 3 => ⟨S4200x64x7x7, .f32⟩
  | 4 => ⟨S4200x64x7x7, .f32⟩
  | 5 => ⟨S64x64x1x1, .f32⟩
  | 6 => ⟨S64x64, .f32⟩
  | 7 => ⟨S64x4200x7x7, .f32⟩
  | 8 => ⟨S4200x64x7x7, .f32⟩
  | 9 => ⟨S4200x64x7x7, .f32⟩
  | 10 => ⟨S4200x64x7x7, .f32⟩
  | 11 => ⟨S64x64x1x1, .f32⟩
  | 12 => ⟨S64x64, .f32⟩
  | 13 => ⟨S64x4200x7x7, .f32⟩
  | 14 => ⟨S4200x64x7x7, .f32⟩
  | 15 => ⟨S4200x64x7x7, .f32⟩
  | 16 => ⟨S4200x64x7x7, .f32⟩
  | 17 => ⟨S64x64x1x1, .f32⟩
  | 18 => ⟨S64x64, .f32⟩
  | 19 => ⟨S64x4200x7x7, .f32⟩
  | 20 => ⟨S4200x64x7x7, .f32⟩
  | 21 => ⟨S4200x64x7x7, .f32⟩
  | 22 => ⟨S4200x64x7x7, .f32⟩
  | 23 => ⟨S64x64x1x1, .f32⟩
  | 24 => ⟨S64x64, .f32⟩
  | 25 => ⟨S64x4200x7x7, .f32⟩
  | 26 => ⟨S4200x64x7x7, .f32⟩
  | 27 => ⟨S4200x64x7x7, .f32⟩
  | 28 => ⟨S4200x64x7x7, .f32⟩
  | 29 => ⟨S64x64x1x1, .f32⟩
  | 30 => ⟨S64x64, .f32⟩
  | 31 => ⟨S64x4200x7x7, .f32⟩
  | 32 => ⟨S4200x64x7x7, .f32⟩
  | 33 => ⟨S4200x64x7x7, .f32⟩
  | 34 => ⟨S4200x64x7x7, .f32⟩
  | 35 => ⟨S64x64x1x1, .f32⟩
  | 36 => ⟨S64x64, .f32⟩
  | 37 => ⟨S64x4200x7x7, .f32⟩
  | 38 => ⟨S4200x64x7x7, .f32⟩
  | 39 => ⟨S4200x64x7x7, .f32⟩
  | 40 => ⟨S1x64x1x1, .f32⟩
  | 41 => ⟨S4200x64x7x7, .f32⟩
  | 42 => ⟨S4200x64x7x7, .f32⟩
  | 43 => ⟨S_, .f32⟩
  | 44 => ⟨S4200x64x7x7, .f32⟩
  | 45 => ⟨S4200x64x7x7, .f32⟩
  | 46 => ⟨S_, .f32⟩
  | 47 => ⟨S4200x64, .f32⟩
  | 48 => ⟨S_, .f32⟩
  | 49 => ⟨S4200x64, .f32⟩
  | 50 => ⟨S4200x64, .f32⟩
  | 51 => ⟨S4200x1, .f32⟩
  | 52 => ⟨S1x1, .f32⟩
  | 53 => ⟨S4200x1, .f32⟩
  | 54 => ⟨S4200x1, .f32⟩
  | 55 => ⟨S4200x1, .f32⟩
  | 56 => ⟨S4200x1, .f32⟩
  | 57 => ⟨S_, .f32⟩
  | 58 => ⟨S4200x1, .f32⟩
  | 59 => ⟨S4200x1, .f32⟩
  | 60 => ⟨S_, .f32⟩
  | 61 => ⟨S4200x1, .f32⟩
  | 62 => ⟨S4200x1, .f32⟩
  | 63 => ⟨S4200x21, .f32⟩
  | 64 => ⟨S1x21, .f32⟩
  | 65 => ⟨S4200x21, .f32⟩
  | 66 => ⟨S4200x21, .f32⟩
  | 67 => ⟨S4200x4, .f32⟩
  | 68 => ⟨S1x4, .f32⟩
  | 69 => ⟨S4200x4, .f32⟩
  | 70 => ⟨S4200x4, .f32⟩
  | 71 => ⟨S_, .i32⟩
  | 72 => ⟨S_, .f32⟩
  | 73 => ⟨S4200x64x9x9, .f32⟩
  | 74 => ⟨S4200x64x7x7, .f32⟩
  | 75 => ⟨S64x64x1x1, .f32⟩
  | 76 => ⟨S64x64, .f32⟩
  | 77 => ⟨S64x4200x7x7, .f32⟩
  | 78 => ⟨S4200x64x7x7, .f32⟩
  | 79 => ⟨S4200x64x7x7, .f32⟩
  | 80 => ⟨S64x64x1x1, .f32⟩
  | 81 => ⟨S64x64, .f32⟩
  | 82 => ⟨S64x4200x7x7, .f32⟩
  | 83 => ⟨S4200x64x7x7, .f32⟩
  | 84 => ⟨S4200x64x7x7, .f32⟩
  | 85 => ⟨S4200x64x7x7, .f32⟩
  | 86 => ⟨S64x64x1x1, .f32⟩
  | 87 => ⟨S64x64, .f32⟩
  | 88 => ⟨S64x4200x7x7, .f32⟩
  | 89 => ⟨S4200x64x7x7, .f32⟩
  | 90 => ⟨S4200x64x7x7, .f32⟩
  | 91 => ⟨S4200x64x7x7, .f32⟩
  | 92 => ⟨S64x64x1x1, .f32⟩
  | 93 => ⟨S64x64, .f32⟩
  | 94 => ⟨S64x4200x7x7, .f32⟩
  | 95 => ⟨S4200x64x7x7, .f32⟩
  | 96 => ⟨S4200x64x7x7, .f32⟩
  | 97 => ⟨S4200x64x7x7, .f32⟩
  | 98 => ⟨S64x64x1x1, .f32⟩
  | 99 => ⟨S64x64, .f32⟩
  | 100 => ⟨S64x4200x7x7, .f32⟩
  | 101 => ⟨S4200x64x7x7, .f32⟩
  | 102 => ⟨S4200x64x7x7, .f32⟩
  | 103 => ⟨S4200x64x7x7, .f32⟩
  | 104 => ⟨S64x64x1x1, .f32⟩
  | 105 => ⟨S64x64, .f32⟩
  | 106 => ⟨S64x4200x7x7, .f32⟩
  | 107 => ⟨S4200x64x7x7, .f32⟩
  | 108 => ⟨S4200x64x7x7, .f32⟩
  | 109 => ⟨S4200x64x7x7, .f32⟩
  | 110 => ⟨S64x64x1x1, .f32⟩
  | 111 => ⟨S64x64, .f32⟩
  | 112 => ⟨S64x4200x7x7, .f32⟩
  | 113 => ⟨S4200x64x7x7, .f32⟩
  | 114 => ⟨S4200x64x7x7, .f32⟩
  | 115 => ⟨S4200x64x7x7, .f32⟩
  | 116 => ⟨S64x64x1x1, .f32⟩
  | 117 => ⟨S64x64, .f32⟩
  | 118 => ⟨S64x4200x7x7, .f32⟩
  | 119 => ⟨S4200x64x7x7, .f32⟩
  | 120 => ⟨S4200x64x7x7, .f32⟩
  | 121 => ⟨S4200x64x7x7, .f32⟩
  | 122 => ⟨S64x64x1x1, .f32⟩
  | 123 => ⟨S64x64, .f32⟩
  | 124 => ⟨S64x4200x7x7, .f32⟩
  | 125 => ⟨S4200x64x7x7, .f32⟩
  | 126 => ⟨S4200x64x7x7, .f32⟩
  | 127 => ⟨S1x64x1x1, .f32⟩
  | _ => ⟨S4x21x50x64x7x7, .f32⟩

abbrev hbmTy0_2 (i : Nat) : BufTy := match i % 128 with
  | 0 => ⟨S4200x64x7x7, .f32⟩
  | 1 => ⟨S4200x64x7x7, .f32⟩
  | 2 => ⟨S_, .f32⟩
  | 3 => ⟨S4200x64x7x7, .f32⟩
  | 4 => ⟨S4200x64x7x7, .f32⟩
  | 5 => ⟨S_, .f32⟩
  | 6 => ⟨S4200x64, .f32⟩
  | 7 => ⟨S_, .f32⟩
  | 8 => ⟨S4200x64, .f32⟩
  | 9 => ⟨S4200x64, .f32⟩
  | 10 => ⟨S4200x1, .f32⟩
  | 11 => ⟨S1x1, .f32⟩
  | 12 => ⟨S4200x1, .f32⟩
  | 13 => ⟨S4200x1, .f32⟩
  | 14 => ⟨S4200x1, .f32⟩
  | 15 => ⟨S4200x1, .f32⟩
  | 16 => ⟨S_, .f32⟩
  | 17 => ⟨S4200x1, .f32⟩
  | 18 => ⟨S4200x1, .f32⟩
  | 19 => ⟨S_, .f32⟩
  | 20 => ⟨S4200x1, .f32⟩
  | 21 => ⟨S4200x1, .f32⟩
  | 22 => ⟨S4200x21, .f32⟩
  | 23 => ⟨S1x21, .f32⟩
  | 24 => ⟨S4200x21, .f32⟩
  | 25 => ⟨S4200x21, .f32⟩
  | 26 => ⟨S4200x4, .f32⟩
  | 27 => ⟨S1x4, .f32⟩
  | 28 => ⟨S4200x4, .f32⟩
  | 29 => ⟨S4200x4, .f32⟩
  | 30 => ⟨S4200, .f32⟩
  | 31 => ⟨S4200, .i32⟩
  | 32 => ⟨S_, .f32⟩
  | 33 => ⟨S4200, .f32⟩
  | 34 => ⟨S_, .f32⟩
  | 35 => ⟨S4200, .f32⟩
  | 36 => ⟨S4200, .f32⟩
  | 37 => ⟨S4200x1, .f32⟩
  | 38 => ⟨S4200x21, .f32⟩
  | 39 => ⟨S4200x21, .f32⟩
  | 40 => ⟨S4200x21, .f32⟩
  | 41 => ⟨S_, .f32⟩
  | 42 => ⟨S4200, .f32⟩
  | 43 => ⟨S4200x1, .f32⟩
  | 44 => ⟨S4200x1, .f32⟩
  | 45 => ⟨S4200x21, .f32⟩
  | 46 => ⟨S4200x21, .f32⟩
  | 47 => ⟨S4200x1, .i32⟩
  | 48 => ⟨S_, .i32⟩
  | 49 => ⟨S4200x1, .i32⟩
  | 50 => ⟨S4200x1, .i1⟩
  | 51 => ⟨S_, .i32⟩
  | 52 => ⟨S4200x1, .i32⟩
  | 53 => ⟨S4200x1, .i32⟩
  | 54 => ⟨S4200x1, .i32⟩
  | 55 => ⟨S4200x1x1, .i32⟩
  | 56 => ⟨S1, .i32⟩
  | 57 => ⟨S_, .i32⟩
  | 58 => ⟨S4200x1x1, .i32⟩
  | 59 => ⟨S4200x1x1, .i1⟩
  | 60 => ⟨S1x1x1, .i32⟩
  | 61 => ⟨S4200x1x1, .i32⟩
  | 62 => ⟨S4200x1x1, .i1⟩
  | 63 => ⟨S4200x1x1, .i1⟩
  | 64 => ⟨S_, .i1⟩
  | 65 => ⟨S4200x1, .i1⟩
  | 66 => ⟨S4200x1, .f32⟩
  | 67 => ⟨S_, .f32⟩
  | 68 => ⟨S4200x1, .f32⟩
  | 69 => ⟨S4200x1, .f32⟩
  | 70 => ⟨S4200, .f32⟩
  | 71 => ⟨S4200, .f32⟩
  | 72 => ⟨S4200, .f32⟩
  | 73 => ⟨S_, .f32⟩
  | 74 => ⟨S_, .f32⟩
  | 75 => ⟨S_, .f32⟩
  | 76 => ⟨S4200x4, .f32⟩
  | 77 => ⟨S4200x4, .f32⟩
  | 78 => ⟨S4200x4, .f32⟩
  | 79 => ⟨S4200x4, .f32⟩
  | 80 => ⟨S4200x4, .f32⟩
  | 81 => ⟨S_, .f32⟩
  | 82 => ⟨S4200x4, .f32⟩
  | 83 => ⟨S4200x4, .i1⟩
  | 84 => ⟨S_, .f32⟩
  | 85 => ⟨S4200x4, .f32⟩
  | 86 => ⟨S4200x4, .f32⟩
  | 87 => ⟨S4200x4, .f32⟩
  | 88 => ⟨S_, .f32⟩
  | 89 => ⟨S4200x4, .f32⟩
  | 90 => ⟨S4200x4, .f32⟩
  | 91 => ⟨S4200x4, .f32⟩
  | 92 => ⟨S4200x1, .f32⟩
  | 93 => ⟨S4200x4, .f32⟩
  | 94 => ⟨S4200x4, .f32⟩
  | 95 => ⟨S_, .f32⟩
  | 96 => ⟨S_, .f32⟩
  | 97 => ⟨S_, .f32⟩
  | 98 => ⟨S_, .f32⟩
  | 99 => ⟨S_, .f32⟩
  | 100 => ⟨S4200, .f32⟩
  | 101 => ⟨S_, .f32⟩
  | 102 => ⟨S_, .f32⟩
  | 103 => ⟨S_, .f32⟩
  | 104 => ⟨S4200, .f32⟩
  | 105 => ⟨S4200, .f32⟩
  | 106 => ⟨S_, .f32⟩
  | 107 => ⟨S4200, .f32⟩
  | 108 => ⟨S4200, .f32⟩
  | 109 => ⟨S4200, .f32⟩
  | 110 => ⟨S_, .f32⟩
  | 111 => ⟨S_, .f32⟩
  | 112 => ⟨S_, .f32⟩
  | 113 => ⟨S4200, .f32⟩
  | 114 => ⟨S4200, .f32⟩
  | 115 => ⟨S_, .f32⟩
  | 116 => ⟨S4200, .f32⟩
  | 117 => ⟨S4200, .f32⟩
  | 118 => ⟨S4200, .f32⟩
  | 119 => ⟨S4200, .f32⟩
  | 120 => ⟨S4200, .f32⟩
  | 121 => ⟨S_, .f32⟩
  | 122 => ⟨S_, .f32⟩
  | 123 => ⟨S_, .f32⟩
  | 124 => ⟨S_, .f32⟩
  | 125 => ⟨S4200, .f32⟩
  | 126 => ⟨S4200, .f32⟩
  | 127 => ⟨S4200, .f32⟩
  | _ => ⟨S4x21x50x64x7x7, .f32⟩

abbrev hbmTy0_3 (i : Nat) : BufTy := match i % 128 with
  | 0 => ⟨S4200, .f32⟩
  | 1 => ⟨S4200, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S4x21x50x64x7x7, .f32⟩

abbrev hbmTy (i : Nat) : BufTy := match i / 128 with
  | 0 => hbmTy0_0 i
  | 1 => hbmTy0_1 i
  | 2 => hbmTy0_2 i
  | 3 => hbmTy0_3 i
  | _ => ⟨S4x21x50x64x7x7, .f32⟩

abbrev bufTy : (tb : Table) → Fin (tcTables nBuf tb) → BufTy
  | .hbm, ⟨i, _⟩ => hbmTy i
  | _, _ => ⟨S4x21x50x64x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_0 : Ref sig .tc := ⟨.hbm, 72, rfl⟩
abbrev main_v57 : Ref sig .tc := ⟨.hbm, 73, rfl⟩
abbrev main_call1_v0 : Ref sig .tc := ⟨.hbm, 74, rfl⟩
abbrev main_call1_cst : Ref sig .tc := ⟨.hbm, 75, rfl⟩
abbrev main_call1_c : Ref sig .tc := ⟨.hbm, 76, rfl⟩
abbrev main_call1_v1_0 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_v60 : Ref sig .tc := ⟨.hbm, 81, rfl⟩
abbrev main_c_1 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_2 : Ref sig .tc := ⟨.hbm, 88, rfl⟩
abbrev main_v66 : Ref sig .tc := ⟨.hbm, 89, rfl⟩
abbrev main_v67 : Ref sig .tc := ⟨.hbm, 90, rfl⟩
abbrev main_c_3 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_4 : Ref sig .tc := ⟨.hbm, 97, rfl⟩
abbrev main_v73 : Ref sig .tc := ⟨.hbm, 98, rfl⟩
abbrev main_v74 : Ref sig .tc := ⟨.hbm, 99, rfl⟩
abbrev main_cst_5 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_6 : Ref sig .tc := ⟨.hbm, 106, rfl⟩
abbrev main_v80 : Ref sig .tc := ⟨.hbm, 107, rfl⟩
abbrev main_cst_7 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_8 : Ref sig .tc := ⟨.hbm, 112, rfl⟩
abbrev main_call2_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_call3_cst : Ref sig .tc := ⟨.hbm, 171, rfl⟩
abbrev main_call3_v0 : Ref sig .tc := ⟨.hbm, 172, rfl⟩
abbrev main_v141 : Ref sig .tc := ⟨.hbm, 173, rfl⟩
abbrev main_cst_9 : Ref sig .tc := ⟨.hbm, 174, rfl⟩
abbrev main_v142 : Ref sig .tc := ⟨.hbm, 175, rfl⟩
abbrev main_cst_10 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_11 : Ref sig .tc := ⟨.hbm, 185, rfl⟩
abbrev main_v151 : Ref sig .tc := ⟨.hbm, 186, rfl⟩
abbrev main_v152 : Ref sig .tc := ⟨.hbm, 187, rfl⟩
abbrev main_cst_12 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_c_13 : Ref sig .tc := ⟨.hbm, 199, rfl⟩
abbrev main_call4_v0 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_call5_cst : Ref sig .tc := ⟨.hbm, 258, rfl⟩
abbrev main_call5_v0 : Ref sig .tc := ⟨.hbm, 259, rfl⟩
abbrev main_v220 : Ref sig .tc := ⟨.hbm, 260, rfl⟩
abbrev main_cst_14 : Ref sig .tc := ⟨.hbm, 261, rfl⟩
abbrev main_v221 : Ref sig .tc := ⟨.hbm, 262, rfl⟩
abbrev main_cst_15 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_cst_16 : Ref sig .tc := ⟨.hbm, 272, rfl⟩
abbrev main_v230 : Ref sig .tc := ⟨.hbm, 273, rfl⟩
abbrev main_v231 : Ref sig .tc := ⟨.hbm, 274, rfl⟩
abbrev main_cst_17 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_call6_cst : Ref sig .tc := ⟨.hbm, 288, rfl⟩
abbrev main_call6_v0 : Ref sig .tc := ⟨.hbm, 289, rfl⟩
abbrev main_call6_cst_0 : Ref sig .tc := ⟨.hbm, 290, rfl⟩
abbrev main_call6_v1 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_call6_v5 : Ref sig .tc := ⟨.hbm, 295, rfl⟩
abbrev main_call6_v6 : Ref sig .tc := ⟨.hbm, 296, rfl⟩
abbrev main_call6_cst_1 : Ref sig .tc := ⟨.hbm, 297, rfl⟩
abbrev main_call6_v7 : Ref sig .tc := ⟨.hbm, 298, rfl⟩
abbrev main_call6_v8 : Ref sig .tc := ⟨.hbm, 299, rfl⟩
abbrev main_call6_v9 : Ref sig .tc := ⟨.hbm, 300, rfl⟩
abbrev main_call6_v10 : Ref sig .tc := ⟨.hbm, 301, rfl⟩
abbrev main_v244 : Ref sig .tc := ⟨.hbm, 302, rfl⟩
abbrev main_v245 : Ref sig .tc := ⟨.hbm, 303, rfl⟩
abbrev main_call7_c : Ref sig .tc := ⟨.hbm, 304, rfl⟩
abbrev main_call7_v0 : Ref sig .tc := ⟨.hbm, 305, rfl⟩
abbrev main_call7_v1 : Ref sig .tc := ⟨.hbm, 306, rfl⟩
abbrev main_call7_c_0 : Ref sig .tc := ⟨.hbm, 307, rfl⟩
abbrev main_call7_v2 : Ref sig .tc := ⟨.hbm, 308, rfl⟩
abbrev main_call7_v3 : Ref sig .tc := ⟨.hbm, 309, rfl⟩
abbrev main_call7_v4 : Ref sig .tc := ⟨.hbm, 310, rfl⟩
abbrev main_call7_v5 : Ref sig .tc := ⟨.hbm, 311, rfl⟩
abbrev main_call7_c_1 : Ref sig .tc := ⟨.hbm, 312, rfl⟩
abbrev main_call7_c_2 : Ref sig .tc := ⟨.hbm, 313, rfl⟩
abbrev main_call7_v6 : Ref sig .tc := ⟨.hbm, 314, rfl⟩
abbrev main_call7_v7 : Ref sig .tc := ⟨.hbm, 315, rfl⟩
abbrev main_call7_v8 : Ref sig .tc := ⟨.hbm, 316, rfl⟩
abbrev main_call7_v9 : Ref sig .tc := ⟨.hbm, 317, rfl⟩
abbrev main_call7_v10 : Ref sig .tc := ⟨.hbm, 318, rfl⟩
abbrev main_call7_v11 : Ref sig .tc := ⟨.hbm, 319, rfl⟩
abbrev main_call7_c_3 : Ref sig .tc := ⟨.hbm, 320, rfl⟩
abbrev main_call7_v12 : Ref sig .tc := ⟨.hbm, 321, rfl⟩
abbrev main_call7_v13 : Ref sig .tc := ⟨.hbm, 322, rfl⟩
abbrev main_call7_cst : Ref sig .tc := ⟨.hbm, 323, rfl⟩
abbrev main_call7_v14 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_cst_18 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_cst_19 : Ref sig .tc := ⟨.hbm, 337, rfl⟩
abbrev main_v257 : Ref sig .tc := ⟨.hbm, 338, rfl⟩
abbrev main_v258 : Ref sig .tc := ⟨.hbm, 339, rfl⟩
abbrev main_cst_20 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_21 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_cst_22 : Ref sig .tc := ⟨.hbm, 351, rfl⟩
abbrev main_v268 : Ref sig .tc := ⟨.hbm, 352, rfl⟩
abbrev main_cst_23 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_cst_24 : Ref sig .tc := ⟨.hbm, 357, rfl⟩
abbrev main_cst_25 : Ref sig .tc := ⟨.hbm, 358, rfl⟩
abbrev main_call9_v0 : Ref sig .tc := ⟨.hbm, 359, rfl⟩
abbrev main_call9_v1 : Ref sig .tc := ⟨.hbm, 360, rfl⟩
abbrev main_call9_v2 : Ref sig .tc := ⟨.hbm, 361, rfl⟩
abbrev main_call9_v3 : Ref sig .tc := ⟨.hbm, 362, rfl⟩
abbrev main_call9_v4 : Ref sig .tc := ⟨.hbm, 363, rfl⟩
abbrev main_v272 : Ref sig .tc := ⟨.hbm, 364, rfl⟩
abbrev main_v273 : Ref sig .tc := ⟨.hbm, 365, rfl⟩
abbrev main_cst_26 : Ref sig .tc := ⟨.hbm, 366, rfl⟩
abbrev main_cst_27 : Ref sig .tc := ⟨.hbm, 367, rfl⟩
abbrev main_call10_v0 : Ref sig .tc := ⟨.hbm, 368, rfl⟩
abbrev main_call10_v1 : Ref sig .tc := ⟨.hbm, 369, rfl⟩
abbrev main_call10_v2 : Ref sig .tc := ⟨.hbm, 370, rfl⟩
abbrev main_call10_v3 : Ref sig .tc := ⟨.hbm, 371, rfl⟩
abbrev main_call10_v4 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_cst_28 : Ref sig .tc := ⟨.hbm, 377, rfl⟩
abbrev main_v278 : Ref sig .tc := ⟨.hbm, 378, rfl⟩
abbrev main_v279 : Ref sig .tc := ⟨.hbm, 379, rfl⟩
abbrev main_cst_29 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_cst_30 : Ref sig .tc := ⟨.hbm, 386, rfl⟩
abbrev main_v285 : Ref sig .tc := ⟨.hbm, 387, rfl⟩
abbrev main_v286 : Ref sig .tc := ⟨.hbm, 388, rfl⟩
abbrev main_cst_31 : Ref sig .tc := ⟨.hbm, 389, rfl⟩
abbrev main_v287 : Ref sig .tc := ⟨.hbm, 390, rfl⟩
abbrev main_cst_32 : Ref sig .tc := ⟨.hbm, 391, rfl⟩
abbrev main_v288 : Ref sig .tc := ⟨.hbm, 392, rfl⟩
abbrev main_v289 : Ref sig .tc := ⟨.hbm, 393, rfl⟩
abbrev main_cst_33 : Ref sig .tc := ⟨.hbm, 394, rfl⟩
abbrev main_v290 : Ref sig .tc := ⟨.hbm, 395, rfl⟩
abbrev main_cst_34 : Ref sig .tc := ⟨.hbm, 396, rfl⟩
abbrev main_v291 : Ref sig .tc := ⟨.hbm, 397, rfl⟩
abbrev main_v292 : Ref sig .tc := ⟨.hbm, 398, rfl⟩
abbrev main_cst_35 : Ref sig .tc := ⟨.hbm, 399, rfl⟩
abbrev main_v293 : Ref sig .tc := ⟨.hbm, 400, rfl⟩
abbrev main_v294 : Ref sig .tc := ⟨.hbm, 401, rfl⟩

abbrev nD : Nat := 1
abbrev τ : Topo := Topo.v7x

variable {F : FTy → Type} [FloatOps F]
-- ==== Proof.KI.R0.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! The matching call: its runs, what its outputs hold after each grid point, its proof data and the body's obligation. -/

variable (m : (c : Dev nD) → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (m c (Proc.devRef .tc (Pipeline.arrRef spec0 w)))

/-- The condition of the body's `scf.if` 0 from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-- One staging buffer of output window 2, through which its contents are stated (the choice does not matter). -/
abbrev VO0_2 : View sig .tc .vmem S1x1050x16 .f32 := (Memref.whole cc0_stg2_0 : Memref sig .tc .vmem S1x1050x16 .f32).view
/-- One staging buffer of output window 3, through which its contents are stated (the choice does not matter). -/
abbrev VO0_3 : View sig .tc .smem S1x1 .f32 := (Memref.whole cc0_stg3_0 : Memref sig .tc .smem S1x1 .f32).view
/-- Each window's current staging memref at point `t`, and its wholeness. -/
abbrev ms0_0 (t : Fin cfg0.N) : Memref sig .tc .vmem S1x1050x5 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1050x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)

set_option maxHeartbeats 1000000 in
/-- One run of the body at the first grid point: the inputs as they were, the stores found here in the two outputs. -/
noncomputable def runA (c : Dev nD) (i : grid0.Coords) (arg1 : Memref sig .tc .vmem S1x1050x5 .f32) (harg1 : arg1.IsWhole) (arg2 : Memref sig .tc .vmem S1x5x20 .f32) (harg2 : arg2.IsWhole) (arg3 : Memref sig .tc .vmem S1x1050x16 .f32) (harg3 : arg3.IsWhole) (arg4 : Memref sig .tc .smem S1x1 .f32) (harg4 : arg4.IsWhole) (hc0 : cond0_0 i)
    (x0 : Vec F S1x1050x5 .f32) (x1 : Vec F S1x5x20 .f32) :
    Σ' (L2 : List (View.Piece (Elt F) S1x1050x16 .f32)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__match_kernel i arg1 harg1 arg2 harg2 arg3 harg3 arg4 harg4) K } := by
  refine ⟨?_, ?_, fun E K => ?run⟩
  case run =>
    simp only [cc0__match_kernel_eq_skeleton]; unfold cc0__match_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- One run of the body at a later grid point, the counter starting from what the point before left. -/
noncomputable def runB (c : Dev nD) (i : grid0.Coords) (arg1 : Memref sig .tc .vmem S1x1050x5 .f32) (harg1 : arg1.IsWhole) (arg2 : Memref sig .tc .vmem S1x5x20 .f32) (harg2 : arg2.IsWhole) (arg3 : Memref sig .tc .vmem S1x1050x16 .f32) (harg3 : arg3.IsWhole) (arg4 : Memref sig .tc .smem S1x1 .f32) (harg4 : arg4.IsWhole) (hc0 : ¬cond0_0 i)
    (x0 : Vec F S1x1050x5 .f32) (x1 : Vec F S1x5x20 .f32) (xo3 : Vec F S1x1 .f32) :
    Σ' (L2 : List (View.Piece (Elt F) S1x1050x16 .f32)), { L3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__match_kernel i arg1 harg1 arg2 harg2 arg3 harg3 arg4 harg4) K } := by
  refine ⟨?_, ?_, fun E K => ?run⟩
  case run =>
    simp only [cc0__match_kernel_eq_skeleton]; unfold cc0__match_kernel_skel
    simp only [k0_part1_eq_skeleton, k0_part2_eq_skeleton]
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- The two outputs' blocks, as one state. -/
abbrev St (F : FTy → Type) : Type := Vec F S1x1050x16 .f32 × Vec F S1x1 .f32

/-- The first point's run, on the point's memrefs and blocks. -/
abbrev RA (c : Dev nD) (t : Fin cfg0.N) (h : t.val % 4 = 0) :=
  runA c (grid0.coords t) (ms0_0 t) (hs0_0 t) (ms0_1 t) (hs0_1 t) (ms0_2 t) (hs0_2 t) (ms0_3 t) (hs0_3 t) ((hcond0_0 t).mpr h) (iblk m c 0 t) (iblk m c 1 t)
/-- A later point's run, over the state `p` the point before left. -/
abbrev RB (c : Dev nD) (t : Fin cfg0.N) (h : ¬t.val % 4 = 0) (p : St F) :=
  runB c (grid0.coords t) (ms0_0 t) (hs0_0 t) (ms0_1 t) (hs0_1 t) (ms0_2 t) (hs0_2 t) (ms0_3 t) (hs0_3 t) (fun h' => h ((hcond0_0 t).mp h')) (iblk m c 0 t) (iblk m c 1 t) p.2

theorem coverA_2 (c : Dev nD) (t : Fin cfg0.N) (h : t.val % 4 = 0) (y : S1x1050x16.Idx) : ∃ pc ∈ (RA m c t h).1, y ∈ pc.1.set :=
  View.cover_of_tiledL (RA m c t h).1 S1x1050x16.size (by sl_kernel_rfl) y
theorem coverA_3 (c : Dev nD) (t : Fin cfg0.N) (h : t.val % 4 = 0) (y : S1x1.Idx) : ∃ pc ∈ (RA m c t h).2.1, y ∈ pc.1.set :=
  View.cover_of_tiledL (RA m c t h).2.1 S1x1.size (by sl_kernel_rfl) y
theorem coverB_2 (c : Dev nD) (t : Fin cfg0.N) (h : ¬t.val % 4 = 0) (p : St F) (y : S1x1050x16.Idx) : ∃ pc ∈ (RB m c t h p).1, y ∈ pc.1.set :=
  View.cover_of_tiledL (RB m c t h p).1 S1x1050x16.size (by sl_kernel_rfl) y
theorem coverB_3 (c : Dev nD) (t : Fin cfg0.N) (h : ¬t.val % 4 = 0) (p : St F) (y : S1x1.Idx) : ∃ pc ∈ (RB m c t h p).2.1, y ∈ pc.1.set :=
  View.cover_of_tiledL (RB m c t h p).2.1 S1x1.size (by sl_kernel_rfl) y

/-- The state the first point leaves: its stores read back. -/
def stA (c : Dev nD) (t : Fin cfg0.N) (h : t.val % 4 = 0) : St F :=
  (VO0_2.read (Elt F) (VO0_2.writes (Elt F) VO0_2.junk (RA m c t h).1), VO0_3.read (Elt F) (VO0_3.writes (Elt F) VO0_3.junk (RA m c t h).2.1))
/-- The state a later point leaves over `p`. -/
def stB (c : Dev nD) (t : Fin cfg0.N) (h : ¬t.val % 4 = 0) (p : St F) : St F :=
  (VO0_2.read (Elt F) (VO0_2.writes (Elt F) VO0_2.junk (RB m c t h p).1), VO0_3.read (Elt F) (VO0_3.writes (Elt F) VO0_3.junk (RB m c t h p).2.1))

/-- What the two outputs' buffers hold after grid point `n`. -/
def outsAt (c : Dev nD) : (n : ℕ) → n < cfg0.N → St F
  | 0, hn => stA m c ⟨0, hn⟩ (Nat.zero_mod _)
  | n + 1, hn => if h : (n + 1) % 4 = 0 then stA m c ⟨n + 1, hn⟩ h else stB m c ⟨n + 1, hn⟩ h (outsAt c n (Nat.lt_of_succ_lt hn))

theorem outsAt_A (c : Dev nD) (t : Fin cfg0.N) (h : t.val % 4 = 0) : outsAt m c t.val t.isLt = stA m c t h := by
  obtain ⟨n, hn⟩ := t
  cases n with
  | zero => exact rfl
  | succ n => exact dif_pos h

theorem outsAt_B (c : Dev nD) (t : Fin cfg0.N) (h : ¬t.val % 4 = 0) :
    outsAt m c t.val t.isLt = stB m c t h (outsAt m c (t.val - 1) (Nat.lt_of_le_of_lt (Nat.sub_le _ _) t.isLt)) := by
  obtain ⟨n, hn⟩ := t
  cases n with
  | zero => exact absurd (Nat.zero_mod _) h
  | succ n => exact dif_neg h

/-- The call's proof data: the arrays as found; after each point the inputs' buffers at their blocks, the outputs' at
    `outsAt`; nothing owed; full shares. -/
def dat (c : Dev nD) : Dat τ (Elt F) Unit ℕ (UR sig nD τ) ℕ cfg0 c where
  A w := m c (Proc.devRef .tc (Pipeline.arrRef spec0 w))
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dat m c).A w = m c (Proc.devRef .tc (Pipeline.arrRef spec0 w)) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = (outsAt m c t.val t.isLt).1 := by dsimp only [dat]
theorem after_3 (c : Dev nD) (t : Fin cfg0.N) : (dat m c).after 3 t = (outsAt m c t.val t.isLt).2 := by dsimp only [dat]
theorem before_0 (c : Dev nD) (t) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_3_B (c : Dev nD) (t : Fin cfg0.N) (h0 : ¬t.val % 4 = 0) (d) :
    (dat m c).before 3 t d = (outsAt m c (t.val - 1) (Nat.lt_of_le_of_lt (Nat.sub_le _ _) t.isLt)).2 := by
  have hN : t.val < 4 := lt_of_lt_of_eq t.isLt (show cfg0.N = 4 from N_0)
  rw [Dat.before_out_kept _ 3 rfl t (by omega) (Bool.eq_false_iff.mpr fun h => by have := (flush0_3 _).mp h; dsimp only at this; omega)
    (fun _ => rfl) (fun _ _ => rfl)]
  dsimp only [dat]

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d)))

/-- and what it returns. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t))

set_option maxHeartbeats 800000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat m c).Φ t.succ = (dat m c).Φ t.castSucc from rfl,
    show (dat m c).owesAt () t.succ = (dat m c).owesAt () t.castSucc from rfl,
    after_0, after_1, after_2, after_3]
  by_cases h0 : t.val % 4 = 0
  · rw [outsAt_A m c t h0]
    unfold stA; (try dsimp only)
    iintro ⟨HΦ, Ho, ⟨%d0, H0⟩, ⟨%d1, H1⟩, ⟨%d2, H2⟩, ⟨%d3, H3⟩⟩
    iapply ((RA m c t h0).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 m c t h0)
    unfold owns; iexists _; isplitr
    swap; · iexact H3
    ipureintro; exact View.read_writes_of_cover _ _ _ _ _ (coverA_3 m c t h0)
  · rw [outsAt_B m c t h0]
    simp only [before_3_B m c t h0]
    unfold stB; (try dsimp only)
    iintro ⟨HΦ, Ho, ⟨%d0, H0⟩, ⟨%d1, H1⟩, ⟨%d2, H2⟩, ⟨%d3, H3⟩⟩
    iapply ((RB m c t h0 _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB_2 m c t h0 _)
    unfold owns; iexists _; isplitr
    swap; · iexact H3
    ipureintro; exact View.read_writes_of_cover _ _ _ _ _ (coverB_3 m c t h0 _)

theorem defs₀_row (t : Fin cfg0.N) : defs₀ (F := F) .tc cfg0.body (cfg0.bodyArgs t (cfg0.slots t)) = bodyAt0 t := by
  unfold defs₀; rw [Defs.onTc_tc]

/-- The body's obligation at every grid point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

end Cert.KernelIdeal.R0

end
-- ==== Proof.KI.R1Base.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! The discriminator call: its branch conditions, the memrefs its body is given, and the region invariant. -/

variable (m : (c : Dev nD) → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (m c (Proc.devRef .tc (Pipeline.arrRef spec1 w)))

/-- The condition of the body's `scf.if` 0 from the grid coordinates. -/
abbrev cond0_0 (i : grid1.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg1.N, cond0_0 (grid1.coords t) ↔ t.val % 75 = 0 :=
  (fun t => by
    have ht : t.val < 75 := Nat.lt_of_lt_of_eq t.isLt N_1
    have e0 : (grid1.coords t 0).val = t.val / 1 % 75 := Pipeline.Grid.coords_val t 0 (by decide) rfl
    simp only [cond0_0, e0]
    word_cmp
   : ∀ t : Fin grid1.N, cond0_0 (grid1.coords t) ↔ t.val % 75 = 0)

/-- The condition of the body's `scf.if` 1 from the grid coordinates. -/
abbrev cond0_1 (i : grid1.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg1.N, cond0_1 (grid1.coords t) ↔ t.val % 75 = 0 :=
  (fun t => by
    have ht : t.val < 75 := Nat.lt_of_lt_of_eq t.isLt N_1
    have e0 : (grid1.coords t 0).val = t.val / 1 % 75 := Pipeline.Grid.coords_val t 0 (by decide) rfl
    simp only [cond0_1, e0]
    word_cmp
   : ∀ t : Fin grid1.N, cond0_1 (grid1.coords t) ↔ t.val % 75 = 0)

/-- One staging buffer of output window 8, through which its contents are stated (the choice does not matter). -/
abbrev VO0_8 : View sig .tc .vmem S1x4 .f32 := (Memref.whole cc1_stg8_0 : Memref sig .tc .vmem S1x4 .f32).view
/-- Each window's current staging memref at point `t`, and its wholeness. -/
abbrev ms0_0 (t : Fin cfg1.N) : Memref sig .tc .vmem S64x56x64 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S64x56x64 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S56x16 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S576x64 .bf16 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x64 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S64x26 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S1x26 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S112x6272 .bf16 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S1x4 .f32 := win1_8.stage (cfg1.slots t 8)
abbrev hs0_8 (t : Fin cfg1.N) : (ms0_8 t).IsWhole := hstage1_8 ((cfg1.slots t 8).cast nbuf1_8)
/-- The scratch operands: whole scoped buffers of the kernel's own, passed beside the windows. -/
abbrev scM0_0 : Memref sig .tc .vmem S4608x64 .bf16 := Memref.whole cc1_scratch0
abbrev scM0_1 : Memref sig .tc .vmem S4608x64 .bf16 := Memref.whole cc1_scratch1
/-- The scratch `arg10` the kernel carries between points, as a view: what it holds is stated through it. -/
abbrev VS0_0 : View sig .tc .vmem S4608x64 .bf16 := scM0_0.view
/-- The scratch `arg11` the kernel carries between points, as a view: what it holds is stated through it. -/
abbrev VS0_1 : View sig .tc .vmem S4608x64 .bf16 := scM0_1.view

/-- The scoped buffers of the other call, at any contents, and the generator register at some state: what the
    body never touches. -/
def rest (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f))
    ∗ (∃ r, prngReg c r))

/-- What the launch hands the region is the two scratch buffers at anything beside `rest`. -/
theorem PhiA_in (c : Dev nD) :
    (Pipeline.ΦA spec1 c : sProp 𝕄)
      ⊢ iprop(iprop((∃ d, owns (c : Thread nD τ) scM0_0 fullShare d) ∗ (∃ d, owns (c : Thread nD τ) scM0_1 fullShare d)) ∗ rest c) := by
  unfold Pipeline.ΦA rest; rw [scopedRest1_eq]; simp only [scM0_0, scM0_1, owns_whole]
  iintro ⟨⟨H0, H1, H2, H3, H4, H5, HS0, HS1, H6⟩, Hp⟩
  isplitl [HS0 HS1]
  · isplitl [HS0]; · iexact HS0
    iexact HS1
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact Hp

/-- And conversely. -/
theorem PhiA_out (c : Dev nD) :
    iprop(iprop((∃ d, owns (c : Thread nD τ) scM0_0 fullShare d) ∗ (∃ d, owns (c : Thread nD τ) scM0_1 fullShare d)) ∗ rest c)
      ⊢ (Pipeline.ΦA spec1 c : sProp 𝕄) := by
  unfold Pipeline.ΦA rest; rw [scopedRest1_eq]; simp only [scM0_0, scM0_1, owns_whole]
  iintro ⟨⟨HS0, HS1⟩, ⟨H0, H1, H2, H3, H4, H5, H6⟩, Hp⟩
  isplitl [H0 H1 H2 H3 H4 H5 H6 HS0 HS1]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact H6
  iexact Hp

end Cert.KernelIdeal.R1

end
-- ==== Proof.KI.R1A.lean ====
module

public import proofs.«01_k».proof.Proof.KI.R1Base

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One run of the body at the first grid point: from whole memrefs holding the inputs, the body ends with the inputs as
    they were and with the stores found here written into the accumulator and the two scratch buffers. -/
noncomputable def runA (c : Dev nD) (i : grid1.Coords) (arg1 : Memref sig .tc .vmem S64x56x64 .bf16) (harg1 : arg1.IsWhole) (arg2 : Memref sig .tc .vmem S64x56x64 .bf16) (harg2 : arg2.IsWhole) (arg3 : Memref sig .tc .vmem S56x16 .f32) (harg3 : arg3.IsWhole) (arg4 : Memref sig .tc .vmem S576x64 .bf16) (harg4 : arg4.IsWhole) (arg5 : Memref sig .tc .vmem S1x64 .f32) (harg5 : arg5.IsWhole) (arg6 : Memref sig .tc .vmem S64x26 .f32) (harg6 : arg6.IsWhole) (arg7 : Memref sig .tc .vmem S1x26 .f32) (harg7 : arg7.IsWhole) (arg8 : Memref sig .tc .vmem S112x6272 .bf16) (harg8 : arg8.IsWhole) (arg9 : Memref sig .tc .vmem S1x4 .f32) (harg9 : arg9.IsWhole) (arg10 : Memref sig .tc .vmem S4608x64 .bf16) (harg10 : arg10.IsWhole) (arg11 : Memref sig .tc .vmem S4608x64 .bf16) (harg11 : arg11.IsWhole) (hc0 : cond0_0 i) (hc1 : cond0_1 i)
    (x0 : Vec F S64x56x64 .bf16) (x1 : Vec F S64x56x64 .bf16) (x2 : Vec F S56x16 .f32) (x3 : Vec F S576x64 .bf16) (x4 : Vec F S1x64 .f32) (x5 : Vec F S64x26 .f32) (x6 : Vec F S1x26 .f32) (x7 : Vec F S112x6272 .bf16) :
    Σ' (L8 : List (View.Piece (Elt F) S1x4 .f32)), Σ' (LS0 : List (View.Piece (Elt F) S4608x64 .bf16)), { LS1 : List (View.Piece (Elt F) S4608x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__disc_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__disc_kernel_eq_skeleton]; unfold cc1__disc_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.R1

end
-- ==== Proof.KI.R1B.lean ====
module

public import proofs.«01_k».proof.Proof.KI.R1Base

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- One run of the body at a later grid point: the same, the accumulator and the scratch starting from what the point
    before left. -/
noncomputable def runB (c : Dev nD) (i : grid1.Coords) (arg1 : Memref sig .tc .vmem S64x56x64 .bf16) (harg1 : arg1.IsWhole) (arg2 : Memref sig .tc .vmem S64x56x64 .bf16) (harg2 : arg2.IsWhole) (arg3 : Memref sig .tc .vmem S56x16 .f32) (harg3 : arg3.IsWhole) (arg4 : Memref sig .tc .vmem S576x64 .bf16) (harg4 : arg4.IsWhole) (arg5 : Memref sig .tc .vmem S1x64 .f32) (harg5 : arg5.IsWhole) (arg6 : Memref sig .tc .vmem S64x26 .f32) (harg6 : arg6.IsWhole) (arg7 : Memref sig .tc .vmem S1x26 .f32) (harg7 : arg7.IsWhole) (arg8 : Memref sig .tc .vmem S112x6272 .bf16) (harg8 : arg8.IsWhole) (arg9 : Memref sig .tc .vmem S1x4 .f32) (harg9 : arg9.IsWhole) (arg10 : Memref sig .tc .vmem S4608x64 .bf16) (harg10 : arg10.IsWhole) (arg11 : Memref sig .tc .vmem S4608x64 .bf16) (harg11 : arg11.IsWhole) (hc0 : ¬cond0_0 i) (hc1 : ¬cond0_1 i)
    (x0 : Vec F S64x56x64 .bf16) (x1 : Vec F S64x56x64 .bf16) (x2 : Vec F S56x16 .f32) (x3 : Vec F S576x64 .bf16) (x4 : Vec F S1x64 .f32) (x5 : Vec F S64x26 .f32) (x6 : Vec F S1x26 .f32) (x7 : Vec F S112x6272 .bf16) (xo8 : Vec F S1x4 .f32) (xs0 : Vec F S4608x64 .bf16) (xs1 : Vec F S4608x64 .bf16) :
    Σ' (L8 : List (View.Piece (Elt F) S1x4 .f32)), Σ' (LS0 : List (View.Piece (Elt F) S4608x64 .bf16)), { LS1 : List (View.Piece (Elt F) S4608x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1)) -∗ K ⟨⟩))
          ⊢ wp frame (wpE (defs₀ (F := F)) Variants.none c none) E (cc1__disc_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__disc_kernel_eq_skeleton]; unfold cc1__disc_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexact HS0
    iexact HS1

end Cert.KernelIdeal.R1

end
-- ==== Proof.KI.R1.lean ====
module

public import proofs.«01_k».proof.Proof.KI.R1A
public import proofs.«01_k».proof.Proof.KI.R1B

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (c : Dev nD) → Valuation τ sig (Elt F))

/-! The discriminator call: what its buffers hold after each grid point, its proof data and the body's obligation. -/

/-- The accumulator block and the two scratch buffers, as one state. -/
abbrev St (F : FTy → Type) : Type := Vec F S1x4 .f32 × Vec F S4608x64 .bf16 × Vec F S4608x64 .bf16

/-- The first point's run, on the point's memrefs and blocks. -/
abbrev RA (c : Dev nD) (t : Fin cfg1.N) (h : t.val % 75 = 0) :=
  runA c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h) ((hcond0_1 t).mpr h) (iblk m c 0 t) (iblk m c 1 t) (iblk m c 2 t) (iblk m c 3 t) (iblk m c 4 t) (iblk m c 5 t) (iblk m c 6 t) (iblk m c 7 t)
/-- A later point's run, over the state `p` the point before left. -/
abbrev RB (c : Dev nD) (t : Fin cfg1.N) (h : ¬t.val % 75 = 0) (p : St F) :=
  runB c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h' => h ((hcond0_0 t).mp h')) (fun h' => h ((hcond0_1 t).mp h')) (iblk m c 0 t) (iblk m c 1 t) (iblk m c 2 t) (iblk m c 3 t) (iblk m c 4 t) (iblk m c 5 t) (iblk m c 6 t) (iblk m c 7 t) p.1 p.2.1 p.2.2

theorem coverA_8 (c : Dev nD) (t : Fin cfg1.N) (h : t.val % 75 = 0) (y : S1x4.Idx) : ∃ pc ∈ (RA m c t h).1, y ∈ pc.1.set :=
  View.cover_of_tiledL (RA m c t h).1 S1x4.size (by sl_kernel_rfl) y
theorem scoverA_0 (c : Dev nD) (t : Fin cfg1.N) (h : t.val % 75 = 0) (y : S4608x64.Idx) : ∃ pc ∈ (RA m c t h).2.1, y ∈ pc.1.set :=
  View.cover_of_tiledBy (RA m c t h).2.1 ![512, 64] (by sl_kernel_rfl) y
theorem scoverA_1 (c : Dev nD) (t : Fin cfg1.N) (h : t.val % 75 = 0) (y : S4608x64.Idx) : ∃ pc ∈ (RA m c t h).2.2.1, y ∈ pc.1.set :=
  View.cover_of_tiledBy (RA m c t h).2.2.1 ![512, 64] (by sl_kernel_rfl) y
theorem coverB_8 (c : Dev nD) (t : Fin cfg1.N) (h : ¬t.val % 75 = 0) (p : St F) (y : S1x4.Idx) : ∃ pc ∈ (RB m c t h p).1, y ∈ pc.1.set :=
  View.cover_of_tiledL (RB m c t h p).1 S1x4.size (by sl_kernel_rfl) y

/-- The state the first point leaves: its stores read back. -/
def stA (c : Dev nD) (t : Fin cfg1.N) (h : t.val % 75 = 0) : St F :=
  (VO0_8.read (Elt F) (VO0_8.writes (Elt F) VO0_8.junk (RA m c t h).1),
    VS0_0.read (Elt F) (VS0_0.writes (Elt F) VS0_0.junk (RA m c t h).2.1),
    VS0_1.read (Elt F) (VS0_1.writes (Elt F) VS0_1.junk (RA m c t h).2.2.1))
/-- The state a later point leaves over `p`: its stores read back, the scratch's over what was there. -/
def stB (c : Dev nD) (t : Fin cfg1.N) (h : ¬t.val % 75 = 0) (p : St F) : St F :=
  (VO0_8.read (Elt F) (VO0_8.writes (Elt F) VO0_8.junk (RB m c t h p).1),
    VS0_0.read (Elt F) (VS0_0.writes (Elt F) ((Memref.isWhole_whole cc1_scratch0).unread p.2.1) (RB m c t h p).2.1),
    VS0_1.read (Elt F) (VS0_1.writes (Elt F) ((Memref.isWhole_whole cc1_scratch1).unread p.2.2) (RB m c t h p).2.2.1))

/-- What the accumulator and the scratch hold after grid point `n`. -/
def outsAt (c : Dev nD) : (n : ℕ) → n < cfg1.N → St F
  | 0, hn => stA m c ⟨0, hn⟩ (Nat.zero_mod _)
  | n + 1, hn => if h : (n + 1) % 75 = 0 then stA m c ⟨n + 1, hn⟩ h else stB m c ⟨n + 1, hn⟩ h (outsAt c n (Nat.lt_of_succ_lt hn))

theorem outsAt_A (c : Dev nD) (t : Fin cfg1.N) (h : t.val % 75 = 0) : outsAt m c t.val t.isLt = stA m c t h := by
  obtain ⟨n, hn⟩ := t
  cases n with
  | zero => exact rfl
  | succ n => exact dif_pos h

theorem outsAt_B (c : Dev nD) (t : Fin cfg1.N) (h : ¬t.val % 75 = 0) :
    outsAt m c t.val t.isLt = stB m c t h (outsAt m c (t.val - 1) (Nat.lt_of_le_of_lt (Nat.sub_le _ _) t.isLt)) := by
  obtain ⟨n, hn⟩ := t
  cases n with
  | zero => exact absurd (Nat.zero_mod _) h
  | succ n => exact dif_neg h

/-- The invariant before position `n`: before the first point what the launch hands over; afterwards the scratch at what
    the point before left, beside `rest`. -/
def PhiS (c : Dev nD) : (n : ℕ) → n ≤ cfg1.N → sProp 𝕄
  | 0, _ => Pipeline.ΦA spec1 c
  | n + 1, hn => iprop(iprop(owns (c : Thread nD τ) scM0_0 fullShare ((outsAt m c n hn).2.1) ∗ owns (c : Thread nD τ) scM0_1 fullShare ((outsAt m c n hn).2.2)) ∗ rest c)

theorem PhiS_zero (c : Dev nD) (n : ℕ) (h : n ≤ cfg1.N) (hz : n = 0) : PhiS m c n h = Pipeline.ΦA spec1 c := by
  subst hz; rfl
theorem PhiS_succ (c : Dev nD) (n : ℕ) (hn : n < cfg1.N) :
    PhiS m c (n + 1) hn = iprop(iprop(owns (c : Thread nD τ) scM0_0 fullShare ((outsAt m c n hn).2.1) ∗ owns (c : Thread nD τ) scM0_1 fullShare ((outsAt m c n hn).2.2)) ∗ rest c) := rfl
theorem PhiS_pos (c : Dev nD) (n : ℕ) (h : n ≤ cfg1.N) (hz : n ≠ 0) :
    PhiS m c n h = iprop(iprop(owns (c : Thread nD τ) scM0_0 fullShare ((outsAt m c (n - 1) (by omega)).2.1) ∗ owns (c : Thread nD τ) scM0_1 fullShare ((outsAt m c (n - 1) (by omega)).2.2)) ∗ rest c) := by
  cases n with
  | zero => exact absurd rfl hz
  | succ n => rfl

/-- The call's proof data: the arrays as found; after each point every input's buffer at its block, the accumulator and the
    scratch at `outsAt`; nothing owed; full shares. -/
def dat (c : Dev nD) : Dat τ (Elt F) Unit ℕ (UR sig nD τ) ℕ cfg1 c where
  A w := m c (Proc.devRef .tc (Pipeline.arrRef spec1 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q _ := fullShare
  owed _ := 0

theorem A_eq (c : Dev nD) (w : Fin cfg1.W) : (dat m c).A w = m c (Proc.devRef .tc (Pipeline.arrRef spec1 w)) := by
  dsimp only [dat]
theorem PhiS_castSucc (c : Dev nD) (t : Fin cfg1.N) : (dat m c).Φ t.castSucc = PhiS m c t.val (Nat.le_of_lt t.isLt) := by
  dsimp only [dat]; exact Pipeline.Dat.Φ_castSucc (PhiS m c) t
theorem after_0 (c : Dev nD) (t : Fin cfg1.N) : (dat m c).after 0 t = iblk m c 0 t := by dsimp only [dat]
theorem after_1 (c : Dev nD) (t : Fin cfg1.N) : (dat m c).after 1 t = iblk m c 1 t := by dsimp only [dat]
theorem after_2 (c : Dev nD) (t : Fin cfg1.N) : (dat m c).after 2 t = iblk m c 2 t := by dsimp only [dat]
theorem after_3 (c : Dev nD) (t : Fin cfg1.N) : (dat m c).after 3 t = iblk m c 3 t := by dsimp only [dat]
theorem after_4 (c : Dev nD) (t : Fin cfg1.N) : (dat m c).after 4 t = iblk m c 4 t := by dsimp only [dat]
theorem after_5 (c : Dev nD) (t : Fin cfg1.N) : (dat m c).after 5 t = iblk m c 5 t := by dsimp only [dat]
theorem after_6 (c : Dev nD) (t : Fin cfg1.N) : (dat m c).after 6 t = iblk m c 6 t := by dsimp only [dat]
theorem after_7 (c : Dev nD) (t : Fin cfg1.N) : (dat m c).after 7 t = iblk m c 7 t := by dsimp only [dat]
theorem after_8 (c : Dev nD) (t : Fin cfg1.N) : (dat m c).after 8 t = (outsAt m c t.val t.isLt).1 := by dsimp only [dat]
theorem before_0 (c : Dev nD) (t) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t) (d) : (dat m c).before 5 t d = iblk m c 5 t :=
  ((dat m c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t) (d) : (dat m c).before 6 t d = iblk m c 6 t :=
  ((dat m c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t) (d) : (dat m c).before 7 t d = iblk m c 7 t :=
  ((dat m c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8_B (c : Dev nD) (t : Fin cfg1.N) (h0 : ¬t.val % 75 = 0) (d) :
    (dat m c).before 8 t d = (outsAt m c (t.val - 1) (Nat.lt_of_le_of_lt (Nat.sub_le _ _) t.isLt)).1 := by
  have hN : t.val < 75 := lt_of_lt_of_eq t.isLt (show cfg1.N = 75 from N_1)
  rw [Dat.before_out_kept _ 8 rfl t (by omega) (Bool.eq_false_iff.mpr fun h => by have := (flush1_8 _).mp h; dsimp only at this; omega)
    (fun _ => rfl) (fun _ _ => rfl)]
  dsimp only [dat]

/-- What the body is called with at point `t`, -/
def bodyPre (c : Dev nD) (t : Fin cfg1.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ d, owns (c : Thread nD τ) (ms0_6 t) fullShare ((dat m c).before 6 t d))
    ∗ (∃ d, owns (c : Thread nD τ) (ms0_7 t) fullShare ((dat m c).before 7 t d))
    ∗ (∃ d, owns (c : Thread nD τ) (ms0_8 t) fullShare ((dat m c).before 8 t d)))

/-- and what it returns. -/
def bodyPost (c : Dev nD) (t : Fin cfg1.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ owns (c : Thread nD τ) (ms0_6 t) fullShare ((dat m c).after 6 t)
    ∗ owns (c : Thread nD τ) (ms0_7 t) fullShare ((dat m c).after 7 t)
    ∗ owns (c : Thread nD τ) (ms0_8 t) fullShare ((dat m c).after 8 t))

set_option maxHeartbeats 6400000 in
/-- The body at any point, by the run of its case. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before_0, before_1, before_2, before_3, before_4, before_5, before_6, before_7]
  rw [show (dat m c).owesAt () t.succ = (dat m c).owesAt () t.castSucc from rfl,
    after_0, after_1, after_2, after_3, after_4, after_5, after_6, after_7, after_8]
  rw [show (dat m c).Φ t.succ = PhiS m c (t.val + 1) t.isLt from rfl, PhiS_succ]
  have hN : t.val < 75 := lt_of_lt_of_eq t.isLt (show cfg1.N = 75 from N_1)
  by_cases h0 : t.val % 75 = 0
  · have hz : t.val = 0 := by omega
    rw [PhiS_castSucc m c t, PhiS_zero m c _ _ hz]
    rw [outsAt_A m c t h0]
    unfold stA; (try dsimp only)
    iintro ⟨HA, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HA' := (PhiA_in c) $$ HA
    icases HA' with ⟨⟨HS0, HS1⟩, Hg⟩
    iapply ((RA m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverA_0 m c t h0)
        unfold owns; iexists _; isplitr
        swap; · iexact HS1
        ipureintro; exact View.read_writes_of_cover _ _ _ _ _ (scoverA_1 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA_8 m c t h0)
  · have hz : t.val ≠ 0 := by omega
    rw [PhiS_castSucc m c t, PhiS_pos m c _ _ hz]
    rw [outsAt_B m c t h0]
    simp only [before_8_B m c t h0]
    unfold stB; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((RB m c t h0 _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB_8 m c t h0 _)

theorem defs₀_row (t : Fin cfg1.N) : defs₀ (F := F) .tc cfg1.body (cfg1.bodyArgs t (cfg1.slots t)) = bodyAt1 t := by
  unfold defs₀; rw [Defs.onTc_tc]

/-- The body's obligation at every grid point. -/
theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

/-- What the launch hands the region is the invariant before the first point. -/
theorem hin (c : Dev nD) : Pipeline.ΦA spec1 c ⊢ (dat m c).Φ 0 := by
  rw [show (dat m c).Φ 0 = PhiS m c 0 (Nat.zero_le _) from rfl, PhiS_zero m c 0 _ rfl]
  try exact Idealize.SL.BI.Entails.refl _

/-- After any point but the first the invariant gives it back, -/
theorem Phi_out (c : Dev nD) (t : Fin (cfg1.N + 1)) (ht : t.val ≠ 0) : (dat m c).Φ t ⊢ Pipeline.ΦA spec1 c := by
  rw [show (dat m c).Φ t = PhiS m c t.val (Nat.le_of_lt_succ t.isLt) from rfl, PhiS_pos m c _ _ ht]
  refine .trans (show _ ⊢ _ from ?_) (PhiA_out c)
  iintro ⟨⟨HS0, HS1⟩, Hg⟩
  isplitl [HS0 HS1]
  · isplitl [HS0]
    · iexists _; iexact HS0
    iexists _; iexact HS1
  iexact Hg

/-- and so after the last. -/
theorem hout (c : Dev nD) : (dat m c).Φ (Fin.last cfg1.N) ⊢ Pipeline.ΦA spec1 c :=
  Phi_out m c _ (by rw [Fin.val_last]; have : cfg1.N = 75 := N_1; omega)

end Cert.KernelIdeal.R1

end
-- ==== Proof.KI.Run.lean ====
module

public import proofs.«01_k».proof.Proof.KI.R0
public import proofs.«01_k».proof.Proof.KI.R1
public import proofs.«01_k».proof.Proof.Gen.KernelIdeal.Regions
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The whole program's run: the two calls' records between the host stretches, and what every array holds at the end. -/

open Idealize.ShloMosaic.Pipeline (RegionSeg HostSeg Seg)

variable (m : (ℓ : Loc nD τ sig) → Buf (Elt F) ℓ) (ρ : Dev nD → PrngReg)

/-- What the matching call leaves in each array. -/
def outs0 : Outs (F := F) := fun _ r c => Pipeline.afterRegion (R0.dat (V7 m) c) (V7 m c) (Proc.devRef .tc r)
/-- What each call leaves in each array: the matching call is item 8 of the program, the discriminator item 10. -/
def outs : Outs (F := F) := fun J r c =>
  if J = 8 then outs0 m J r c else Pipeline.afterRegion (R1.dat (V9 m (outs0 m)) c) (V9 m (outs0 m) c) (Proc.devRef .tc r)

theorem V8_outs : V8 m (outs m) = V8 m (outs0 m) := by
  funext c; simp only [V8, outs, if_pos]
theorem V9_outs : V9 m (outs m) = V9 m (outs0 m) := by
  funext c; show StableHlo.after hostOps1 (V8 m (outs m) c) = StableHlo.after hostOps1 (V8 m (outs0 m) c); rw [V8_outs]

/-- Both calls' proof data, from the valuations they are entered at. -/
def pdats (W0 W1 : Dev nD → Valuation τ sig (Elt F)) : (p : Fin 2) → (c : Dev nD) → Dat τ (Elt F) Unit ℕ (UR sig nD τ) ℕ (cfgs p) c
  | ⟨0, _⟩ => fun c => R0.dat W0 c
  | ⟨1, _⟩ => fun c => R1.dat W1 c
  | ⟨_ + 2, h⟩ => absurd h (Nat.not_lt.2 (Nat.le_add_left _ _))

/-- The matching call changes its two results only. -/
theorem after0 (c : Dev nD) (r : Ref sig .tc) :
    Pipeline.afterRegion (R0.dat (V7 m) c) (V7 m c) (Proc.devRef .tc r) = V8 m (outs m) c (Proc.devRef .tc r) := by
  rw [V8_outs]
  by_cases h0 : r = main_v36_0
  · subst h0
    exact (show V8 m (outs0 m) c (Proc.devRef .tc main_v36_0) = outs0 m 8 main_v36_0 c from by
      simp only [V8, Function.update_of_ne (StableHlo.devRef_ne_of_ne (by decide : main_v36_0 ≠ main_v36_1)), Function.update_self]).symm
  by_cases h1 : r = main_v36_1
  · subst h1
    exact (show V8 m (outs0 m) c (Proc.devRef .tc main_v36_1) = outs0 m 8 main_v36_1 c from by
      simp only [V8, Function.update_self]).symm
  rw [V8_of m (outs0 m) c r (by simp [h0, h1])]
  refine Pipeline.afterRegion_keeps (R0.dat (V7 m) c) (V7 m c) winFacts0.arr_inj (R0.A_eq (V7 m) c) r (fun w hw => ?_)
  fin_cases w
  · rfl
  · rfl
  · exact absurd hw.symm h0
  · exact absurd hw.symm h1

/-- The discriminator call changes its one result only. -/
theorem after1 (c : Dev nD) (r : Ref sig .tc) :
    Pipeline.afterRegion (R1.dat (V9 m (outs m)) c) (V9 m (outs m) c) (Proc.devRef .tc r) = V10 m (outs m) c (Proc.devRef .tc r) := by
  by_cases h0 : r = main_v38
  · subst h0
    exact (show V10 m (outs m) c (Proc.devRef .tc main_v38) = Pipeline.afterRegion (R1.dat (V9 m (outs m)) c) (V9 m (outs m) c) (Proc.devRef .tc main_v38) from by
      rw [V9_outs]
      simp only [V10, Function.update_self]
      exact if_neg (by decide)).symm
  rw [V10_of m (outs m) c r (by simp [h0])]
  refine Pipeline.afterRegion_keeps (R1.dat (V9 m (outs m)) c) (V9 m (outs m) c) winFacts1.arr_inj (R1.A_eq (V9 m (outs m)) c) r (fun w hw => ?_)
  fin_cases w
  iterate 8 · rfl
  exact absurd hw.symm h0

/-- Two valuations that agree on every reference hold the same. -/
theorem held_eq (c : Dev nD) {W W' : Valuation τ sig (Elt F)} (h : ∀ r : Ref sig .tc, W (Proc.devRef .tc r) = W' (Proc.devRef .tc r)) :
    (StableHlo.held (c : Thread nD τ) (Pipeline.ucRefs τ sig) W : sProp 𝕄) = StableHlo.held (c : Thread nD τ) (Pipeline.ucRefs τ sig) W' :=
  StableHlo.held_congr (c : Thread nD τ) fun b hb => by
    obtain ⟨r, -, rfl⟩ := Finset.mem_map.mp (Finset.mem_filter.mp hb).1
    exact h r

/-- No core owes another anything; the one level sits at the TensorCores' cells. -/
abbrev L : GSem nD τ sig → Finset Unit := fun g => if g.1.2 = .tc then {()} else ∅
abbrev lv : GSem nD τ sig → Unit → ℕ := fun _ _ => 0
/-- What rides beside the arrays: the core's dues and the generator register. -/
abbrev E (c : Dev nD) : sProp 𝕄 := iprop((∃ W, owes (c : Thread nD τ) (0 : CellTallies nD τ sig Unit) W) ∗ (∃ r, prngReg c r) ∗ BI.emp)

theorem cut (p : Fin 2) : Pipeline.LevelCut (pcfgs (F := F)) adm () L lv p (fun _ => 0) (fun _ => 0) where
  hι _ _ _ := by simp [L]
  hιb _ _ _ := le_rfl
  hD _ _ _ h := absurd h (Nat.lt_irrefl 0)

section Segments
variable (W0 W1 : Dev nD → Valuation τ sig (Elt F))

set_option backward.isDefEq.respectTransparency.types false in
/-- The matching call as a segment of the program. -/
def seg0R : RegionSeg (pcfgs (F := F)) adm (pdats W0 W1) () defs₀ Variants.none L lv 0 :=
  RegionSeg.ofHeldIn (pcfgs (F := F)) adm (pdats W0 W1) () defs₀ Variants.none L lv 0 (fun _ => 0) (Pipeline.ucRefs τ sig)
    (fun c => iprop(∃ r, prngReg c r)) (fun c => iprop(∃ r, prngReg c r)) launch0.toP rfl
    (fun c => (R0.body_obligation W0 c).loose) (fun _ _ => rfl) (fun _ => rfl)
    (fun c => (R0.dat W0 c).share_full fun _ => rfl)
    (fun c => .rfl) (fun c => .rfl) (fun _ => 0) (cut 0) (fun _ => BI.emp) W0 (fun c w => by
      show (R0.dat W0 c).arrAt w 0 = _
      exact R0.A_eq W0 c w)

theorem arrs0 : Pipeline.arrRefs (pcfgs (F := F) 0).spec ⊆ Pipeline.ucRefs τ sig :=
  Pipeline.arrRefs_sub_ucRefs _ (by show ∀ w, (Pipeline.arrRef spec0 w).isScoped = false; decide)
set_option backward.isDefEq.respectTransparency.types false in
/-- It is entered from all the arrays at its valuation, -/
theorem pre0 (c : Dev nD) : iprop(StableHlo.held (c : Thread nD τ) (Pipeline.ucRefs τ sig) (W0 c) ∗ E c) ⊢ (seg0R W0 W1).pre c := by
  unfold seg0R
  refine BI.Entails.trans ?_ (RegionSeg.ofHeldIn_pre arrs0 c)
  exact sep_mono (BI.Entails.refl _) (BI.Entails.refl _)
set_option backward.isDefEq.respectTransparency.types false in
/-- and left with what it makes of them. -/
theorem post0 (c : Dev nD) : (seg0R W0 W1).post c ⊢ iprop(StableHlo.held (c : Thread nD τ) (Pipeline.ucRefs τ sig)
    (Pipeline.afterRegion (cfg := Pipeline.pin (pcfgs (F := F)) adm 0) (pdats W0 W1 0 c) (W0 c)) ∗ E c) := by
  unfold seg0R
  refine BI.Entails.trans (RegionSeg.ofHeldIn_post arrs0 c) ?_
  exact sep_mono (BI.Entails.refl _) (BI.Entails.refl _)

set_option backward.isDefEq.respectTransparency.types false in
/-- The discriminator call as a segment of the program. -/
def seg1R : RegionSeg (pcfgs (F := F)) adm (pdats W0 W1) () defs₀ Variants.none L lv 1 :=
  RegionSeg.ofHeldIn (pcfgs (F := F)) adm (pdats W0 W1) () defs₀ Variants.none L lv 1 (fun _ => 0) (Pipeline.ucRefs τ sig)
    (fun c => iprop(∃ r, prngReg c r)) (fun c => iprop(∃ r, prngReg c r)) launch1.toP rfl
    (fun c => (R1.body_obligation W1 c).loose) (fun _ _ => rfl) (fun _ => rfl)
    (fun c => (R1.dat W1 c).share_full fun _ => rfl)
    (fun c => R1.hin W1 c) (fun c => R1.hout W1 c) (fun _ => 0) (cut 1) (fun _ => BI.emp) W1 (fun c w => by
      show (R1.dat W1 c).arrAt w 0 = _
      exact R1.A_eq W1 c w)

theorem arrs1 : Pipeline.arrRefs (pcfgs (F := F) 1).spec ⊆ Pipeline.ucRefs τ sig :=
  Pipeline.arrRefs_sub_ucRefs _ (by show ∀ w, (Pipeline.arrRef spec1 w).isScoped = false; decide)
set_option backward.isDefEq.respectTransparency.types false in
/-- It is entered from all the arrays at its valuation, -/
theorem pre1 (c : Dev nD) : iprop(StableHlo.held (c : Thread nD τ) (Pipeline.ucRefs τ sig) (W1 c) ∗ E c) ⊢ (seg1R W0 W1).pre c := by
  unfold seg1R
  refine BI.Entails.trans ?_ (RegionSeg.ofHeldIn_pre arrs1 c)
  exact sep_mono (BI.Entails.refl _) (BI.Entails.refl _)
set_option backward.isDefEq.respectTransparency.types false in
/-- and left with what it makes of them. -/
theorem post1 (c : Dev nD) : (seg1R W0 W1).post c ⊢ iprop(StableHlo.held (c : Thread nD τ) (Pipeline.ucRefs τ sig)
    (Pipeline.afterRegion (cfg := Pipeline.pin (pcfgs (F := F)) adm 1) (pdats W0 W1 1 c) (W1 c)) ∗ E c) := by
  unfold seg1R
  refine BI.Entails.trans (RegionSeg.ofHeldIn_post arrs1 c) ?_
  exact sep_mono (BI.Entails.refl _) (BI.Entails.refl _)

end Segments

set_option backward.isDefEq.respectTransparency.types false in
/-- THE RUN. From any memory with zero counters every weakly fair execution of the program terminates, and at the end every
    unscoped array of every core holds what the last valuation says, and every counter is zero. -/
theorem run_cond (outs : Outs (F := F)) (pdats : (p : Fin 2) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (V7 m c) ∗ E c) ⊢ R0.pre c)
    (hpost0 : ∀ c : Dev nD, R0.post c ⊢ iprop(StableHlo.held (c : Thread nD τ) (Pipeline.ucRefs τ sig) (V8 m outs c) ∗ E c))
    (R1 : RegionSeg (pcfgs (F := F)) adm pdats () defs₀ Variants.none L lv 1)
    (hpre1 : ∀ c : Dev nD, iprop(StableHlo.held (c : Thread nD τ) (Pipeline.ucRefs τ sig) (V9 m outs c) ∗ E c) ⊢ R1.pre c)
    (hpost1 : ∀ c : Dev nD, R1.post c ⊢ iprop(StableHlo.held (c : Thread nD τ) (Pipeline.ucRefs τ sig) (V10 m outs c) ∗ E c)) :
    θ_run defs (onTc (τ := τ) (main (F := F))) ⟨m, fun _ => 0, ρ⟩ (fun r =>
      (∀ c : Dev nD, ∀ b : Ref sig .tc, b.isScoped = false → r.2.mem ((c.tc : Thread nD τ).loc b) = V11 m outs c (Proc.devRef .tc b))
      ∧ r.2.sem = fun _ => 0) := by
  refine Pipeline.θ_run_regions_kit_dev_sems (pcfgs (F := F)) adm pdats () cellOf_inj emb₁ defs₀ Variants.none L lv m ρ main
    (segs m outs Variants.none L lv (fun _ => E) () pdats R0 R1)
    (fun c Q => by
      rewrite [main_chain c, Seg.run_eq_chain,
        show (segs m outs Variants.none L lv (fun _ => E) () pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => BI.emp)
    (initOf (Pipeline.cells cfgs cellOf_inj) (Pipeline.launchToks cfgs cellOf_inj))
    (by
      rw [ownU_emb₁, BI.bigSep_emp_const]
      iintro Hu
      imodintro
      isplitl [Hu]; · iexact Hu
      iempintro)
    (T₀ := fun c => iprop(StableHlo.held (c : Thread nD τ) (Pipeline.ucRefs τ sig) (V0 m c) ∗ E c))
    (Tₙ := fun c => StableHlo.held (c : Thread nD τ) (Pipeline.ucRefs τ sig) (V11 m outs c))
    (hch := fun c => ⟨.rfl, .rfl, .rfl, .rfl, .rfl, .rfl, .rfl, hpre0 c, hpost0 c, hpre1 c, hpost1 c,
      sep_mono .rfl (by iintro ⟨H, -, -⟩; iexact H)⟩)
    (hinit := ?_) (QY := fun c s => ∀ b : Ref sig .tc, b.isScoped = false → s.mem ((c.tc : Thread nD τ).loc b) = V11 m outs c (Proc.devRef .tc b))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by
        rw [Bool.not_eq_true]; exact hb⟩)
    · iexact HSI

/-- The run with both calls' records in place. -/
theorem run_all : θ_run defs (onTc (τ := τ) (main (F := F))) ⟨m, fun _ => 0, ρ⟩ (fun r =>
      (∀ c : Dev nD, ∀ b : Ref sig .tc, b.isScoped = false → r.2.mem ((c.tc : Thread nD τ).loc b) = V11 m (outs m) c (Proc.devRef .tc b))
      ∧ r.2.sem = fun _ => 0) :=
  run_cond m ρ (outs m) (pdats (V7 m) (V9 m (outs m)))
    (seg0R (V7 m) (V9 m (outs m))) (pre0 (V7 m) (V9 m (outs m)))
    (fun c => by rw [← held_eq c (after0 m c)]; exact post0 (V7 m) (V9 m (outs m)) c)
    (seg1R (V7 m) (V9 m (outs m))) (pre1 (V7 m) (V9 m (outs m)))
    (fun c => by rw [← held_eq c (after1 m c)]; exact post1 (V7 m) (V9 m (outs m)) c)

/-- THE FRAME: the arguments end as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c main_arg0 rfl).trans (V11_main_arg0 m (outs m) c),
    (h.1 c main_arg1 rfl).trans (V11_main_arg1 m (outs m) c),
    (h.1 c main_arg2 rfl).trans (V11_main_arg2 m (outs m) c),
    (h.1 c main_arg3 rfl).trans (V11_main_arg3 m (outs m) c),
    (h.1 c main_arg4 rfl).trans (V11_main_arg4 m (outs m) c),
    (h.1 c main_arg5 rfl).trans (V11_main_arg5 m (outs m) c),
    (h.1 c main_arg6 rfl).trans (V11_main_arg6 m (outs m) c),
    (h.1 c main_arg7 rfl).trans (V11_main_arg7 m (outs m) c),
    (h.1 c main_arg8 rfl).trans (V11_main_arg8 m (outs m) c),
    (h.1 c main_arg9 rfl).trans (V11_main_arg9 m (outs m) c),
    (h.1 c main_arg10 rfl).trans (V11_main_arg10 m (outs m) c),
    (h.1 c main_arg11 rfl).trans (V11_main_arg11 m (outs m) c)⟩, h.2⟩) (run_all m ρ)

end Cert.KernelIdeal.Run

end
-- ==== Proof.RI.Ops.lean ====
module

public import proofs.«01_k».proof.Proof.Gen.ReferenceIdeal
public import Idealize.ShloMosaic.Lib.StableHlo.Run
public import Idealize.ShloMosaic.Lib.Pipeline.Frame

@[expose] public section

/-! The reference's operations in order, as one list, and that running it is running the list. -/

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 30 of 390 (window `main_part0`). -/
abbrev ops_part0_0 : List (HloOp τ sig (Elt F)) :=
  [ reshape main_arg2 main_v0 (rfl : (.f32 : EltTy) = .f32) shapeCasts_S4x21x50x5_S4x1050x5,
    unary main_v0 main_v1 ((extractStridedSlice S4x1050x4 ![0, 0, 1] · slices_S4x1050x5_S4x1050x4_0_0_1) : (⟨S4x1050x5, .f32⟩ : BufTy).Contents (Elt F) → (⟨S4x1050x4, .f32⟩ : BufTy).Contents (Elt F)),
    unary main_v0 main_v2 ((extractStridedSlice S4x1050x1 ![0, 0, 0] · slices_S4x1050x5_S4x1050x1_0_0_0) : (⟨S4x1050x5, .f32⟩ : BufTy).Contents (Elt F) → (⟨S4x1050x1, .f32⟩ : BufTy).Contents (Elt F)),
    reshape main_v2 main_v3 (rfl : (.f32 : EltTy) = .f32) shapeCasts_S4x1050x1_S4x1050,
    unary main_arg3 main_v4 ((extractStridedSlice S4x20x4 ![0, 0, 0] · slices_S4x20x5_S4x20x4_0_0_0) : (⟨S4x20x5, .f32⟩ : BufTy).Contents (Elt F) → (⟨S4x20x4, .f32⟩ : BufTy).Contents (Elt F)),
    unary main_arg3 main_v5 ((extractStridedSlice S4x20x1 ![0, 0, 4] · slices_S4x20x5_S4x20x1_0_0_4) : (⟨S4x20x5, .f32⟩ : BufTy).Contents (Elt F) → (⟨S4x20x1, .f32⟩ : BufTy).Contents (Elt F)),
    reshape main_v5 main_v6 (rfl : (.f32 : EltTy) = .f32) shapeCasts_S4x20x1_S4x20,
    unary main_v4 main_v7 ((extractStridedSlice S4x20x2 ![0, 0, 2] · slices_S4x20x4_S4x20x2_0_0_2) : (⟨S4x20x4, .f32⟩ : BufTy).Contents (Elt F) → (⟨S4x20x2, .f32⟩ : BufTy).Contents (Elt F)),
    unary main_v7 main_v8 (broadcastInDim S4x20x1x2 ![0, 1, 3] bcast_S4x20x2_S4x20x1x2_0_1_3 : (⟨S4x20x2, .f32⟩ : BufTy).Contents (Elt F) → (⟨S4x20x1x2, .f32⟩ : BufTy).Contents (Elt F)),
    unary main_v1 main_v9 ((extractStridedSlice S4x1050x2 ![0, 0, 2] · slices_S4x1050x4_S4x1050x2_0_0_2) : (⟨S4x1050x4, .f32⟩ : BufTy).Contents (Elt F) → (⟨S4x1050x2, .f32⟩ : BufTy).Contents (Elt F)),
    unary main_v9 main_v10 (broadcastInDim S4x1x1050x2 ![0, 2, 3] bcast_S4x1050x2_S4x1x1050x2_0_2_3 : (⟨S4x1050x2, .f32⟩ : BufTy).Contents (Elt F) → (⟨S4x1x1050x2, .f32⟩ : BufTy).Contents (Elt F)),
    unary main_v8 main_v11 (broadcastInDim S4x20x1050x2 ![0, 1, 2, 3] bcast_S4x20x1x2_S4x20x1050x2_0_1_2_3 : (⟨S4x20x1x2, .f32⟩ : BufTy).Contents (Elt F) → (⟨S4x20x1050x2, .f32⟩ : BufTy).Contents (Elt F)),
    unary main_v10 main_v12 (broadcastInDim S4x20x1050x2 ![0, 1, 2, 3] bcast_S4x1x1050x2_S4x20x1050x2_0_1_2_3 : (⟨S4x1x1050x2, .f32⟩ : BufTy).Contents (Elt F) → (⟨S4x20x1050x2, .f32⟩ : BufTy).Contents (Elt F)),
    binary main_v11 main_v12 main_v13 (minimumf : (⟨S4x20x1050x2, .f32⟩ : BufTy).Contents (Elt F) → (⟨S4x20x1050x2, .f32⟩ : BufTy).Contents (Elt F) → (⟨S4x20x1050x2, .f32⟩ : BufTy).Contents (Elt F)),
    unary main_v4 main_v14 ((extractStridedSlice S4x20x2 ![0, 0, 0] · slices_S4x20x4_S4x20x2_0_0_0) : (⟨S4x20x4, .f32⟩ : BufTy).Contents (Elt F) → (⟨S4x20x2, .f32⟩ : BufTy).Contents (Elt F)),
    unary main_v14 main_v15 (broadcastInDim S4x20x1x2 ![0, 1, 3] bcast_S4x20x2_S4x20x1x2_0_1_3 : (⟨S4x20x2, .f32⟩ : BufTy).Contents (Elt F) → (⟨S4x20x1x2, .f32⟩ : BufTy).Contents (Elt F)),
    unary main_v1 main_v16 ((extractStridedSlice S4x1050x2 ![0, 0, 0] · slices_S4x1050x4_S4x1050x2_0_0_0) : (⟨S4x1050x4, .f32⟩ : BufTy).Contents (Elt F) → (⟨S4x1050x2, .f32⟩ : BufTy).Contents (Elt F)),
    unary main_v16 main_v17 (broadcastInDim S4x1x1050x2 ![0, 2, 3] bcast_S4x1050x2_S4x1x1050x2_0_2_3 : (⟨S4x1050x2, .f32⟩ : BufTy).Contents (Elt F) → (⟨S4x1x1050x2, .f32⟩ : BufTy).Contents (Elt F)),
    unary main_v15 main_v18 (broadcastInDim S4x20x1050x2 ![0, 1, 2, 3] bcast_S4x20x1x2_S4x20x1050x2_0_1_2_3 : (⟨S4x20x1x2, .f32⟩ : BufTy).Contents (Elt F) → (⟨S4x20x1050x2, .f32⟩ : BufTy).Contents (Elt F)),
    unary main_v17 main_v19 (broadcastInDim S4x20x1050x2 ![0, 1, 2, 3] bcast_S4x1x1050x2_S4x20x1050x2_0_1_2_3 : (⟨S4x1x1050x2, .f32⟩ : BufTy).Contents (Elt F) → (⟨S4x20x1050x2, .f32⟩ : BufTy).Contents (Elt F)),
    binary main_v18 main_v19 main_v20 (maximumf : (⟨S4x20x1050x2, .f32⟩ : BufTy).Contents (Elt F) → (⟨S4x20x1050x2, .f32⟩ : BufTy).Contents (Elt F) → (⟨S4x20x1050x2, .f32⟩ : BufTy).Contents (Elt F)),
    binary main_v13 main_v20 main_v21 (subf : (⟨S4x20x1050x2, .f32⟩ : BufTy).Contents (Elt F) → (⟨S4x20x1050x2, .f32⟩ : BufTy).Contents (Elt F) → (⟨S4x20x1050x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4x20x1050x2, .f32⟩) main_call0_v1) (broadcastInDim S4x20x1050x2 ![] bcast_S_S4x20x1050x2),
    TRef.binary (TRef.of (T := ⟨S4x20x1050x2, .f32⟩) main_call0_v1) (TRef.of (T := ⟨S4x20x1050x2, .f32⟩) main_v21) (TRef.of (T := ⟨S4x20x1050x2, .f32⟩) main_v22) maximumf,
    unary main_v22 main_v23 ((extractStridedSlice S4x20x1050x1 ![0, 0, 0, 0] · slices_S4x20x1050x2_S4x20x1050x1_0_0_0_0) : (⟨S4x20x1050x2, .f32⟩ : BufTy).Contents (Elt F) → (⟨S4x20x1050x1, .f32⟩ : BufTy).Contents (Elt F)),
    reshape main_v23 main_v24 (rfl : (.f32 : EltTy) = .f32) shapeCasts_S4x20x1050x1_S4x20x1050,
    unary main_v22 main_v25 ((extractStridedSlice S4x20x1050x1 ![0, 0, 0, 1] · slices_S4x20x1050x2_S4x20x1050x1_0_0_0_1) : (⟨S4x20x1050x2, .f32⟩ : BufTy).Contents (Elt F) → (⟨S4x20x1050x1, .f32⟩ : BufTy).Contents (Elt F)),
    reshape main_v25 main_v26 (rfl : (.f32 : EltTy) = .f32) shapeCasts_S4x20x1050x1_S4x20x1050 ]

/-- The reference's operations 31 … 60 of 390 (window `main_part0`). -/
abbrev ops_part0_1 : List (HloOp τ sig (Elt F)) :=
  [ binary main_v24 main_v26 main_v27 (mulf : (⟨S4x20x1050, .f32⟩ : BufTy).Contents (Elt F) → (⟨S4x20x1050, .f32⟩ : BufTy).Contents (Elt F) → (⟨S4x20x1050, .f32⟩ : BufTy).Contents (Elt F)),
    unary main_v4 main_v28 ((extractStridedSlice S4x20x1 ![0, 0, 2] · slices_S4x20x4_S4x20x1_0_0_2) : (⟨S4x20x4, .f32⟩ : BufTy).Contents (Elt F) → (⟨S4x20x1, .f32⟩ : BufTy).Contents (Elt F)),
    reshape main_v28 main_v29 (rfl : (.f32 : EltTy) = .f32) shapeCasts_S4x20x1_S4x20,
    unary main_v4 main_v30 ((extractStridedSlice S4x20x1 ![0, 0, 0] · slices_S4x20x4_S4x20x1_0_0_0) : (⟨S4x20x4, .f32⟩ : BufTy).Contents (Elt F) → (⟨S4x20x1, .f32⟩ : BufTy).Contents (Elt F)),
    reshape main_v30 main_v31 (rfl : (.f32 : EltTy) = .f32) shapeCasts_S4x20x1_S4x20,
    binary main_v29 main_v31 main_v32 (subf : (⟨S4x20, .f32⟩ : BufTy).Contents (Elt F) → (⟨S4x20, .f32⟩ : BufTy).Contents (Elt F) → (⟨S4x20, .f32⟩ : BufTy).Contents (Elt F)),
    unary main_v4 main_v33 ((extractStridedSlice S4x20x1 ![0, 0, 3] · slices_S4x20x4_S4x20x1_0_0_3) : (⟨S4x20x4, .f32⟩ : BufTy).Contents (Elt F) → (⟨S4x20x1, .f32⟩ : BufTy).Contents (Elt F)),
    reshape main_v33 main_v34 (rfl : (.f32 : EltTy) = .f32) shapeCasts_S4x20x1_S4x20,
    unary main_v4 main_v35 ((extractStridedSlice S4x20x1 ![0, 0, 1] · slices_S4x20x4_S4x20x1_0_0_1) : (⟨S4x20x4, .f32⟩ : BufTy).Contents (Elt F) → (⟨S4x20x1, .f32⟩ : BufTy).Contents (Elt F)),
    reshape main_v35 main_v36 (rfl : (.f32 : EltTy) = .f32) shapeCasts_S4x20x1_S4x20,
    binary main_v34 main_v36 main_v37 (subf : (⟨S4x20, .f32⟩ : BufTy).Contents (Elt F) → (⟨S4x20, .f32⟩ : BufTy).Contents (Elt F) → (⟨S4x20, .f32⟩ : BufTy).Contents (Elt F)),
    binary main_v32 main_v37 main_v38 (mulf : (⟨S4x20, .f32⟩ : BufTy).Contents (Elt F) → (⟨S4x20, .f32⟩ : BufTy).Contents (Elt F) → (⟨S4x20, .f32⟩ : BufTy).Contents (Elt F)),
    unary main_v38 main_v39 (broadcastInDim S4x20x1 ![0, 1] bcast_S4x20_S4x20x1_0_1 : (⟨S4x20, .f32⟩ : BufTy).Contents (Elt F) → (⟨S4x20x1, .f32⟩ : BufTy).Contents (Elt F)),
    unary main_v1 main_v40 ((extractStridedSlice S4x1050x1 ![0, 0, 2] · slices_S4x1050x4_S4x1050x1_0_0_2) : (⟨S4x1050x4, .f32⟩ : BufTy).Contents (Elt F) → (⟨S4x1050x1, .f32⟩ : BufTy).Contents (Elt F)),
    reshape main_v40 main_v41 (rfl : (.f32 : EltTy) = .f32) shapeCasts_S4x1050x1_S4x1050,
    unary main_v1 main_v42 ((extractStridedSlice S4x1050x1 ![0, 0, 0] · slices_S4x1050x4_S4x1050x1_0_0_0) : (⟨S4x1050x4, .f32⟩ : BufTy).Contents (Elt F) → (⟨S4x1050x1, .f32⟩ : BufTy).Contents (Elt F)),
    reshape main_v42 main_v43 (rfl : (.f32 : EltTy) = .f32) shapeCasts_S4x1050x1_S4x1050,
    binary main_v41 main_v43 main_v44 (subf : (⟨S4x1050, .f32⟩ : BufTy).Contents (Elt F) → (⟨S4x1050, .f32⟩ : BufTy).Contents (Elt F) → (⟨S4x1050, .f32⟩ : BufTy).Contents (Elt F)),
    unary main_v1 main_v45 ((extractStridedSlice S4x1050x1 ![0, 0, 3] · slices_S4x1050x4_S4x1050x1_0_0_3) : (⟨S4x1050x4, .f32⟩ : BufTy).Contents (Elt F) → (⟨S4x1050x1, .f32⟩ : BufTy).Contents (Elt F)),
    reshape main_v45 main_v46 (rfl : (.f32 : EltTy) = .f32) shapeCasts_S4x1050x1_S4x1050,
    unary main_v1 main_v47 ((extractStridedSlice S4x1050x1 ![0, 0, 1] · slices_S4x1050x4_S4x1050x1_0_0_1) : (⟨S4x1050x4, .f32⟩ : BufTy).Contents (Elt F) → (⟨S4x1050x1, .f32⟩ : BufTy).Contents (Elt F)),
    reshape main_v47 main_v48 (rfl : (.f32 : EltTy) = .f32) shapeCasts_S4x1050x1_S4x1050,
    binary main_v46 main_v48 main_v49 (subf : (⟨S4x1050, .f32⟩ : BufTy).Contents (Elt F) → (⟨S4x1050, .f32⟩ : BufTy).Contents (Elt F) → (⟨S4x1050, .f32⟩ : BufTy).Contents (Elt F)),
    binary main_v44 main_v49 main_v50 (mulf : (⟨S4x1050, .f32⟩ : BufTy).Contents (Elt F) → (⟨S4x1050, .f32⟩ : BufTy).Contents (Elt F) → (⟨S4x1050, .f32⟩ : BufTy).Contents (Elt F)),
    unary main_v50 main_v51 (broadcastInDim S4x1x1050 ![0, 2] bcast_S4x1050_S4x1x1050_0_2 : (⟨S4x1050, .f32⟩ : BufTy).Contents (Elt F) → (⟨S4x1x1050, .f32⟩ : BufTy).Contents (Elt F)),
    unary main_v39 main_v52 (broadcastInDim S4x20x1050 ![0, 1, 2] bcast_S4x20x1_S4x20x1050_0_1_2 : (⟨S4x20x1, .f32⟩ : BufTy).Contents (Elt F) → (⟨S4x20x1050, .f32⟩ : BufTy).Contents (Elt F)),
    unary main_v51 main_v53 (broadcastInDim S4x20x1050 ![0, 1, 2] bcast_S4x1x1050_S4x20x1050_0_1_2 : (⟨S4x1x1050, .f32⟩ : BufTy).Contents (Elt F) → (⟨S4x20x1050, .f32⟩ : BufTy).Contents (Elt F)),
    binary main_v52 main_v53 main_v54 (addf : (⟨S4x20x1050, .f32⟩ : BufTy).Contents (Elt F) → (⟨S4x20x1050, .f32⟩ : BufTy).Contents (Elt F) → (⟨S4x20x1050, .f32⟩ : BufTy).Contents (Elt F)),
    binary main_v54 main_v27 main_v55 (subf : (⟨S4x20x1050, .f32⟩ : BufTy).Contents (Elt F) → (⟨S4x20x1050, .f32⟩ : BufTy).Contents (Elt F) → (⟨S4x20x1050, .f32⟩ : BufTy).Contents (Elt F)),
    binary main_v27 main_v55 main_v56 (Host.divf : (⟨S4x20x1050, .f32⟩ : BufTy).Contents (Elt F) → (⟨S4x20x1050, .f32⟩ : BufTy).Contents (Elt F) → (⟨S4x20x1050, .f32⟩ : BufTy).Contents (Elt F)) ]

/-- The reference's operations 61 … 62 of 390 (window `main_part0`). -/
abbrev ops_part0_2 : List (HloOp τ sig (Elt F)) :=
  [ nullary main_cst_0 (constant S_ .f32 0xFF800000#32),
    binary main_v56 main_cst_0 main_v57 ((fun x v => Host.reduce FloatOps.maximumf x v reducesTo_S4x20x1050_S4x1050_d1 h_S_) : (⟨S4x20x1050, .f32⟩ : BufTy).Contents (Elt F) → (⟨S_, .f32⟩ : BufTy).Contents (Elt F) → (⟨S4x1050, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- The reference's operations 63 … 92 of 390 (window `main_part1`). -/
abbrev ops_part1_0 : List (HloOp τ sig (Elt F)) :=
  [ TRef.nullary (TRef.of (T := ⟨S4x20x1050, .i32⟩) main_call1_v0) (iotaInDim S4x20x1050 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x20x1050, .f32⟩) main_v56) (TRef.of (T := ⟨S4x20x1050, .i32⟩) main_call1_v0) (TRef.of (T := ⟨S_, .f32⟩) main_call1_cst) (TRef.of (T := ⟨S_, .i32⟩) main_call1_c) (TRef.of (T := ⟨S4x1050, .f32⟩) main_call1_v1_0) (fun x y u v j => (Host.argReduce reducer_argmax_f32_i32 x y u v reducesTo_S4x20x1050_S4x1050_d1 h_S_ j).1),
    TRef.quaternary (TRef.of (T := ⟨S4x20x1050, .f32⟩) main_v56) (TRef.of (T := ⟨S4x20x1050, .i32⟩) main_call1_v0) (TRef.of (T := ⟨S_, .f32⟩) main_call1_cst) (TRef.of (T := ⟨S_, .i32⟩) main_call1_c) (TRef.of (T := ⟨S4x1050, .i32⟩) main_v58) (fun x y u v j => (Host.argReduce reducer_argmax_f32_i32 x y u v reducesTo_S4x20x1050_S4x1050_d1 h_S_ j).2),
    nullary main_c (constantI S_ 32 0#32),
    unary main_c main_v59 (broadcastInDim S4x1050 ![] bcast_S_S4x1050 : (⟨S_, .i32⟩ : BufTy).Contents (Elt F) → (⟨S4x1050, .i32⟩ : BufTy).Contents (Elt F)),
    binary main_v58 main_v59 main_v60 (cmpi .slt : (⟨S4x1050, .i32⟩ : BufTy).Contents (Elt F) → (⟨S4x1050, .i32⟩ : BufTy).Contents (Elt F) → (⟨S4x1050, .i1⟩ : BufTy).Contents (Elt F)),
    nullary main_c_1 (constantI S_ 32 20#32),
    unary main_c_1 main_v61 (broadcastInDim S4x1050 ![] bcast_S_S4x1050 : (⟨S_, .i32⟩ : BufTy).Contents (Elt F) → (⟨S4x1050, .i32⟩ : BufTy).Contents (Elt F)),
    binary main_v58 main_v61 main_v62 (addi : (⟨S4x1050, .i32⟩ : BufTy).Contents (Elt F) → (⟨S4x1050, .i32⟩ : BufTy).Contents (Elt F) → (⟨S4x1050, .i32⟩ : BufTy).Contents (Elt F)),
    ternary main_v60 main_v62 main_v58 main_v63 (select : (⟨S4x1050, .i1⟩ : BufTy).Contents (Elt F) → (⟨S4x1050, .i32⟩ : BufTy).Contents (Elt F) → (⟨S4x1050, .i32⟩ : BufTy).Contents (Elt F) → (⟨S4x1050, .i32⟩ : BufTy).Contents (Elt F)),
    unary main_v63 main_v64 (broadcastInDim S4x1050x1 ![0, 1] bcast_S4x1050_S4x1050x1_0_1 : (⟨S4x1050, .i32⟩ : BufTy).Contents (Elt F) → (⟨S4x1050x1, .i32⟩ : BufTy).Contents (Elt F)),
    binary main_v6 main_v64 main_v65 ((fun x i => Host.gather gather_S4x20_S4x1050x1_S4x1050_n_1_0_0_1_2_11 x i) : (⟨S4x20, .f32⟩ : BufTy).Contents (Elt F) → (⟨S4x1050x1, .i32⟩ : BufTy).Contents (Elt F) → (⟨S4x1050, .f32⟩ : BufTy).Contents (Elt F)),
    nullary main_c_2 (constantI S_ 32 0#32),
    unary main_c_2 main_v66 (broadcastInDim S4x1050 ![] bcast_S_S4x1050 : (⟨S_, .i32⟩ : BufTy).Contents (Elt F) → (⟨S4x1050, .i32⟩ : BufTy).Contents (Elt F)),
    binary main_v58 main_v66 main_v67 (cmpi .slt : (⟨S4x1050, .i32⟩ : BufTy).Contents (Elt F) → (⟨S4x1050, .i32⟩ : BufTy).Contents (Elt F) → (⟨S4x1050, .i1⟩ : BufTy).Contents (Elt F)),
    nullary main_c_3 (constantI S_ 32 20#32),
    unary main_c_3 main_v68 (broadcastInDim S4x1050 ![] bcast_S_S4x1050 : (⟨S_, .i32⟩ : BufTy).Contents (Elt F) → (⟨S4x1050, .i32⟩ : BufTy).Contents (Elt F)),
    binary main_v58 main_v68 main_v69 (addi : (⟨S4x1050, .i32⟩ : BufTy).Contents (Elt F) → (⟨S4x1050, .i32⟩ : BufTy).Contents (Elt F) → (⟨S4x1050, .i32⟩ : BufTy).Contents (Elt F)),
    ternary main_v67 main_v69 main_v58 main_v70 (select : (⟨S4x1050, .i1⟩ : BufTy).Contents (Elt F) → (⟨S4x1050, .i32⟩ : BufTy).Contents (Elt F) → (⟨S4x1050, .i32⟩ : BufTy).Contents (Elt F) → (⟨S4x1050, .i32⟩ : BufTy).Contents (Elt F)),
    unary main_v70 main_v71 (broadcastInDim S4x1050x1 ![0, 1] bcast_S4x1050_S4x1050x1_0_1 : (⟨S4x1050, .i32⟩ : BufTy).Contents (Elt F) → (⟨S4x1050x1, .i32⟩ : BufTy).Contents (Elt F)),
    binary main_v4 main_v71 main_v72 ((fun x i => Host.gather gather_S4x20x4_S4x1050x1_S4x1050x4_2_1_0_0_1_2_114 x i) : (⟨S4x20x4, .f32⟩ : BufTy).Contents (Elt F) → (⟨S4x1050x1, .i32⟩ : BufTy).Contents (Elt F) → (⟨S4x1050x4, .f32⟩ : BufTy).Contents (Elt F)),
    nullary main_cst_4 (constant S_ .f32 0x3E99999A#32),
    unary main_cst_4 main_v73 (broadcastInDim S4x1050 ![] bcast_S_S4x1050 : (⟨S_, .f32⟩ : BufTy).Contents (Elt F) → (⟨S4x1050, .f32⟩ : BufTy).Contents (Elt F)),
    binary main_v57 main_v73 main_v74 (cmpf .oge : (⟨S4x1050, .f32⟩ : BufTy).Contents (Elt F) → (⟨S4x1050, .f32⟩ : BufTy).Contents (Elt F) → (⟨S4x1050, .i1⟩ : BufTy).Contents (Elt F)),
    nullary main_cst_5 (constant S_ .f32 0x3C23D70A#32),
    unary main_cst_5 main_v75 (broadcastInDim S4x1050 ![] bcast_S_S4x1050 : (⟨S_, .f32⟩ : BufTy).Contents (Elt F) → (⟨S4x1050, .f32⟩ : BufTy).Contents (Elt F)),
    binary main_v3 main_v75 main_v76 (cmpf .oge : (⟨S4x1050, .f32⟩ : BufTy).Contents (Elt F) → (⟨S4x1050, .f32⟩ : BufTy).Contents (Elt F) → (⟨S4x1050, .i1⟩ : BufTy).Contents (Elt F)),
    binary main_v74 main_v76 main_v77 (andi : (⟨S4x1050, .i1⟩ : BufTy).Contents (Elt F) → (⟨S4x1050, .i1⟩ : BufTy).Contents (Elt F) → (⟨S4x1050, .i1⟩ : BufTy).Contents (Elt F)) ]

/-- The reference's operations 93 … 122 of 390 (window `main_part1`). -/
abbrev ops_part1_1 : List (HloOp τ sig (Elt F)) :=
  [ reshape main_v77 main_v78 (rfl : (.i1 : EltTy) = .i1) shapeCasts_S4x1050_S4200,
    unary main_v78 main_v79 (uitofp .f32 : (⟨S4200, .i1⟩ : BufTy).Contents (Elt F) → (⟨S4200, .f32⟩ : BufTy).Contents (Elt F)),
    nullary main_cst_6 (constant S_ .f32 0x00000000#32),
    binary main_v79 main_cst_6 main_v80 ((fun x v => Host.reduceAdd x v reducesTo_S4200_S_d0 h_S_) : (⟨S4200, .f32⟩ : BufTy).Contents (Elt F) → (⟨S_, .f32⟩ : BufTy).Contents (Elt F) → (⟨S_, .f32⟩ : BufTy).Contents (Elt F)),
    nullary main_cst_7 (constant S_ .f32 0x3F800000#32),
    binary main_v80 main_cst_7 main_v81 (maximumf : (⟨S_, .f32⟩ : BufTy).Contents (Elt F) → (⟨S_, .f32⟩ : BufTy).Contents (Elt F) → (⟨S_, .f32⟩ : BufTy).Contents (Elt F)),
    reshape main_arg0 main_v82 (rfl : (.f32 : EltTy) = .f32) shapeCasts_S4x21x50x64x7x7_S4200x64x7x7,
    reshape main_arg1 main_v83 (rfl : (.f32 : EltTy) = .f32) shapeCasts_S4x21x50x64x7x7_S4200x64x7x7,
    nullary main_c_8 (constantI S_ 32 0#32),
    TRef.unary (TRef.of (T := ⟨S_, .i32⟩) main_c_8) (TRef.of (T := ⟨S_, .f32⟩) main_call2_v0) (sitofp .f32),
    TRef.binary (TRef.of (T := ⟨S4200x64x7x7, .f32⟩) main_v82) (TRef.of (T := ⟨S_, .f32⟩) main_call2_v0) (TRef.of (T := ⟨S4200x64x9x9, .f32⟩) main_v84) (fun x v => pad S4200x64x9x9 ![0, 0, 1, 1] ![0, 0, 1, 1] ![0, 0, 0, 0] x v pads_S4200x64x7x7_S4200x64x9x9_000_000_110_110 h_S_),
    unary main_v84 main_v85 ((extractStridedSlice S4200x64x7x7 ![0, 0, 0, 0] · slices_S4200x64x9x9_S4200x64x7x7_0_0_0_0) : (⟨S4200x64x9x9, .f32⟩ : BufTy).Contents (Elt F) → (⟨S4200x64x7x7, .f32⟩ : BufTy).Contents (Elt F)),
    unary main_arg4 main_v86 ((extractStridedSlice S64x64x1x1 ![0, 0, 0, 0] · slices_S64x64x3x3_S64x64x1x1_0_0_0_0) : (⟨S64x64x3x3, .f32⟩ : BufTy).Contents (Elt F) → (⟨S64x64x1x1, .f32⟩ : BufTy).Contents (Elt F)),
    reshape main_v86 main_v87 (rfl : (.f32 : EltTy) = .f32) shapeCasts_S64x64x1x1_S64x64,
    binary main_v87 main_v85 main_v88 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v88 main_v89 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    unary main_v84 main_v90 ((extractStridedSlice S4200x64x7x7 ![0, 0, 0, 1] · slices_S4200x64x9x9_S4200x64x7x7_0_0_0_1) : (⟨S4200x64x9x9, .f32⟩ : BufTy).Contents (Elt F) → (⟨S4200x64x7x7, .f32⟩ : BufTy).Contents (Elt F)),
    unary main_arg4 main_v91 ((extractStridedSlice S64x64x1x1 ![0, 0, 0, 1] · slices_S64x64x3x3_S64x64x1x1_0_0_0_1) : (⟨S64x64x3x3, .f32⟩ : BufTy).Contents (Elt F) → (⟨S64x64x1x1, .f32⟩ : BufTy).Contents (Elt F)),
    reshape main_v91 main_v92 (rfl : (.f32 : EltTy) = .f32) shapeCasts_S64x64x1x1_S64x64,
    binary main_v92 main_v90 main_v93 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v93 main_v94 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v89 main_v94 main_v95 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v96 ((extractStridedSlice S4200x64x7x7 ![0, 0, 0, 2] · slices_S4200x64x9x9_S4200x64x7x7_0_0_0_2) : (⟨S4200x64x9x9, .f32⟩ : BufTy).Contents (Elt F) → (⟨S4200x64x7x7, .f32⟩ : BufTy).Contents (Elt F)),
    unary main_arg4 main_v97 ((extractStridedSlice S64x64x1x1 ![0, 0, 0, 2] · slices_S64x64x3x3_S64x64x1x1_0_0_0_2) : (⟨S64x64x3x3, .f32⟩ : BufTy).Contents (Elt F) → (⟨S64x64x1x1, .f32⟩ : BufTy).Contents (Elt F)),
    reshape main_v97 main_v98 (rfl : (.f32 : EltTy) = .f32) shapeCasts_S64x64x1x1_S64x64,
    binary main_v98 main_v96 main_v99 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v99 main_v100 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v95 main_v100 main_v101 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v102 ((extractStridedSlice S4200x64x7x7 ![0, 0, 1, 0] · slices_S4200x64x9x9_S4200x64x7x7_0_0_1_0) : (⟨S4200x64x9x9, .f32⟩ : BufTy).Contents (Elt F) → (⟨S4200x64x7x7, .f32⟩ : BufTy).Contents (Elt F)),
    unary main_arg4 main_v103 ((extractStridedSlice S64x64x1x1 ![0, 0, 1, 0] · slices_S64x64x3x3_S64x64x1x1_0_0_1_0) : (⟨S64x64x3x3, .f32⟩ : BufTy).Contents (Elt F) → (⟨S64x64x1x1, .f32⟩ : BufTy).Contents (Elt F)) ]

/-- The reference's operations 123 … 127 of 390 (window `main_part1`). -/
abbrev ops_part1_2 : List (HloOp τ sig (Elt F)) :=
  [ reshape main_v103 main_v104 (rfl : (.f32 : EltTy) = .f32) shapeCasts_S64x64x1x1_S64x64,
    binary main_v104 main_v102 main_v105 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v105 main_v106 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v101 main_v106 main_v107 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v108 ((extractStridedSlice S4200x64x7x7 ![0, 0, 1, 1] · slices_S4200x64x9x9_S4200x64x7x7_0_0_1_1) : (⟨S4200x64x9x9, .f32⟩ : BufTy).Contents (Elt F) → (⟨S4200x64x7x7, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- The reference's operations 128 … 157 of 390 (window `main_part2`). -/
abbrev ops_part2_0 : List (HloOp τ sig (Elt F)) :=
  [ unary main_arg4 main_v109 ((extractStridedSlice S64x64x1x1 ![0, 0, 1, 1] · slices_S64x64x3x3_S64x64x1x1_0_0_1_1) : (⟨S64x64x3x3, .f32⟩ : BufTy).Contents (Elt F) → (⟨S64x64x1x1, .f32⟩ : BufTy).Contents (Elt F)),
    reshape main_v109 main_v110 (rfl : (.f32 : EltTy) = .f32) shapeCasts_S64x64x1x1_S64x64,
    binary main_v110 main_v108 main_v111 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v111 main_v112 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v107 main_v112 main_v113 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v114 ((extractStridedSlice S4200x64x7x7 ![0, 0, 1, 2] · slices_S4200x64x9x9_S4200x64x7x7_0_0_1_2) : (⟨S4200x64x9x9, .f32⟩ : BufTy).Contents (Elt F) → (⟨S4200x64x7x7, .f32⟩ : BufTy).Contents (Elt F)),
    unary main_arg4 main_v115 ((extractStridedSlice S64x64x1x1 ![0, 0, 1, 2] · slices_S64x64x3x3_S64x64x1x1_0_0_1_2) : (⟨S64x64x3x3, .f32⟩ : BufTy).Contents (Elt F) → (⟨S64x64x1x1, .f32⟩ : BufTy).Contents (Elt F)),
    reshape main_v115 main_v116 (rfl : (.f32 : EltTy) = .f32) shapeCasts_S64x64x1x1_S64x64,
    binary main_v116 main_v114 main_v117 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v117 main_v118 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v113 main_v118 main_v119 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v120 ((extractStridedSlice S4200x64x7x7 ![0, 0, 2, 0] · slices_S4200x64x9x9_S4200x64x7x7_0_0_2_0) : (⟨S4200x64x9x9, .f32⟩ : BufTy).Contents (Elt F) → (⟨S4200x64x7x7, .f32⟩ : BufTy).Contents (Elt F)),
    unary main_arg4 main_v121 ((extractStridedSlice S64x64x1x1 ![0, 0, 2, 0] · slices_S64x64x3x3_S64x64x1x1_0_0_2_0) : (⟨S64x64x3x3, .f32⟩ : BufTy).Contents (Elt F) → (⟨S64x64x1x1, .f32⟩ : BufTy).Contents (Elt F)),
    reshape main_v121 main_v122 (rfl : (.f32 : EltTy) = .f32) shapeCasts_S64x64x1x1_S64x64,
    binary main_v122 main_v120 main_v123 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v123 main_v124 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v119 main_v124 main_v125 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v126 ((extractStridedSlice S4200x64x7x7 ![0, 0, 2, 1] · slices_S4200x64x9x9_S4200x64x7x7_0_0_2_1) : (⟨S4200x64x9x9, .f32⟩ : BufTy).Contents (Elt F) → (⟨S4200x64x7x7, .f32⟩ : BufTy).Contents (Elt F)),
    unary main_arg4 main_v127 ((extractStridedSlice S64x64x1x1 ![0, 0, 2, 1] · slices_S64x64x3x3_S64x64x1x1_0_0_2_1) : (⟨S64x64x3x3, .f32⟩ : BufTy).Contents (Elt F) → (⟨S64x64x1x1, .f32⟩ : BufTy).Contents (Elt F)),
    reshape main_v127 main_v128 (rfl : (.f32 : EltTy) = .f32) shapeCasts_S64x64x1x1_S64x64,
    binary main_v128 main_v126 main_v129 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v129 main_v130 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v125 main_v130 main_v131 (addf : (⟨S4200x64x7x7, .f32⟩ : BufTy).Contents (Elt F) → (⟨S4200x64x7x7, .f32⟩ : BufTy).Contents (Elt F) → (⟨S4200x64x7x7, .f32⟩ : BufTy).Contents (Elt F)),
    unary main_v84 main_v132 ((extractStridedSlice S4200x64x7x7 ![0, 0, 2, 2] · slices_S4200x64x9x9_S4200x64x7x7_0_0_2_2) : (⟨S4200x64x9x9, .f32⟩ : BufTy).Contents (Elt F) → (⟨S4200x64x7x7, .f32⟩ : BufTy).Contents (Elt F)),
    unary main_arg4 main_v133 ((extractStridedSlice S64x64x1x1 ![0, 0, 2, 2] · slices_S64x64x3x3_S64x64x1x1_0_0_2_2) : (⟨S64x64x3x3, .f32⟩ : BufTy).Contents (Elt F) → (⟨S64x64x1x1, .f32⟩ : BufTy).Contents (Elt F)),
    reshape main_v133 main_v134 (rfl : (.f32 : EltTy) = .f32) shapeCasts_S64x64x1x1_S64x64,
    binary main_v134 main_v132 main_v135 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v135 main_v136 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v131 main_v136 main_v137 (addf : (⟨S4200x64x7x7, .f32⟩ : BufTy).Contents (Elt F) → (⟨S4200x64x7x7, .f32⟩ : BufTy).Contents (Elt F) → (⟨S4200x64x7x7, .f32⟩ : BufTy).Contents (Elt F)),
    unary main_arg5 main_v138 (broadcastInDim S1x64x1x1 ![1] bcast_S64_S1x64x1x1_1 : (⟨S64, .f32⟩ : BufTy).Contents (Elt F) → (⟨S1x64x1x1, .f32⟩ : BufTy).Contents (Elt F)) ]

/-- The reference's operations 158 … 187 of 390 (window `main_part2`). -/
abbrev ops_part2_1 : List (HloOp τ sig (Elt F)) :=
  [ unary main_v138 main_v139 (broadcastInDim S4200x64x7x7 ![0, 1, 2, 3] bcast_S1x64x1x1_S4200x64x7x7_0_1_2_3 : (⟨S1x64x1x1, .f32⟩ : BufTy).Contents (Elt F) → (⟨S4200x64x7x7, .f32⟩ : BufTy).Contents (Elt F)),
    binary main_v137 main_v139 main_v140 (addf : (⟨S4200x64x7x7, .f32⟩ : BufTy).Contents (Elt F) → (⟨S4200x64x7x7, .f32⟩ : BufTy).Contents (Elt F) → (⟨S4200x64x7x7, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4200x64x7x7, .f32⟩) main_call3_v0) (broadcastInDim S4200x64x7x7 ![] bcast_S_S4200x64x7x7),
    TRef.binary (TRef.of (T := ⟨S4200x64x7x7, .f32⟩) main_v140) (TRef.of (T := ⟨S4200x64x7x7, .f32⟩) main_call3_v0) (TRef.of (T := ⟨S4200x64x7x7, .f32⟩) main_v141) maximumf,
    nullary main_cst_9 (constant S_ .f32 0x00000000#32),
    binary main_v141 main_cst_9 main_v142 ((fun x v => Host.reduceAdd x v reducesTo_S4200x64x7x7_S4200x64_d2_3 h_S_) : (⟨S4200x64x7x7, .f32⟩ : BufTy).Contents (Elt F) → (⟨S_, .f32⟩ : BufTy).Contents (Elt F) → (⟨S4200x64, .f32⟩ : BufTy).Contents (Elt F)),
    nullary main_cst_10 (constant S_ .f32 0x42440000#32),
    unary main_cst_10 main_v143 (broadcastInDim S4200x64 ![] bcast_S_S4200x64 : (⟨S_, .f32⟩ : BufTy).Contents (Elt F) → (⟨S4200x64, .f32⟩ : BufTy).Contents (Elt F)),
    binary main_v142 main_v143 main_v144 (Host.divf : (⟨S4200x64, .f32⟩ : BufTy).Contents (Elt F) → (⟨S4200x64, .f32⟩ : BufTy).Contents (Elt F) → (⟨S4200x64, .f32⟩ : BufTy).Contents (Elt F)),
    binary main_v144 main_arg6 main_v145 ((fun l r => Host.dotGeneral dot_S4200x64_S64x1_S4200x1_1_0_0_1_n_n none l r) : (⟨S4200x64, .f32⟩ : BufTy).Contents (Elt F) → (⟨S64x1, .f32⟩ : BufTy).Contents (Elt F) → (⟨S4200x1, .f32⟩ : BufTy).Contents (Elt F)),
    unary main_arg7 main_v146 (broadcastInDim S1x1 ![1] bcast_S1_S1x1_1 : (⟨S1, .f32⟩ : BufTy).Contents (Elt F) → (⟨S1x1, .f32⟩ : BufTy).Contents (Elt F)),
    unary main_v146 main_v147 (broadcastInDim S4200x1 ![0, 1] bcast_S1x1_S4200x1_0_1 : (⟨S1x1, .f32⟩ : BufTy).Contents (Elt F) → (⟨S4200x1, .f32⟩ : BufTy).Contents (Elt F)),
    binary main_v145 main_v147 main_v148 (addf : (⟨S4200x1, .f32⟩ : BufTy).Contents (Elt F) → (⟨S4200x1, .f32⟩ : BufTy).Contents (Elt F) → (⟨S4200x1, .f32⟩ : BufTy).Contents (Elt F)),
    unary main_v148 main_v149 (Host.negf : (⟨S4200x1, .f32⟩ : BufTy).Contents (Elt F) → (⟨S4200x1, .f32⟩ : BufTy).Contents (Elt F)),
    unary main_v149 main_v150 (Host.exp : (⟨S4200x1, .f32⟩ : BufTy).Contents (Elt F) → (⟨S4200x1, .f32⟩ : BufTy).Contents (Elt F)),
    nullary main_cst_11 (constant S_ .f32 0x3F800000#32),
    unary main_cst_11 main_v151 (broadcastInDim S4200x1 ![] bcast_S_S4200x1 : (⟨S_, .f32⟩ : BufTy).Contents (Elt F) → (⟨S4200x1, .f32⟩ : BufTy).Contents (Elt F)),
    binary main_v151 main_v150 main_v152 (addf : (⟨S4200x1, .f32⟩ : BufTy).Contents (Elt F) → (⟨S4200x1, .f32⟩ : BufTy).Contents (Elt F) → (⟨S4200x1, .f32⟩ : BufTy).Contents (Elt F)),
    nullary main_cst_12 (constant S_ .f32 0x3F800000#32),
    unary main_cst_12 main_v153 (broadcastInDim S4200x1 ![] bcast_S_S4200x1 : (⟨S_, .f32⟩ : BufTy).Contents (Elt F) → (⟨S4200x1, .f32⟩ : BufTy).Contents (Elt F)),
    binary main_v153 main_v152 main_v154 (Host.divf : (⟨S4200x1, .f32⟩ : BufTy).Contents (Elt F) → (⟨S4200x1, .f32⟩ : BufTy).Contents (Elt F) → (⟨S4200x1, .f32⟩ : BufTy).Contents (Elt F)),
    binary main_v144 main_arg8 main_v155 ((fun l r => Host.dotGeneral dot_S4200x64_S64x21_S4200x21_1_0_0_1_n_n none l r) : (⟨S4200x64, .f32⟩ : BufTy).Contents (Elt F) → (⟨S64x21, .f32⟩ : BufTy).Contents (Elt F) → (⟨S4200x21, .f32⟩ : BufTy).Contents (Elt F)),
    unary main_arg9 main_v156 (broadcastInDim S1x21 ![1] bcast_S21_S1x21_1 : (⟨S21, .f32⟩ : BufTy).Contents (Elt F) → (⟨S1x21, .f32⟩ : BufTy).Contents (Elt F)),
    unary main_v156 main_v157 (broadcastInDim S4200x21 ![0, 1] bcast_S1x21_S4200x21_0_1 : (⟨S1x21, .f32⟩ : BufTy).Contents (Elt F) → (⟨S4200x21, .f32⟩ : BufTy).Contents (Elt F)),
    binary main_v155 main_v157 main_v158 (addf : (⟨S4200x21, .f32⟩ : BufTy).Contents (Elt F) → (⟨S4200x21, .f32⟩ : BufTy).Contents (Elt F) → (⟨S4200x21, .f32⟩ : BufTy).Contents (Elt F)),
    binary main_v144 main_arg10 main_v159 ((fun l r => Host.dotGeneral dot_S4200x64_S64x4_S4200x4_1_0_0_1_n_n none l r) : (⟨S4200x64, .f32⟩ : BufTy).Contents (Elt F) → (⟨S64x4, .f32⟩ : BufTy).Contents (Elt F) → (⟨S4200x4, .f32⟩ : BufTy).Contents (Elt F)),
    unary main_arg11 main_v160 (broadcastInDim S1x4 ![1] bcast_S4_S1x4_1 : (⟨S4, .f32⟩ : BufTy).Contents (Elt F) → (⟨S1x4, .f32⟩ : BufTy).Contents (Elt F)),
    unary main_v160 main_v161 (broadcastInDim S4200x4 ![0, 1] bcast_S1x4_S4200x4_0_1 : (⟨S1x4, .f32⟩ : BufTy).Contents (Elt F) → (⟨S4200x4, .f32⟩ : BufTy).Contents (Elt F)),
    binary main_v159 main_v161 main_v162 (addf : (⟨S4200x4, .f32⟩ : BufTy).Contents (Elt F) → (⟨S4200x4, .f32⟩ : BufTy).Contents (Elt F) → (⟨S4200x4, .f32⟩ : BufTy).Contents (Elt F)) ]

/-- The reference's operations 188 … 190 of 390 (window `main_part2`). -/
abbrev ops_part2_2 : List (HloOp τ sig (Elt F)) :=
  [ nullary main_c_13 (constantI S_ 32 0#32),
    TRef.unary (TRef.of (T := ⟨S_, .i32⟩) main_c_13) (TRef.of (T := ⟨S_, .f32⟩) main_call4_v0) (sitofp .f32),
    TRef.binary (TRef.of (T := ⟨S4200x64x7x7, .f32⟩) main_v83) (TRef.of (T := ⟨S_, .f32⟩) main_call4_v0) (TRef.of (T := ⟨S4200x64x9x9, .f32⟩) main_v163) (fun x v => pad S4200x64x9x9 ![0, 0, 1, 1] ![0, 0, 1, 1] ![0, 0, 0, 0] x v pads_S4200x64x7x7_S4200x64x9x9_000_000_110_110 h_S_) ]

/-- Window `main_part2`'s operations. Not an abbreviation: `main_eq` below splits `ops` into the windows and no further. -/
def ops_part2 : List (HloOp τ sig (Elt F)) :=
  ops_part2_0 ++ (ops_part2_1 ++ (ops_part2_2))

/-- The reference's operations 191 … 220 of 390 (window `main_part3`). -/
abbrev ops_part3_0 : List (HloOp τ sig (Elt F)) :=
  [ unary main_v163 main_v164 ((extractStridedSlice S4200x64x7x7 ![0, 0, 0, 0] · slices_S4200x64x9x9_S4200x64x7x7_0_0_0_0) : (⟨S4200x64x9x9, .f32⟩ : BufTy).Contents (Elt F) → (⟨S4200x64x7x7, .f32⟩ : BufTy).Contents (Elt F)),
    unary main_arg4 main_v165 ((extractStridedSlice S64x64x1x1 ![0, 0, 0, 0] · slices_S64x64x3x3_S64x64x1x1_0_0_0_0) : (⟨S64x64x3x3, .f32⟩ : BufTy).Contents (Elt F) → (⟨S64x64x1x1, .f32⟩ : BufTy).Contents (Elt F)),
    reshape main_v165 main_v166 (rfl : (.f32 : EltTy) = .f32) shapeCasts_S64x64x1x1_S64x64,
    binary main_v166 main_v164 main_v167 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v167 main_v168 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    unary main_v163 main_v169 ((extractStridedSlice S4200x64x7x7 ![0, 0, 0, 1] · slices_S4200x64x9x9_S4200x64x7x7_0_0_0_1) : (⟨S4200x64x9x9, .f32⟩ : BufTy).Contents (Elt F) → (⟨S4200x64x7x7, .f32⟩ : BufTy).Contents (Elt F)),
    unary main_arg4 main_v170 ((extractStridedSlice S64x64x1x1 ![0, 0, 0, 1] · slices_S64x64x3x3_S64x64x1x1_0_0_0_1) : (⟨S64x64x3x3, .f32⟩ : BufTy).Contents (Elt F) → (⟨S64x64x1x1, .f32⟩ : BufTy).Contents (Elt F)),
    reshape main_v170 main_v171 (rfl : (.f32 : EltTy) = .f32) shapeCasts_S64x64x1x1_S64x64,
    binary main_v171 main_v169 main_v172 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v172 main_v173 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v168 main_v173 main_v174 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v175 ((extractStridedSlice S4200x64x7x7 ![0, 0, 0, 2] · slices_S4200x64x9x9_S4200x64x7x7_0_0_0_2) : (⟨S4200x64x9x9, .f32⟩ : BufTy).Contents (Elt F) → (⟨S4200x64x7x7, .f32⟩ : BufTy).Contents (Elt F)),
    unary main_arg4 main_v176 ((extractStridedSlice S64x64x1x1 ![0, 0, 0, 2] · slices_S64x64x3x3_S64x64x1x1_0_0_0_2) : (⟨S64x64x3x3, .f32⟩ : BufTy).Contents (Elt F) → (⟨S64x64x1x1, .f32⟩ : BufTy).Contents (Elt F)),
    reshape main_v176 main_v177 (rfl : (.f32 : EltTy) = .f32) shapeCasts_S64x64x1x1_S64x64,
    binary main_v177 main_v175 main_v178 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v178 main_v179 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v174 main_v179 main_v180 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v181 ((extractStridedSlice S4200x64x7x7 ![0, 0, 1, 0] · slices_S4200x64x9x9_S4200x64x7x7_0_0_1_0) : (⟨S4200x64x9x9, .f32⟩ : BufTy).Contents (Elt F) → (⟨S4200x64x7x7, .f32⟩ : BufTy).Contents (Elt F)),
    unary main_arg4 main_v182 ((extractStridedSlice S64x64x1x1 ![0, 0, 1, 0] · slices_S64x64x3x3_S64x64x1x1_0_0_1_0) : (⟨S64x64x3x3, .f32⟩ : BufTy).Contents (Elt F) → (⟨S64x64x1x1, .f32⟩ : BufTy).Contents (Elt F)),
    reshape main_v182 main_v183 (rfl : (.f32 : EltTy) = .f32) shapeCasts_S64x64x1x1_S64x64,
    binary main_v183 main_v181 main_v184 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v184 main_v185 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v180 main_v185 main_v186 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v187 ((extractStridedSlice S4200x64x7x7 ![0, 0, 1, 1] · slices_S4200x64x9x9_S4200x64x7x7_0_0_1_1) : (⟨S4200x64x9x9, .f32⟩ : BufTy).Contents (Elt F) → (⟨S4200x64x7x7, .f32⟩ : BufTy).Contents (Elt F)),
    unary main_arg4 main_v188 ((extractStridedSlice S64x64x1x1 ![0, 0, 1, 1] · slices_S64x64x3x3_S64x64x1x1_0_0_1_1) : (⟨S64x64x3x3, .f32⟩ : BufTy).Contents (Elt F) → (⟨S64x64x1x1, .f32⟩ : BufTy).Contents (Elt F)),
    reshape main_v188 main_v189 (rfl : (.f32 : EltTy) = .f32) shapeCasts_S64x64x1x1_S64x64,
    binary main_v189 main_v187 main_v190 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v190 main_v191 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v186 main_v191 main_v192 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v193 ((extractStridedSlice S4200x64x7x7 ![0, 0, 1, 2] · slices_S4200x64x9x9_S4200x64x7x7_0_0_1_2) : (⟨S4200x64x9x9, .f32⟩ : BufTy).Contents (Elt F) → (⟨S4200x64x7x7, .f32⟩ : BufTy).Contents (Elt F)) ]

/-- The reference's operations 221 … 250 of 390 (window `main_part3`). -/
abbrev ops_part3_1 : List (HloOp τ sig (Elt F)) :=
  [ unary main_arg4 main_v194 ((extractStridedSlice S64x64x1x1 ![0, 0, 1, 2] · slices_S64x64x3x3_S64x64x1x1_0_0_1_2) : (⟨S64x64x3x3, .f32⟩ : BufTy).Contents (Elt F) → (⟨S64x64x1x1, .f32⟩ : BufTy).Contents (Elt F)),
    reshape main_v194 main_v195 (rfl : (.f32 : EltTy) = .f32) shapeCasts_S64x64x1x1_S64x64,
    binary main_v195 main_v193 main_v196 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v196 main_v197 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v192 main_v197 main_v198 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v199 ((extractStridedSlice S4200x64x7x7 ![0, 0, 2, 0] · slices_S4200x64x9x9_S4200x64x7x7_0_0_2_0) : (⟨S4200x64x9x9, .f32⟩ : BufTy).Contents (Elt F) → (⟨S4200x64x7x7, .f32⟩ : BufTy).Contents (Elt F)),
    unary main_arg4 main_v200 ((extractStridedSlice S64x64x1x1 ![0, 0, 2, 0] · slices_S64x64x3x3_S64x64x1x1_0_0_2_0) : (⟨S64x64x3x3, .f32⟩ : BufTy).Contents (Elt F) → (⟨S64x64x1x1, .f32⟩ : BufTy).Contents (Elt F)),
    reshape main_v200 main_v201 (rfl : (.f32 : EltTy) = .f32) shapeCasts_S64x64x1x1_S64x64,
    binary main_v201 main_v199 main_v202 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v202 main_v203 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v198 main_v203 main_v204 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v205 ((extractStridedSlice S4200x64x7x7 ![0, 0, 2, 1] · slices_S4200x64x9x9_S4200x64x7x7_0_0_2_1) : (⟨S4200x64x9x9, .f32⟩ : BufTy).Contents (Elt F) → (⟨S4200x64x7x7, .f32⟩ : BufTy).Contents (Elt F)),
    unary main_arg4 main_v206 ((extractStridedSlice S64x64x1x1 ![0, 0, 2, 1] · slices_S64x64x3x3_S64x64x1x1_0_0_2_1) : (⟨S64x64x3x3, .f32⟩ : BufTy).Contents (Elt F) → (⟨S64x64x1x1, .f32⟩ : BufTy).Contents (Elt F)),
    reshape main_v206 main_v207 (rfl : (.f32 : EltTy) = .f32) shapeCasts_S64x64x1x1_S64x64,
    binary main_v207 main_v205 main_v208 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v208 main_v209 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v204 main_v209 main_v210 (addf : (⟨S4200x64x7x7, .f32⟩ : BufTy).Contents (Elt F) → (⟨S4200x64x7x7, .f32⟩ : BufTy).Contents (Elt F) → (⟨S4200x64x7x7, .f32⟩ : BufTy).Contents (Elt F)),
    unary main_v163 main_v211 ((extractStridedSlice S4200x64x7x7 ![0, 0, 2, 2] · slices_S4200x64x9x9_S4200x64x7x7_0_0_2_2) : (⟨S4200x64x9x9, .f32⟩ : BufTy).Contents (Elt F) → (⟨S4200x64x7x7, .f32⟩ : BufTy).Contents (Elt F)),
    unary main_arg4 main_v212 ((extractStridedSlice S64x64x1x1 ![0, 0, 2, 2] · slices_S64x64x3x3_S64x64x1x1_0_0_2_2) : (⟨S64x64x3x3, .f32⟩ : BufTy).Contents (Elt F) → (⟨S64x64x1x1, .f32⟩ : BufTy).Contents (Elt F)),
    reshape main_v212 main_v213 (rfl : (.f32 : EltTy) = .f32) shapeCasts_S64x64x1x1_S64x64,
    binary main_v213 main_v211 main_v214 ((fun l r => Host.dotGeneral dot_S64x64_S4200x64x7x7_S64x4200x7x7_1_1_0_023_n_n none l r) : (⟨S64x64, .f32⟩ : BufTy).Contents (Elt F) → (⟨S4200x64x7x7, .f32⟩ : BufTy).Contents (Elt F) → (⟨S64x4200x7x7, .f32⟩ : BufTy).Contents (Elt F)),
    unary main_v214 main_v215 ((transpose S4200x64x7x7 [1, 0, 2, 3] · transposes_S64x4200x7x7_S4200x64x7x7_1_0_2_3) : (⟨S64x4200x7x7, .f32⟩ : BufTy).Contents (Elt F) → (⟨S4200x64x7x7, .f32⟩ : BufTy).Contents (Elt F)),
    binary main_v210 main_v215 main_v216 (addf : (⟨S4200x64x7x7, .f32⟩ : BufTy).Contents (Elt F) → (⟨S4200x64x7x7, .f32⟩ : BufTy).Contents (Elt F) → (⟨S4200x64x7x7, .f32⟩ : BufTy).Contents (Elt F)),
    unary main_arg5 main_v217 (broadcastInDim S1x64x1x1 ![1] bcast_S64_S1x64x1x1_1 : (⟨S64, .f32⟩ : BufTy).Contents (Elt F) → (⟨S1x64x1x1, .f32⟩ : BufTy).Contents (Elt F)),
    unary main_v217 main_v218 (broadcastInDim S4200x64x7x7 ![0, 1, 2, 3] bcast_S1x64x1x1_S4200x64x7x7_0_1_2_3 : (⟨S1x64x1x1, .f32⟩ : BufTy).Contents (Elt F) → (⟨S4200x64x7x7, .f32⟩ : BufTy).Contents (Elt F)),
    binary main_v216 main_v218 main_v219 (addf : (⟨S4200x64x7x7, .f32⟩ : BufTy).Contents (Elt F) → (⟨S4200x64x7x7, .f32⟩ : BufTy).Contents (Elt F) → (⟨S4200x64x7x7, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4200x64x7x7, .f32⟩) main_call5_v0) (broadcastInDim S4200x64x7x7 ![] bcast_S_S4200x64x7x7),
    TRef.binary (TRef.of (T := ⟨S4200x64x7x7, .f32⟩) main_v219) (TRef.of (T := ⟨S4200x64x7x7, .f32⟩) main_call5_v0) (TRef.of (T := ⟨S4200x64x7x7, .f32⟩) main_v220) maximumf,
    nullary main_cst_14 (constant S_ .f32 0x00000000#32) ]

/-- The reference's operations 251 … 252 of 390 (window `main_part3`). -/
abbrev ops_part3_2 : List (HloOp τ sig (Elt F)) :=
  [ binary main_v220 main_cst_14 main_v221 ((fun x v => Host.reduceAdd x v reducesTo_S4200x64x7x7_S4200x64_d2_3 h_S_) : (⟨S4200x64x7x7, .f32⟩ : BufTy).Contents (Elt F) → (⟨S_, .f32⟩ : BufTy).Contents (Elt F) → (⟨S4200x64, .f32⟩ : BufTy).Contents (Elt F)),
    nullary main_cst_15 (constant S_ .f32 0x42440000#32) ]

/-- Window `main_part3`'s operations. Not an abbreviation: `main_eq` below splits `ops` into the windows and no further. -/
def ops_part3 : List (HloOp τ sig (Elt F)) :=
  ops_part3_0 ++ (ops_part3_1 ++ (ops_part3_2))

/-- The reference's operations 253 … 282 of 390 (window `main_part4`). -/
abbrev ops_part4_0 : List (HloOp τ sig (Elt F)) :=
  [ unary main_cst_15 main_v222 (broadcastInDim S4200x64 ![] bcast_S_S4200x64 : (⟨S_, .f32⟩ : BufTy).Contents (Elt F) → (⟨S4200x64, .f32⟩ : BufTy).Contents (Elt F)),
    binary main_v221 main_v222 main_v223 (Host.divf : (⟨S4200x64, .f32⟩ : BufTy).Contents (Elt F) → (⟨S4200x64, .f32⟩ : BufTy).Contents (Elt F) → (⟨S4200x64, .f32⟩ : BufTy).Contents (Elt F)),
    binary main_v223 main_arg6 main_v224 ((fun l r => Host.dotGeneral dot_S4200x64_S64x1_S4200x1_1_0_0_1_n_n none l r) : (⟨S4200x64, .f32⟩ : BufTy).Contents (Elt F) → (⟨S64x1, .f32⟩ : BufTy).Contents (Elt F) → (⟨S4200x1, .f32⟩ : BufTy).Contents (Elt F)),
    unary main_arg7 main_v225 (broadcastInDim S1x1 ![1] bcast_S1_S1x1_1 : (⟨S1, .f32⟩ : BufTy).Contents (Elt F) → (⟨S1x1, .f32⟩ : BufTy).Contents (Elt F)),
    unary main_v225 main_v226 (broadcastInDim S4200x1 ![0, 1] bcast_S1x1_S4200x1_0_1 : (⟨S1x1, .f32⟩ : BufTy).Contents (Elt F) → (⟨S4200x1, .f32⟩ : BufTy).Contents (Elt F)),
    binary main_v224 main_v226 main_v227 (addf : (⟨S4200x1, .f32⟩ : BufTy).Contents (Elt F) → (⟨S4200x1, .f32⟩ : BufTy).Contents (Elt F) → (⟨S4200x1, .f32⟩ : BufTy).Contents (Elt F)),
    unary main_v227 main_v228 (Host.negf : (⟨S4200x1, .f32⟩ : BufTy).Contents (Elt F) → (⟨S4200x1, .f32⟩ : BufTy).Contents (Elt F)),
    unary main_v228 main_v229 (Host.exp : (⟨S4200x1, .f32⟩ : BufTy).Contents (Elt F) → (⟨S4200x1, .f32⟩ : BufTy).Contents (Elt F)),
    nullary main_cst_16 (constant S_ .f32 0x3F800000#32),
    unary main_cst_16 main_v230 (broadcastInDim S4200x1 ![] bcast_S_S4200x1 : (⟨S_, .f32⟩ : BufTy).Contents (Elt F) → (⟨S4200x1, .f32⟩ : BufTy).Contents (Elt F)),
    binary main_v230 main_v229 main_v231 (addf : (⟨S4200x1, .f32⟩ : BufTy).Contents (Elt F) → (⟨S4200x1, .f32⟩ : BufTy).Contents (Elt F) → (⟨S4200x1, .f32⟩ : BufTy).Contents (Elt F)),
    nullary main_cst_17 (constant S_ .f32 0x3F800000#32),
    unary main_cst_17 main_v232 (broadcastInDim S4200x1 ![] bcast_S_S4200x1 : (⟨S_, .f32⟩ : BufTy).Contents (Elt F) → (⟨S4200x1, .f32⟩ : BufTy).Contents (Elt F)),
    binary main_v232 main_v231 main_v233 (Host.divf : (⟨S4200x1, .f32⟩ : BufTy).Contents (Elt F) → (⟨S4200x1, .f32⟩ : BufTy).Contents (Elt F) → (⟨S4200x1, .f32⟩ : BufTy).Contents (Elt F)),
    binary main_v223 main_arg8 main_v234 ((fun l r => Host.dotGeneral dot_S4200x64_S64x21_S4200x21_1_0_0_1_n_n none l r) : (⟨S4200x64, .f32⟩ : BufTy).Contents (Elt F) → (⟨S64x21, .f32⟩ : BufTy).Contents (Elt F) → (⟨S4200x21, .f32⟩ : BufTy).Contents (Elt F)),
    unary main_arg9 main_v235 (broadcastInDim S1x21 ![1] bcast_S21_S1x21_1 : (⟨S21, .f32⟩ : BufTy).Contents (Elt F) → (⟨S1x21, .f32⟩ : BufTy).Contents (Elt F)),
    unary main_v235 main_v236 (broadcastInDim S4200x21 ![0, 1] bcast_S1x21_S4200x21_0_1 : (⟨S1x21, .f32⟩ : BufTy).Contents (Elt F) → (⟨S4200x21, .f32⟩ : BufTy).Contents (Elt F)),
    binary main_v234 main_v236 main_v237 (addf : (⟨S4200x21, .f32⟩ : BufTy).Contents (Elt F) → (⟨S4200x21, .f32⟩ : BufTy).Contents (Elt F) → (⟨S4200x21, .f32⟩ : BufTy).Contents (Elt F)),
    binary main_v223 main_arg10 main_v238 ((fun l r => Host.dotGeneral dot_S4200x64_S64x4_S4200x4_1_0_0_1_n_n none l r) : (⟨S4200x64, .f32⟩ : BufTy).Contents (Elt F) → (⟨S64x4, .f32⟩ : BufTy).Contents (Elt F) → (⟨S4200x4, .f32⟩ : BufTy).Contents (Elt F)),
    unary main_arg11 main_v239 (broadcastInDim S1x4 ![1] bcast_S4_S1x4_1 : (⟨S4, .f32⟩ : BufTy).Contents (Elt F) → (⟨S1x4, .f32⟩ : BufTy).Contents (Elt F)),
    unary main_v239 main_v240 (broadcastInDim S4200x4 ![0, 1] bcast_S1x4_S4200x4_0_1 : (⟨S1x4, .f32⟩ : BufTy).Contents (Elt F) → (⟨S4200x4, .f32⟩ : BufTy).Contents (Elt F)),
    binary main_v238 main_v240 main_v241 (addf : (⟨S4200x4, .f32⟩ : BufTy).Contents (Elt F) → (⟨S4200x4, .f32⟩ : BufTy).Contents (Elt F) → (⟨S4200x4, .f32⟩ : BufTy).Contents (Elt F)),
    reshape main_v65 main_v242 (rfl : (.f32 : EltTy) = .f32) shapeCasts_S4x1050_S4200,
    unary main_v242 main_v243 (fptosi 32 : (⟨S4200, .f32⟩ : BufTy).Contents (Elt F) → (⟨S4200, .i32⟩ : BufTy).Contents (Elt F)),
    TRef.nullary (TRef.of (T := ⟨S_, .f32⟩) main_call6_cst) (constant S_ .f32 0xFF800000#32),
    TRef.binary (TRef.of (T := ⟨S4200x21, .f32⟩) main_v237) (TRef.of (T := ⟨S_, .f32⟩) main_call6_cst) (TRef.of (T := ⟨S4200, .f32⟩) main_call6_v0) (fun x v => Host.reduce FloatOps.maximumf x v reducesTo_S4200x21_S4200_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S4200, .f32⟩) main_call6_v1) (broadcastInDim S4200 ![] bcast_S_S4200),
    TRef.binary (TRef.of (T := ⟨S4200, .f32⟩) main_call6_v1) (TRef.of (T := ⟨S4200, .f32⟩) main_call6_v0) (TRef.of (T := ⟨S4200, .f32⟩) main_call6_v2) maximumf,
    TRef.unary (TRef.of (T := ⟨S4200, .f32⟩) main_call6_v2) (TRef.of (T := ⟨S4200x1, .f32⟩) main_call6_v3) (broadcastInDim S4200x1 ![0] bcast_S4200_S4200x1_0) ]

/-- The reference's operations 283 … 312 of 390 (window `main_part4`). -/
abbrev ops_part4_1 : List (HloOp τ sig (Elt F)) :=
  [ TRef.unary (TRef.of (T := ⟨S4200x1, .f32⟩) main_call6_v3) (TRef.of (T := ⟨S4200x21, .f32⟩) main_call6_v4) (broadcastInDim S4200x21 ![0, 1] bcast_S4200x1_S4200x21_0_1),
    TRef.binary (TRef.of (T := ⟨S4200x21, .f32⟩) main_v237) (TRef.of (T := ⟨S4200x21, .f32⟩) main_call6_v4) (TRef.of (T := ⟨S4200x21, .f32⟩) main_call6_v5) subf,
    TRef.unary (TRef.of (T := ⟨S4200x21, .f32⟩) main_call6_v5) (TRef.of (T := ⟨S4200x21, .f32⟩) main_call6_v6) Host.exp,
    TRef.nullary (TRef.of (T := ⟨S_, .f32⟩) main_call6_cst_1) (constant S_ .f32 0x00000000#32),
    TRef.binary (TRef.of (T := ⟨S4200x21, .f32⟩) main_call6_v6) (TRef.of (T := ⟨S_, .f32⟩) main_call6_cst_1) (TRef.of (T := ⟨S4200, .f32⟩) main_call6_v7) (fun x v => Host.reduceAdd x v reducesTo_S4200x21_S4200_d1 h_S_),
    TRef.unary (TRef.of (T := ⟨S4200, .f32⟩) main_call6_v7) (TRef.of (T := ⟨S4200x1, .f32⟩) main_call6_v8) (broadcastInDim S4200x1 ![0] bcast_S4200_S4200x1_0),
    TRef.unary (TRef.of (T := ⟨S4200x1, .f32⟩) main_call6_v8) (TRef.of (T := ⟨S4200x1, .f32⟩) main_call6_v9) Host.log,
    TRef.unary (TRef.of (T := ⟨S4200x1, .f32⟩) main_call6_v9) (TRef.of (T := ⟨S4200x21, .f32⟩) main_call6_v10) (broadcastInDim S4200x21 ![0, 1] bcast_S4200x1_S4200x21_0_1),
    TRef.binary (TRef.of (T := ⟨S4200x21, .f32⟩) main_call6_v5) (TRef.of (T := ⟨S4200x21, .f32⟩) main_call6_v10) (TRef.of (T := ⟨S4200x21, .f32⟩) main_v244) subf,
    unary main_v243 main_v245 (broadcastInDim S4200x1 ![0] bcast_S4200_S4200x1_0 : (⟨S4200, .i32⟩ : BufTy).Contents (Elt F) → (⟨S4200x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S4200x1, .i32⟩) main_call7_v0) (broadcastInDim S4200x1 ![] bcast_S_S4200x1),
    TRef.binary (TRef.of (T := ⟨S4200x1, .i32⟩) main_v245) (TRef.of (T := ⟨S4200x1, .i32⟩) main_call7_v0) (TRef.of (T := ⟨S4200x1, .i1⟩) main_call7_v1) (cmpi .slt),
    TRef.nullary (TRef.of (T := ⟨S_, .i32⟩) main_call7_c_0) (constantI S_ 32 21#32),
    TRef.unary (TRef.of (T := ⟨S_, .i32⟩) main_call7_c_0) (TRef.of (T := ⟨S4200x1, .i32⟩) main_call7_v2) (broadcastInDim S4200x1 ![] bcast_S_S4200x1),
    TRef.binary (TRef.of (T := ⟨S4200x1, .i32⟩) main_v245) (TRef.of (T := ⟨S4200x1, .i32⟩) main_call7_v2) (TRef.of (T := ⟨S4200x1, .i32⟩) main_call7_v3) addi,
    TRef.ternary (TRef.of (T := ⟨S4200x1, .i1⟩) main_call7_v1) (TRef.of (T := ⟨S4200x1, .i32⟩) main_call7_v3) (TRef.of (T := ⟨S4200x1, .i32⟩) main_v245) (TRef.of (T := ⟨S4200x1, .i32⟩) main_call7_v4) select,
    TRef.reshape (TRef.of (T := ⟨S4200x1, .i32⟩) main_call7_v4) (TRef.of (T := ⟨S4200x1x1, .i32⟩) main_call7_v5) (rfl : (.i32 : EltTy) = .i32) shapeCasts_S4200x1_S4200x1x1,
    TRef.nullary (TRef.of (T := ⟨S1, .i32⟩) main_call7_c_1) (constantI S1 32 20#32),
    TRef.nullary (TRef.of (T := ⟨S_, .i32⟩) main_call7_c_2) (constantI S_ 32 0#32),
    TRef.unary (TRef.of (T := ⟨S_, .i32⟩) main_call7_c_2) (TRef.of (T := ⟨S4200x1x1, .i32⟩) main_call7_v6) (broadcastInDim S4200x1x1 ![] bcast_S_S4200x1x1),
    TRef.binary (TRef.of (T := ⟨S4200x1x1, .i32⟩) main_call7_v5) (TRef.of (T := ⟨S4200x1x1, .i32⟩) main_call7_v6) (TRef.of (T := ⟨S4200x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4200x1x1, .i32⟩) main_call7_v9) (broadcastInDim S4200x1x1 ![0, 1, 2] bcast_S1x1x1_S4200x1x1_0_1_2),
    TRef.binary (TRef.of (T := ⟨S4200x1x1, .i32⟩) main_call7_v5) (TRef.of (T := ⟨S4200x1x1, .i32⟩) main_call7_v9) (TRef.of (T := ⟨S4200x1x1, .i1⟩) main_call7_v10) (cmpi .sle),
    TRef.binary (TRef.of (T := ⟨S4200x1x1, .i1⟩) main_call7_v7) (TRef.of (T := ⟨S4200x1x1, .i1⟩) main_call7_v10) (TRef.of (T := ⟨S4200x1x1, .i1⟩) main_call7_v11) andi,
    TRef.nullary (TRef.of (T := ⟨S_, .i1⟩) main_call7_c_3) (constantI S_ 1 1#1),
    TRef.binary (TRef.of (T := ⟨S4200x1x1, .i1⟩) main_call7_v11) (TRef.of (T := ⟨S_, .i1⟩) main_call7_c_3) (TRef.of (T := ⟨S4200x1, .i1⟩) main_call7_v12) (fun x v => Host.reduce IntOp.andi x v reducesTo_S4200x1x1_S4200x1_d2 h_S_),
    TRef.binary (TRef.of (T := ⟨S4200x21, .f32⟩) main_v244) (TRef.of (T := ⟨S4200x1x1, .i32⟩) main_call7_v5) (TRef.of (T := ⟨S4200x1, .f32⟩) main_call7_v13) (fun x i => Host.gather gather_S4200x21_S4200x1x1_S4200x1_n_1_0_0_1_2_11 x i),
    TRef.nullary (TRef.of (T := ⟨S_, .f32⟩) main_call7_cst) (constant S_ .f32 0x7FC00000#32) ]

/-- The reference's operations 313 … 342 of 390 (window `main_part4`). -/
abbrev ops_part4_2 : List (HloOp τ sig (Elt F)) :=
  [ TRef.unary (TRef.of (T := ⟨S_, .f32⟩) main_call7_cst) (TRef.of (T := ⟨S4200x1, .f32⟩) main_call7_v14) (broadcastInDim S4200x1 ![] bcast_S_S4200x1),
    TRef.ternary (TRef.of (T := ⟨S4200x1, .i1⟩) main_call7_v12) (TRef.of (T := ⟨S4200x1, .f32⟩) main_call7_v13) (TRef.of (T := ⟨S4200x1, .f32⟩) main_call7_v14) (TRef.of (T := ⟨S4200x1, .f32⟩) main_v246) select,
    reshape main_v246 main_v247 (rfl : (.f32 : EltTy) = .f32) shapeCasts_S4200x1_S4200,
    unary main_v247 main_v248 (Host.negf : (⟨S4200, .f32⟩ : BufTy).Contents (Elt F) → (⟨S4200, .f32⟩ : BufTy).Contents (Elt F)),
    binary main_v248 main_v79 main_v249 (mulf : (⟨S4200, .f32⟩ : BufTy).Contents (Elt F) → (⟨S4200, .f32⟩ : BufTy).Contents (Elt F) → (⟨S4200, .f32⟩ : BufTy).Contents (Elt F)),
    nullary main_cst_18 (constant S_ .f32 0x00000000#32),
    binary main_v249 main_cst_18 main_v250 ((fun x v => Host.reduceAdd x v reducesTo_S4200_S_d0 h_S_) : (⟨S4200, .f32⟩ : BufTy).Contents (Elt F) → (⟨S_, .f32⟩ : BufTy).Contents (Elt F) → (⟨S_, .f32⟩ : BufTy).Contents (Elt F)),
    binary main_v250 main_v81 main_v251 (Host.divf : (⟨S_, .f32⟩ : BufTy).Contents (Elt F) → (⟨S_, .f32⟩ : BufTy).Contents (Elt F) → (⟨S_, .f32⟩ : BufTy).Contents (Elt F)),
    reshape main_v1 main_v252 (rfl : (.f32 : EltTy) = .f32) shapeCasts_S4x1050x4_S4200x4,
    binary main_v162 main_v252 main_v253 (addf : (⟨S4200x4, .f32⟩ : BufTy).Contents (Elt F) → (⟨S4200x4, .f32⟩ : BufTy).Contents (Elt F) → (⟨S4200x4, .f32⟩ : BufTy).Contents (Elt F)),
    reshape main_v72 main_v254 (rfl : (.f32 : EltTy) = .f32) shapeCasts_S4x1050x4_S4200x4,
    binary main_v253 main_v254 main_v255 (subf : (⟨S4200x4, .f32⟩ : BufTy).Contents (Elt F) → (⟨S4200x4, .f32⟩ : BufTy).Contents (Elt F) → (⟨S4200x4, .f32⟩ : BufTy).Contents (Elt F)),
    unary main_v255 main_v256 (Host.absf : (⟨S4200x4, .f32⟩ : BufTy).Contents (Elt F) → (⟨S4200x4, .f32⟩ : BufTy).Contents (Elt F)),
    nullary main_cst_19 (constant S_ .f32 0x3F800000#32),
    unary main_cst_19 main_v257 (broadcastInDim S4200x4 ![] bcast_S_S4200x4 : (⟨S_, .f32⟩ : BufTy).Contents (Elt F) → (⟨S4200x4, .f32⟩ : BufTy).Contents (Elt F)),
    binary main_v256 main_v257 main_v258 (cmpf .olt : (⟨S4200x4, .f32⟩ : BufTy).Contents (Elt F) → (⟨S4200x4, .f32⟩ : BufTy).Contents (Elt F) → (⟨S4200x4, .i1⟩ : BufTy).Contents (Elt F)),
    nullary main_cst_20 (constant S_ .f32 0x3F000000#32),
    unary main_cst_20 main_v259 (broadcastInDim S4200x4 ![] bcast_S_S4200x4 : (⟨S_, .f32⟩ : BufTy).Contents (Elt F) → (⟨S4200x4, .f32⟩ : BufTy).Contents (Elt F)),
    binary main_v259 main_v255 main_v260 (mulf : (⟨S4200x4, .f32⟩ : BufTy).Contents (Elt F) → (⟨S4200x4, .f32⟩ : BufTy).Contents (Elt F) → (⟨S4200x4, .f32⟩ : BufTy).Contents (Elt F)),
    binary main_v260 main_v255 main_v261 (mulf : (⟨S4200x4, .f32⟩ : BufTy).Contents (Elt F) → (⟨S4200x4, .f32⟩ : BufTy).Contents (Elt F) → (⟨S4200x4, .f32⟩ : BufTy).Contents (Elt F)),
    nullary main_cst_21 (constant S_ .f32 0x3F000000#32),
    unary main_cst_21 main_v262 (broadcastInDim S4200x4 ![] bcast_S_S4200x4 : (⟨S_, .f32⟩ : BufTy).Contents (Elt F) → (⟨S4200x4, .f32⟩ : BufTy).Contents (Elt F)),
    binary main_v256 main_v262 main_v263 (subf : (⟨S4200x4, .f32⟩ : BufTy).Contents (Elt F) → (⟨S4200x4, .f32⟩ : BufTy).Contents (Elt F) → (⟨S4200x4, .f32⟩ : BufTy).Contents (Elt F)),
    TRef.ternary (TRef.of (T := ⟨S4200x4, .i1⟩) main_v258) (TRef.of (T := ⟨S4200x4, .f32⟩) main_v261) (TRef.of (T := ⟨S4200x4, .f32⟩) main_v263) (TRef.of (T := ⟨S4200x4, .f32⟩) main_v264) select,
    unary main_v79 main_v265 (broadcastInDim S4200x1 ![0] bcast_S4200_S4200x1_0 : (⟨S4200, .f32⟩ : BufTy).Contents (Elt F) → (⟨S4200x1, .f32⟩ : BufTy).Contents (Elt F)),
    unary main_v265 main_v266 (broadcastInDim S4200x4 ![0, 1] bcast_S4200x1_S4200x4_0_1 : (⟨S4200x1, .f32⟩ : BufTy).Contents (Elt F) → (⟨S4200x4, .f32⟩ : BufTy).Contents (Elt F)),
    binary main_v264 main_v266 main_v267 (mulf : (⟨S4200x4, .f32⟩ : BufTy).Contents (Elt F) → (⟨S4200x4, .f32⟩ : BufTy).Contents (Elt F) → (⟨S4200x4, .f32⟩ : BufTy).Contents (Elt F)),
    nullary main_cst_22 (constant S_ .f32 0x00000000#32),
    binary main_v267 main_cst_22 main_v268 ((fun x v => Host.reduceAdd x v reducesTo_S4200x4_S_d0_1 h_S_) : (⟨S4200x4, .f32⟩ : BufTy).Contents (Elt F) → (⟨S_, .f32⟩ : BufTy).Contents (Elt F) → (⟨S_, .f32⟩ : BufTy).Contents (Elt F)),
    nullary main_cst_23 (constant S_ .f32 0x40800000#32) ]

/-- The reference's operations 343 … 347 of 390 (window `main_part4`). -/
abbrev ops_part4_3 : List (HloOp τ sig (Elt F)) :=
  [ binary main_v81 main_cst_23 main_v269 (mulf : (⟨S_, .f32⟩ : BufTy).Contents (Elt F) → (⟨S_, .f32⟩ : BufTy).Contents (Elt F) → (⟨S_, .f32⟩ : BufTy).Contents (Elt F)),
    binary main_v268 main_v269 main_v270 (Host.divf : (⟨S_, .f32⟩ : BufTy).Contents (Elt F) → (⟨S_, .f32⟩ : BufTy).Contents (Elt F) → (⟨S_, .f32⟩ : BufTy).Contents (Elt F)),
    reshape main_v154 main_v271 (rfl : (.f32 : EltTy) = .f32) shapeCasts_S4200x1_S4200,
    nullary main_cst_24 (constant S_ .f32 0x33D6BF95#32),
    nullary main_cst_25 (constant S_ .f32 0x3F7FFFFE#32) ]

/-- Window `main_part4`'s operations. Not an abbreviation: `main_eq` below splits `ops` into the windows and no further. -/
def ops_part4 : List (HloOp τ sig (Elt F)) :=
  ops_part4_0 ++ (ops_part4_1 ++ (ops_part4_2 ++ (ops_part4_3)))

/-- The reference's operations 348 … 390 of 390 (window `main_part5`). -/
abbrev ops_part5 : List (HloOp τ sig (Elt F)) :=
  [ TRef.unary (TRef.of (T := ⟨S_, .f32⟩) main_cst_24) (TRef.of (T := ⟨S_, .f32⟩) main_call9_v0) id,
    TRef.unary (TRef.of (T := ⟨S_, .f32⟩) main_call9_v0) (TRef.of (T := ⟨S4200, .f32⟩) main_call9_v1) (broadcastInDim S4200 ![] bcast_S_S4200),
    TRef.binary (TRef.of (T := ⟨S4200, .f32⟩) main_call9_v1) (TRef.of (T := ⟨S4200, .f32⟩) main_v271) (TRef.of (T := ⟨S4200, .f32⟩) main_call9_v2) maximumf,
    TRef.unary (TRef.of (T := ⟨S_, .f32⟩) main_cst_25) (TRef.of (T := ⟨S_, .f32⟩) main_call9_v3) id,
    TRef.unary (TRef.of (T := ⟨S_, .f32⟩) main_call9_v3) (TRef.of (T := ⟨S4200, .f32⟩) main_call9_v4) (broadcastInDim S4200 ![] bcast_S_S4200),
    TRef.binary (TRef.of (T := ⟨S4200, .f32⟩) main_call9_v4) (TRef.of (T := ⟨S4200, .f32⟩) main_call9_v2) (TRef.of (T := ⟨S4200, .f32⟩) main_v272) minimumf,
    reshape main_v233 main_v273 (rfl : (.f32 : EltTy) = .f32) shapeCasts_S4200x1_S4200,
    nullary main_cst_26 (constant S_ .f32 0x33D6BF95#32),
    nullary main_cst_27 (constant S_ .f32 0x3F7FFFFE#32),
    TRef.unary (TRef.of (T := ⟨S_, .f32⟩) main_cst_26) (TRef.of (T := ⟨S_, .f32⟩) main_call10_v0) id,
    TRef.unary (TRef.of (T := ⟨S_, .f32⟩) main_call10_v0) (TRef.of (T := ⟨S4200, .f32⟩) main_call10_v1) (broadcastInDim S4200 ![] bcast_S_S4200),
    TRef.binary (TRef.of (T := ⟨S4200, .f32⟩) main_call10_v1) (TRef.of (T := ⟨S4200, .f32⟩) main_v273) (TRef.of (T := ⟨S4200, .f32⟩) main_call10_v2) maximumf,
    TRef.unary (TRef.of (T := ⟨S_, .f32⟩) main_cst_27) (TRef.of (T := ⟨S_, .f32⟩) main_call10_v3) id,
    TRef.unary (TRef.of (T := ⟨S_, .f32⟩) main_call10_v3) (TRef.of (T := ⟨S4200, .f32⟩) main_call10_v4) (broadcastInDim S4200 ![] bcast_S_S4200),
    TRef.binary (TRef.of (T := ⟨S4200, .f32⟩) main_call10_v4) (TRef.of (T := ⟨S4200, .f32⟩) main_call10_v2) (TRef.of (T := ⟨S4200, .f32⟩) main_v274) minimumf,
    unary main_v272 main_v275 (Host.log : (⟨S4200, .f32⟩ : BufTy).Contents (Elt F) → (⟨S4200, .f32⟩ : BufTy).Contents (Elt F)),
    unary main_v275 main_v276 (Host.negf : (⟨S4200, .f32⟩ : BufTy).Contents (Elt F) → (⟨S4200, .f32⟩ : BufTy).Contents (Elt F)),
    binary main_v276 main_v79 main_v277 (mulf : (⟨S4200, .f32⟩ : BufTy).Contents (Elt F) → (⟨S4200, .f32⟩ : BufTy).Contents (Elt F) → (⟨S4200, .f32⟩ : BufTy).Contents (Elt F)),
    nullary main_cst_28 (constant S_ .f32 0x00000000#32),
    binary main_v277 main_cst_28 main_v278 ((fun x v => Host.reduceAdd x v reducesTo_S4200_S_d0 h_S_) : (⟨S4200, .f32⟩ : BufTy).Contents (Elt F) → (⟨S_, .f32⟩ : BufTy).Contents (Elt F) → (⟨S_, .f32⟩ : BufTy).Contents (Elt F)),
    binary main_v278 main_v81 main_v279 (Host.divf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    unary main_cst_29 main_v280 (broadcastInDim S4200 ![] bcast_S_S4200 : (⟨S_, .f32⟩ : BufTy).Contents (Elt F) → (⟨S4200, .f32⟩ : BufTy).Contents (Elt F)),
    binary main_v280 main_v274 main_v281 (subf : (⟨S4200, .f32⟩ : BufTy).Contents (Elt F) → (⟨S4200, .f32⟩ : BufTy).Contents (Elt F) → (⟨S4200, .f32⟩ : BufTy).Contents (Elt F)),
    unary main_v281 main_v282 (Host.log : (⟨S4200, .f32⟩ : BufTy).Contents (Elt F) → (⟨S4200, .f32⟩ : BufTy).Contents (Elt F)),
    unary main_v282 main_v283 (Host.negf : (⟨S4200, .f32⟩ : BufTy).Contents (Elt F) → (⟨S4200, .f32⟩ : BufTy).Contents (Elt F)),
    binary main_v283 main_v79 main_v284 (mulf : (⟨S4200, .f32⟩ : BufTy).Contents (Elt F) → (⟨S4200, .f32⟩ : BufTy).Contents (Elt F) → (⟨S4200, .f32⟩ : BufTy).Contents (Elt F)),
    nullary main_cst_30 (constant S_ .f32 0x00000000#32),
    binary main_v284 main_cst_30 main_v285 ((fun x v => Host.reduceAdd x v reducesTo_S4200_S_d0 h_S_) : (⟨S4200, .f32⟩ : BufTy).Contents (Elt F) → (⟨S_, .f32⟩ : BufTy).Contents (Elt F) → (⟨S_, .f32⟩ : BufTy).Contents (Elt F)),
    binary main_v285 main_v81 main_v286 (Host.divf : (⟨S_, .f32⟩ : BufTy).Contents (Elt F) → (⟨S_, .f32⟩ : BufTy).Contents (Elt F) → (⟨S_, .f32⟩ : BufTy).Contents (Elt F)),
    nullary main_cst_31 (constant S_ .f32 0x3F000000#32),
    binary main_cst_31 main_v279 main_v287 (mulf : (⟨S_, .f32⟩ : BufTy).Contents (Elt F) → (⟨S_, .f32⟩ : BufTy).Contents (Elt F) → (⟨S_, .f32⟩ : BufTy).Contents (Elt F)),
    nullary main_cst_32 (constant S_ .f32 0x3F000000#32),
    binary main_cst_32 main_v286 main_v288 (mulf : (⟨S_, .f32⟩ : BufTy).Contents (Elt F) → (⟨S_, .f32⟩ : BufTy).Contents (Elt F) → (⟨S_, .f32⟩ : BufTy).Contents (Elt F)),
    binary main_v287 main_v288 main_v289 (addf : (⟨S_, .f32⟩ : BufTy).Contents (Elt F) → (⟨S_, .f32⟩ : BufTy).Contents (Elt F) → (⟨S_, .f32⟩ : BufTy).Contents (Elt F)),
    nullary main_cst_33 (constant S_ .f32 0x3F19999A#32),
    binary main_cst_33 main_v270 main_v290 (mulf : (⟨S_, .f32⟩ : BufTy).Contents (Elt F) → (⟨S_, .f32⟩ : BufTy).Contents (Elt F) → (⟨S_, .f32⟩ : BufTy).Contents (Elt F)),
    nullary main_cst_34 (constant S_ .f32 0x3F19999A#32),
    binary main_cst_34 main_v251 main_v291 (mulf : (⟨S_, .f32⟩ : BufTy).Contents (Elt F) → (⟨S_, .f32⟩ : BufTy).Contents (Elt F) → (⟨S_, .f32⟩ : BufTy).Contents (Elt F)),
    binary main_v290 main_v291 main_v292 (addf : (⟨S_, .f32⟩ : BufTy).Contents (Elt F) → (⟨S_, .f32⟩ : BufTy).Contents (Elt F) → (⟨S_, .f32⟩ : BufTy).Contents (Elt F)),
    nullary main_cst_35 (constant S_ .f32 0x3FE66666#32),
    binary main_cst_35 main_v289 main_v293 (mulf : (⟨S_, .f32⟩ : BufTy).Contents (Elt F) → (⟨S_, .f32⟩ : BufTy).Contents (Elt F) → (⟨S_, .f32⟩ : BufTy).Contents (Elt F)),
    binary main_v292 main_v293 main_v294 (addf : (⟨S_, .f32⟩ : BufTy).Contents (Elt F) → (⟨S_, .f32⟩ : BufTy).Contents (Elt F) → (⟨S_, .f32⟩ : BufTy).Contents (Elt F)) ]

/-- @main's 390 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., binary_bufs_sub .., binary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨reshape_bufs_sub .., unary_bufs_sub .., nullary_bufs_sub .., binary_bufs_sub .., nullary_bufs_sub .., binary_bufs_sub .., reshape_bufs_sub .., reshape_bufs_sub .., nullary_bufs_sub .., unary_bufs_sub .., binary_bufs_sub .., unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨reshape_bufs_sub .., binary_bufs_sub .., unary_bufs_sub .., binary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl⟩
set_option maxRecDepth 8192 in
theorem ops_part3_0_sub : (ops_part3_0 : List (HloOp τ sig (Elt F))).Forall fun op => op.bufs ⊆ tcRefs τ sig :=
  ⟨unary_bufs_sub .., unary_bufs_sub .., reshape_bufs_sub .., binary_bufs_sub .., unary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., nullary_bufs_sub .., unary_bufs_sub .., binary_bufs_sub .., nullary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨binary_bufs_sub .., nullary_bufs_sub ..⟩
set_option maxRecDepth 8192 in
theorem ops_part3_2_fresh : (ops_part3_2 : List (HloOp τ sig (Elt F))).Forall fun op => op.fresh = ∅ :=
  ⟨rfl, rfl⟩
set_option maxRecDepth 8192 in
theorem ops_part4_0_sub : (ops_part4_0 : List (HloOp τ sig (Elt F))).Forall fun op => op.bufs ⊆ tcRefs τ sig :=
  ⟨unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., nullary_bufs_sub .., binary_bufs_sub .., nullary_bufs_sub .., unary_bufs_sub .., binary_bufs_sub .., unary_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨unary_bufs_sub .., ternary_bufs_sub .., reshape_bufs_sub .., unary_bufs_sub .., binary_bufs_sub .., nullary_bufs_sub .., binary_bufs_sub .., binary_bufs_sub .., reshape_bufs_sub .., binary_bufs_sub .., reshape_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., binary_bufs_sub .., nullary_bufs_sub .., binary_bufs_sub .., nullary_bufs_sub ..⟩
set_option maxRecDepth 8192 in
theorem ops_part4_2_fresh : (ops_part4_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_3_sub : (ops_part4_3 : List (HloOp τ sig (Elt F))).Forall fun op => op.bufs ⊆ tcRefs τ sig :=
  ⟨binary_bufs_sub .., binary_bufs_sub .., reshape_bufs_sub .., nullary_bufs_sub .., nullary_bufs_sub ..⟩
set_option maxRecDepth 8192 in
theorem ops_part4_3_fresh : (ops_part4_3 : List (HloOp τ sig (Elt F))).Forall fun op => op.fresh = ∅ :=
  ⟨rfl, rfl, rfl, rfl, rfl⟩
set_option maxRecDepth 8192 in
theorem ops_part5_sub : (ops_part5 : List (HloOp τ sig (Elt F))).Forall fun op => op.bufs ⊆ tcRefs τ sig :=
  ⟨unary_bufs_sub .., unary_bufs_sub .., binary_bufs_sub .., unary_bufs_sub .., unary_bufs_sub .., binary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., binary_bufs_sub .., unary_bufs_sub .., unary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part3, ops_part4, List.mem_append, or_assoc] at h
    rcases h with h | h | h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part4_3_sub op h, List.forall_iff_forall_mem.mp ops_part5_sub op h]
theorem ops_fresh : ∀ op ∈ (ops : List (HloOp τ sig (Elt F))), op.fresh = ∅ := fun op h => by
    simp only [ops, ops_part0, ops_part1, ops_part2, ops_part3, ops_part4, List.mem_append, or_assoc] at h
    rcases h with h | h | h | h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part4_3_fresh op h, List.forall_iff_forall_mem.mp ops_part5_fresh op h]

end Cert.ReferenceIdeal.Value

end
-- ==== Proof.RI.Res.lean ====
module

public import proofs.«01_k».proof.Proof.RI.Ops

@[expose] public section

/-! The reference's longer intermediate arrays, as terms of its arguments. -/

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 2 times). -/
def res_main_v0 (V0 : Valuation τ sig (Elt F)) : (Proc.devRef .tc main_v0 : DevRef τ sig).ty.Contents (Elt F) :=
  shapeCast _ (V0 (Proc.devRef .tc main_arg2)) shapeCasts_S4x21x50x5_S4x1050x5

set_option maxRecDepth 8192 in
/-- `main_v1`'s composed term of the arguments (named: it is used 7 times). -/
def res_main_v1 (V0 : Valuation τ sig (Elt F)) : (Proc.devRef .tc main_v1 : DevRef τ sig).ty.Contents (Elt F) :=
  extractStridedSlice S4x1050x4 ![0, 0, 1] (res_main_v0 V0) slices_S4x1050x5_S4x1050x4_0_0_1

set_option maxRecDepth 8192 in
/-- `main_v4`'s composed term of the arguments (named: it is used 7 times). -/
def res_main_v4 (V0 : Valuation τ sig (Elt F)) : (Proc.devRef .tc main_v4 : DevRef τ sig).ty.Contents (Elt F) :=
  extractStridedSlice S4x20x4 ![0, 0, 0] (V0 (Proc.devRef .tc main_arg3)) slices_S4x20x5_S4x20x4_0_0_0

set_option maxRecDepth 8192 in
/-- `main_v22`'s composed term of the arguments (named: it is used 2 times). -/
def res_main_v22 (V0 : Valuation τ sig (Elt F)) : (Proc.devRef .tc main_v22 : DevRef τ sig).ty.Contents (Elt F) :=
  maximumf (broadcastInDim S4x20x1050x2 ![] bcast_S_S4x20x1050x2 (id (constant S_ .f32 0x00000000#32))) (subf (minimumf (broadcastInDim S4x20x1050x2 ![0, 1, 2, 3] bcast_S4x20x1x2_S4x20x1050x2_0_1_2_3 (broadcastInDim S4x20x1x2 ![0, 1, 3] bcast_S4x20x2_S4x20x1x2_0_1_3 (extractStridedSlice S4x20x2 ![0, 0, 2] (res_main_v4 V0) slices_S4x20x4_S4x20x2_0_0_2))) (broadcastInDim S4x20x1050x2 ![0, 1, 2, 3] bcast_S4x1x1050x2_S4x20x1050x2_0_1_2_3 (broadcastInDim S4x1x1050x2 ![0, 2, 3] bcast_S4x1050x2_S4x1x1050x2_0_2_3 (extractStridedSlice S4x1050x2 ![0, 0, 2] (res_main_v1 V0) slices_S4x1050x4_S4x1050x2_0_0_2)))) (maximumf (broadcastInDim S4x20x1050x2 ![0, 1, 2, 3] bcast_S4x20x1x2_S4x20x1050x2_0_1_2_3 (broadcastInDim S4x20x1x2 ![0, 1, 3] bcast_S4x20x2_S4x20x1x2_0_1_3 (extractStridedSlice S4x20x2 ![0, 0, 0] (res_main_v4 V0) slices_S4x20x4_S4x20x2_0_0_0))) (broadcastInDim S4x20x1050x2 ![0, 1, 2, 3] bcast_S4x1x1050x2_S4x20x1050x2_0_1_2_3 (broadcastInDim S4x1x1050x2 ![0, 2, 3] bcast_S4x1050x2_S4x1x1050x2_0_2_3 (extractStridedSlice S4x1050x2 ![0, 0, 0] (res_main_v1 V0) slices_S4x1050x4_S4x1050x2_0_0_0)))))

set_option maxRecDepth 8192 in
/-- `main_v27`'s composed term of the arguments (named: it is used 2 times). -/
def res_main_v27 (V0 : Valuation τ sig (Elt F)) : (Proc.devRef .tc main_v27 : DevRef τ sig).ty.Contents (Elt F) :=
  mulf (shapeCast _ (extractStridedSlice S4x20x1050x1 ![0, 0, 0, 0] (res_main_v22 V0) slices_S4x20x1050x2_S4x20x1050x1_0_0_0_0) shapeCasts_S4x20x1050x1_S4x20x1050) (shapeCast _ (extractStridedSlice S4x20x1050x1 ![0, 0, 0, 1] (res_main_v22 V0) slices_S4x20x1050x2_S4x20x1050x1_0_0_0_1) shapeCasts_S4x20x1050x1_S4x20x1050)

set_option maxRecDepth 8192 in
/-- `main_v56`'s composed term of the arguments (named: it is used 3 times). -/
def res_main_v56 (V0 : Valuation τ sig (Elt F)) : (Proc.devRef .tc main_v56 : DevRef τ sig).ty.Contents (Elt F) :=
  Host.divf (res_main_v27 V0) (subf (addf (broadcastInDim S4x20x1050 ![0, 1, 2] bcast_S4x20x1_S4x20x1050_0_1_2 (broadcastInDim S4x20x1 ![0, 1] bcast_S4x20_S4x20x1_0_1 (mulf (subf (shapeCast _ (extractStridedSlice S4x20x1 ![0, 0, 2] (res_main_v4 V0) slices_S4x20x4_S4x20x1_0_0_2) shapeCasts_S4x20x1_S4x20) (shapeCast _ (extractStridedSlice S4x20x1 ![0, 0, 0] (res_main_v4 V0) slices_S4x20x4_S4x20x1_0_0_0) shapeCasts_S4x20x1_S4x20)) (subf (shapeCast _ (extractStridedSlice S4x20x1 ![0, 0, 3] (res_main_v4 V0) slices_S4x20x4_S4x20x1_0_0_3) shapeCasts_S4x20x1_S4x20) (shapeCast _ (extractStridedSlice S4x20x1 ![0, 0, 1] (res_main_v4 V0) slices_S4x20x4_S4x20x1_0_0_1) shapeCasts_S4x20x1_S4x20))))) (broadcastInDim S4x20x1050 ![0, 1, 2] bcast_S4x1x1050_S4x20x1050_0_1_2 (broadcastInDim S4x1x1050 ![0, 2] bcast_S4x1050_S4x1x1050_0_2 (mulf (subf (shapeCast _ (extractStridedSlice S4x1050x1 ![0, 0, 2] (res_main_v1 V0) slices_S4x1050x4_S4x1050x1_0_0_2) shapeCasts_S4x1050x1_S4x1050) (shapeCast _ (extractStridedSlice S4x1050x1 ![0, 0, 0] (res_main_v1 V0) slices_S4x1050x4_S4x1050x1_0_0_0) shapeCasts_S4x1050x1_S4x1050)) (subf (shapeCast _ (extractStridedSlice S4x1050x1 ![0, 0, 3] (res_main_v1 V0) slices_S4x1050x4_S4x1050x1_0_0_3) shapeCasts_S4x1050x1_S4x1050) (shapeCast _ (extractStridedSlice S4x1050x1 ![0, 0, 1] (res_main_v1 V0) slices_S4x1050x4_S4x1050x1_0_0_1) shapeCasts_S4x1050x1_S4x1050)))))) (res_main_v27 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S4x20x1050 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v58`'s composed term of the arguments (named: it is used 6 times). -/
def res_main_v58 (V0 : Valuation τ sig (Elt F)) : (Proc.devRef .tc main_v58 : DevRef τ sig).ty.Contents (Elt F) :=
  (fun j => (Host.argReduce reducer_argmax_f32_i32 (res_main_v56 V0) (res_main_call1_v0 V0) (res_main_call1_cst V0) (res_main_call1_c V0) reducesTo_S4x20x1050_S4x1050_d1 h_S_ j).2)

set_option maxRecDepth 8192 in
/-- `main_v79`'s composed term of the arguments (named: it is used 5 times). -/
def res_main_v79 (V0 : Valuation τ sig (Elt F)) : (Proc.devRef .tc main_v79 : DevRef τ sig).ty.Contents (Elt F) :=
  uitofp .f32 (shapeCast _ (andi (cmpf .oge (Host.reduce FloatOps.maximumf (res_main_v56 V0) (constant S_ .f32 0xFF800000#32) reducesTo_S4x20x1050_S4x1050_d1 h_S_) (broadcastInDim S4x1050 ![] bcast_S_S4x1050 (constant S_ .f32 0x3E99999A#32))) (cmpf .oge (shapeCast _ (extractStridedSlice S4x1050x1 ![0, 0, 0] (res_main_v0 V0) slices_S4x1050x5_S4x1050x1_0_0_0) shapeCasts_S4x1050x1_S4x1050) (broadcastInDim S4x1050 ![] bcast_S_S4x1050 (constant S_ .f32 0x3C23D70A#32)))) shapeCasts_S4x1050_S4200)

set_option maxRecDepth 8192 in
/-- `main_v81`'s composed term of the arguments (named: it is used 4 times). -/
def res_main_v81 (V0 : Valuation τ sig (Elt F)) : (Proc.devRef .tc main_v81 : DevRef τ sig).ty.Contents (Elt F) :=
  maximumf (Host.reduceAdd (res_main_v79 V0) (constant S_ .f32 0x00000000#32) reducesTo_S4200_S_d0 h_S_) (constant S_ .f32 0x3F800000#32)

set_option maxRecDepth 8192 in
/-- `main_v84`'s composed term of the arguments (named: it is used 9 times). -/
def res_main_v84 (V0 : Valuation τ sig (Elt F)) : (Proc.devRef .tc main_v84 : DevRef τ sig).ty.Contents (Elt F) :=
  pad S4200x64x9x9 ![0, 0, 1, 1] ![0, 0, 1, 1] ![0, 0, 0, 0] (shapeCast _ (V0 (Proc.devRef .tc main_arg0)) shapeCasts_S4x21x50x64x7x7_S4200x64x7x7) (sitofp .f32 (constantI S_ 32 0#32)) pads_S4200x64x7x7_S4200x64x9x9_000_000_110_110 h_S_

set_option maxRecDepth 8192 in
/-- `main_v140`'s composed term of the arguments (named: it is long). -/
def res_main_v140 (V0 : Valuation τ sig (Elt F)) : (Proc.devRef .tc main_v140 : DevRef τ sig).ty.Contents (Elt F) :=
  addf (addf (addf (addf (addf (addf (addf (addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v84 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v84 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v84 V0) slices_S4200x64x9x9_S4200x64x7x7_0_0_0_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 0] (V0 (Proc.devRef .tc main_arg4)) slices_S64x64x3x3_S64x64x1x1_0_0_1_0) shapeCasts_S64x64x1x1_S64x64) (extractStridedSlice S4200x64x7x7 ![0, 0, 1, 0] (res_main_v84 V0) slices_S4200x64x9x9_S4200x64x7x7_0_0_1_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 1] (V0 (Proc.devRef .tc main_arg4)) slices_S64x64x3x3_S64x64x1x1_0_0_1_1) shapeCasts_S64x64x1x1_S64x64) (extractStridedSlice S4200x64x7x7 ![0, 0, 1, 1] (res_main_v84 V0) slices_S4200x64x9x9_S4200x64x7x7_0_0_1_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 2] (V0 (Proc.devRef .tc main_arg4)) slices_S64x64x3x3_S64x64x1x1_0_0_1_2) shapeCasts_S64x64x1x1_S64x64) (extractStridedSlice S4200x64x7x7 ![0, 0, 1, 2] (res_main_v84 V0) slices_S4200x64x9x9_S4200x64x7x7_0_0_1_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 0] (V0 (Proc.devRef .tc main_arg4)) slices_S64x64x3x3_S64x64x1x1_0_0_2_0) shapeCasts_S64x64x1x1_S64x64) (extractStridedSlice S4200x64x7x7 ![0, 0, 2, 0] (res_main_v84 V0) slices_S4200x64x9x9_S4200x64x7x7_0_0_2_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 1] (V0 (Proc.devRef .tc main_arg4)) slices_S64x64x3x3_S64x64x1x1_0_0_2_1) shapeCasts_S64x64x1x1_S64x64) (extractStridedSlice S4200x64x7x7 ![0, 0, 2, 1] (res_main_v84 V0) slices_S4200x64x9x9_S4200x64x7x7_0_0_2_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 2] (V0 (Proc.devRef .tc main_arg4)) slices_S64x64x3x3_S64x64x1x1_0_0_2_2) shapeCasts_S64x64x1x1_S64x64) (extractStridedSlice S4200x64x7x7 ![0, 0, 2, 2] (res_main_v84 V0) slices_S4200x64x9x9_S4200x64x7x7_0_0_2_2)) transposes_S64x4200x7x7_S4200x64x7x7_1_0_2_3)) (broadcastInDim S4200x64x7x7 ![0, 1, 2, 3] bcast_S1x64x1x1_S4200x64x7x7_0_1_2_3 (broadcastInDim S1x64x1x1 ![1] bcast_S64_S1x64x1x1_1 (V0 (Proc.devRef .tc main_arg5))))

set_option maxRecDepth 8192 in
/-- `main_v144`'s composed term of the arguments (named: it is used 3 times). -/
def res_main_v144 (V0 : Valuation τ sig (Elt F)) : (Proc.devRef .tc main_v144 : DevRef τ sig).ty.Contents (Elt F) :=
  Host.divf (Host.reduceAdd (maximumf (res_main_v140 V0) (broadcastInDim S4200x64x7x7 ![] bcast_S_S4200x64x7x7 (constant S_ .f32 0x00000000#32))) (constant S_ .f32 0x00000000#32) reducesTo_S4200x64x7x7_S4200x64_d2_3 h_S_) (broadcastInDim S4200x64 ![] bcast_S_S4200x64 (constant S_ .f32 0x42440000#32))

set_option maxRecDepth 8192 in
/-- `main_v163`'s composed term of the arguments (named: it is used 9 times). -/
def res_main_v163 (V0 : Valuation τ sig (Elt F)) : (Proc.devRef .tc main_v163 : DevRef τ sig).ty.Contents (Elt F) :=
  pad S4200x64x9x9 ![0, 0, 1, 1] ![0, 0, 1, 1] ![0, 0, 0, 0] (shapeCast _ (V0 (Proc.devRef .tc main_arg1)) shapeCasts_S4x21x50x64x7x7_S4200x64x7x7) (sitofp .f32 (constantI S_ 32 0#32)) pads_S4200x64x7x7_S4200x64x9x9_000_000_110_110 h_S_

set_option maxRecDepth 8192 in
/-- `main_v219`'s composed term of the arguments (named: it is long). -/
def res_main_v219 (V0 : Valuation τ sig (Elt F)) : (Proc.devRef .tc main_v219 : DevRef τ sig).ty.Contents (Elt F) :=
  addf (addf (addf (addf (addf (addf (addf (addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v163 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v163 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v163 V0) slices_S4200x64x9x9_S4200x64x7x7_0_0_0_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 0] (V0 (Proc.devRef .tc main_arg4)) slices_S64x64x3x3_S64x64x1x1_0_0_1_0) shapeCasts_S64x64x1x1_S64x64) (extractStridedSlice S4200x64x7x7 ![0, 0, 1, 0] (res_main_v163 V0) slices_S4200x64x9x9_S4200x64x7x7_0_0_1_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 1] (V0 (Proc.devRef .tc main_arg4)) slices_S64x64x3x3_S64x64x1x1_0_0_1_1) shapeCasts_S64x64x1x1_S64x64) (extractStridedSlice S4200x64x7x7 ![0, 0, 1, 1] (res_main_v163 V0) slices_S4200x64x9x9_S4200x64x7x7_0_0_1_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 2] (V0 (Proc.devRef .tc main_arg4)) slices_S64x64x3x3_S64x64x1x1_0_0_1_2) shapeCasts_S64x64x1x1_S64x64) (extractStridedSlice S4200x64x7x7 ![0, 0, 1, 2] (res_main_v163 V0) slices_S4200x64x9x9_S4200x64x7x7_0_0_1_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 0] (V0 (Proc.devRef .tc main_arg4)) slices_S64x64x3x3_S64x64x1x1_0_0_2_0) shapeCasts_S64x64x1x1_S64x64) (extractStridedSlice S4200x64x7x7 ![0, 0, 2, 0] (res_main_v163 V0) slices_S4200x64x9x9_S4200x64x7x7_0_0_2_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 1] (V0 (Proc.devRef .tc main_arg4)) slices_S64x64x3x3_S64x64x1x1_0_0_2_1) shapeCasts_S64x64x1x1_S64x64) (extractStridedSlice S4200x64x7x7 ![0, 0, 2, 1] (res_main_v163 V0) slices_S4200x64x9x9_S4200x64x7x7_0_0_2_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 2] (V0 (Proc.devRef .tc main_arg4)) slices_S64x64x3x3_S64x64x1x1_0_0_2_2) shapeCasts_S64x64x1x1_S64x64) (extractStridedSlice S4200x64x7x7 ![0, 0, 2, 2] (res_main_v163 V0) slices_S4200x64x9x9_S4200x64x7x7_0_0_2_2)) transposes_S64x4200x7x7_S4200x64x7x7_1_0_2_3)) (broadcastInDim S4200x64x7x7 ![0, 1, 2, 3] bcast_S1x64x1x1_S4200x64x7x7_0_1_2_3 (broadcastInDim S1x64x1x1 ![1] bcast_S64_S1x64x1x1_1 (V0 (Proc.devRef .tc main_arg5))))

set_option maxRecDepth 8192 in
/-- `main_v223`'s composed term of the arguments (named: it is used 3 times). -/
def res_main_v223 (V0 : Valuation τ sig (Elt F)) : (Proc.devRef .tc main_v223 : DevRef τ sig).ty.Contents (Elt F) :=
  Host.divf (Host.reduceAdd (maximumf (res_main_v219 V0) (broadcastInDim S4200x64x7x7 ![] bcast_S_S4200x64x7x7 (constant S_ .f32 0x00000000#32))) (constant S_ .f32 0x00000000#32) reducesTo_S4200x64x7x7_S4200x64_d2_3 h_S_) (broadcastInDim S4200x64 ![] bcast_S_S4200x64 (constant S_ .f32 0x42440000#32))

set_option maxRecDepth 8192 in
/-- `main_v237`'s composed term of the arguments (named: it is used 2 times). -/
def res_main_v237 (V0 : Valuation τ sig (Elt F)) : (Proc.devRef .tc main_v237 : DevRef τ sig).ty.Contents (Elt F) :=
  addf (Host.dotGeneral dot_S4200x64_S64x21_S4200x21_1_0_0_1_n_n none (res_main_v223 V0) (V0 (Proc.devRef .tc main_arg8))) (broadcastInDim S4200x21 ![0, 1] bcast_S1x21_S4200x21_0_1 (broadcastInDim S1x21 ![1] bcast_S21_S1x21_1 (V0 (Proc.devRef .tc main_arg9))))

set_option maxRecDepth 8192 in
/-- `main_call6_v5`'s composed term of the arguments (named: it is used 2 times). -/
def res_main_call6_v5 (V0 : Valuation τ sig (Elt F)) : (Proc.devRef .tc main_call6_v5 : DevRef τ sig).ty.Contents (Elt F) :=
  subf (res_main_v237 V0) (broadcastInDim S4200x21 ![0, 1] bcast_S4200x1_S4200x21_0_1 (broadcastInDim S4200x1 ![0] bcast_S4200_S4200x1_0 (maximumf (broadcastInDim S4200 ![] bcast_S_S4200 (constant S_ .f32 0xFF800000#32)) (Host.reduce FloatOps.maximumf (res_main_v237 V0) (constant S_ .f32 0xFF800000#32) reducesTo_S4200x21_S4200_d1 h_S_))))

set_option maxRecDepth 8192 in
/-- `main_v245`'s composed term of the arguments (named: it is used 3 times). -/
def res_main_v245 (V0 : Valuation τ sig (Elt F)) : (Proc.devRef .tc main_v245 : DevRef τ sig).ty.Contents (Elt F) :=
  broadcastInDim S4200x1 ![0] bcast_S4200_S4200x1_0 (fptosi 32 (shapeCast _ (Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0)))) shapeCasts_S4x1050_S4200))

set_option maxRecDepth 8192 in
/-- `main_call7_v5`'s composed term of the arguments (named: it is used 3 times). -/
def res_main_call7_v5 (V0 : Valuation τ sig (Elt F)) : (Proc.devRef .tc main_call7_v5 : DevRef τ sig).ty.Contents (Elt F) :=
  shapeCast _ (select (cmpi .slt (res_main_v245 V0) (broadcastInDim S4200x1 ![] bcast_S_S4200x1 (constantI S_ 32 0#32))) (addi (res_main_v245 V0) (broadcastInDim S4200x1 ![] bcast_S_S4200x1 (constantI S_ 32 21#32))) (res_main_v245 V0)) shapeCasts_S4200x1_S4200x1x1

set_option maxRecDepth 8192 in
/-- `main_v255`'s composed term of the arguments (named: it is used 3 times). -/
def res_main_v255 (V0 : Valuation τ sig (Elt F)) : (Proc.devRef .tc main_v255 : DevRef τ sig).ty.Contents (Elt F) :=
  subf (addf (addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11))))) (shapeCast _ (res_main_v1 V0) shapeCasts_S4x1050x4_S4200x4)) (shapeCast _ (Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0)))) shapeCasts_S4x1050x4_S4200x4)

set_option maxRecDepth 8192 in
/-- `main_v256`'s composed term of the arguments (named: it is used 2 times). -/
def res_main_v256 (V0 : Valuation τ sig (Elt F)) : (Proc.devRef .tc main_v256 : DevRef τ sig).ty.Contents (Elt F) :=
  Host.absf (res_main_v255 V0)

end Cert.ReferenceIdeal.Value

end
-- ==== Proof.RI.Run.lean ====
module

public import proofs.«01_k».proof.Proof.RI.Res

@[expose] public section

/-! The reference's run: each result at its term of the arguments, the arguments unchanged. -/

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_cst, main_call0_v0, main_call0_v1, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v3 (V0 : Valuation τ sig (Elt F)) : val0_1 V0 (no_index (Proc.devRef .tc main_v3)) = shapeCast _ (extractStridedSlice S4x1050x1 ![0, 0, 0] (res_main_v0 V0) slices_S4x1050x5_S4x1050x1_0_0_0) shapeCasts_S4x1050x1_S4x1050 := by
  unfold val0_1
  simp only [ops_part0_0, TRef.binary, TRef.unary, TRef.toBuf, TRef.ofBuf, cast_eq]
  after_results_simp
  simp only [val0_main_arg2] <;> rfl
set_option maxRecDepth 8192 in
set_option maxHeartbeats 2000000 in
theorem val0_1_main_v4 (V0 : Valuation τ sig (Elt F)) : val0_1 V0 (no_index (Proc.devRef .tc main_v4)) = res_main_v4 V0 := by
  unfold val0_1
  simp only [ops_part0_0, TRef.binary, TRef.unary, TRef.toBuf, TRef.ofBuf, cast_eq]
  after_results_simp
  simp only [val0_main_arg3] <;> rfl
set_option maxRecDepth 8192 in
set_option maxHeartbeats 2000000 in
theorem val0_1_main_v6 (V0 : Valuation τ sig (Elt F)) : val0_1 V0 (no_index (Proc.devRef .tc main_v6)) = shapeCast _ (extractStridedSlice S4x20x1 ![0, 0, 4] (V0 (Proc.devRef .tc main_arg3)) slices_S4x20x5_S4x20x1_0_0_4) shapeCasts_S4x20x1_S4x20 := by
  unfold val0_1
  simp only [ops_part0_0, TRef.binary, TRef.unary, TRef.toBuf, TRef.ofBuf, cast_eq]
  after_results_simp
  simp only [val0_main_arg3] <;> rfl
set_option maxRecDepth 8192 in
set_option maxHeartbeats 2000000 in
theorem val0_1_main_v24 (V0 : Valuation τ sig (Elt F)) : val0_1 V0 (no_index (Proc.devRef .tc main_v24)) = shapeCast _ (extractStridedSlice S4x20x1050x1 ![0, 0, 0, 0] (res_main_v22 V0) slices_S4x20x1050x2_S4x20x1050x1_0_0_0_0) shapeCasts_S4x20x1050x1_S4x20x1050 := by
  unfold val0_1
  simp only [ops_part0_0, TRef.binary, TRef.unary, TRef.toBuf, TRef.ofBuf, cast_eq]
  after_results_simp
  simp only [val0_main_arg2, val0_main_arg3] <;> rfl
set_option maxRecDepth 8192 in
set_option maxHeartbeats 2000000 in
theorem val0_1_main_v26 (V0 : Valuation τ sig (Elt F)) : val0_1 V0 (no_index (Proc.devRef .tc main_v26)) = shapeCast _ (extractStridedSlice S4x20x1050x1 ![0, 0, 0, 1] (res_main_v22 V0) slices_S4x20x1050x2_S4x20x1050x1_0_0_0_1) shapeCasts_S4x20x1050x1_S4x20x1050 := by
  unfold val0_1
  simp only [ops_part0_0, TRef.binary, TRef.unary, TRef.toBuf, TRef.ofBuf, cast_eq]
  after_results_simp
  simp only [val0_main_arg2, val0_main_arg3] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
set_option maxRecDepth 8192 in
theorem ops_part0_1_writes : (ops_part0_1 : List (HloOp τ sig (Elt F))).Forall fun op => op.writes ⊆ (ops_part0_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_v1 (V0 : Valuation τ sig (Elt F)) : val0_2 V0 (no_index (Proc.devRef .tc main_v1)) = res_main_v1 V0 :=
  (val0_2_keep V0 main_v1 (by decide)).trans (val0_1_main_v1 V0)
theorem val0_2_main_v3 (V0 : Valuation τ sig (Elt F)) : val0_2 V0 (no_index (Proc.devRef .tc main_v3)) = shapeCast _ (extractStridedSlice S4x1050x1 ![0, 0, 0] (res_main_v0 V0) slices_S4x1050x5_S4x1050x1_0_0_0) shapeCasts_S4x1050x1_S4x1050 :=
  (val0_2_keep V0 main_v3 (by decide)).trans (val0_1_main_v3 V0)
theorem val0_2_main_v4 (V0 : Valuation τ sig (Elt F)) : val0_2 V0 (no_index (Proc.devRef .tc main_v4)) = res_main_v4 V0 :=
  (val0_2_keep V0 main_v4 (by decide)).trans (val0_1_main_v4 V0)
theorem val0_2_main_v6 (V0 : Valuation τ sig (Elt F)) : val0_2 V0 (no_index (Proc.devRef .tc main_v6)) = shapeCast _ (extractStridedSlice S4x20x1 ![0, 0, 4] (V0 (Proc.devRef .tc main_arg3)) slices_S4x20x5_S4x20x1_0_0_4) shapeCasts_S4x20x1_S4x20 :=
  (val0_2_keep V0 main_v6 (by decide)).trans (val0_1_main_v6 V0)
set_option maxRecDepth 8192 in
set_option maxHeartbeats 2000000 in
theorem val0_2_main_v56 (V0 : Valuation τ sig (Elt F)) : val0_2 V0 (no_index (Proc.devRef .tc main_v56)) = res_main_v56 V0 := by
  unfold val0_2
  simp only [ops_part0_1]
  after_results_simp
  simp only [val0_1_main_v1, val0_1_main_v4, val0_1_main_v26, val0_1_main_v24] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_cst_0, main_v57]
set_option maxRecDepth 8192 in
theorem ops_part0_2_writes : (ops_part0_2 : List (HloOp τ sig (Elt F))).Forall fun op => op.writes ⊆ (ops_part0_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_v1 (V0 : Valuation τ sig (Elt F)) : val1 V0 (no_index (Proc.devRef .tc main_v1)) = res_main_v1 V0 :=
  (val1_keep V0 main_v1 (by decide)).trans (val0_2_main_v1 V0)
theorem val1_main_v3 (V0 : Valuation τ sig (Elt F)) : val1 V0 (no_index (Proc.devRef .tc main_v3)) = shapeCast _ (extractStridedSlice S4x1050x1 ![0, 0, 0] (res_main_v0 V0) slices_S4x1050x5_S4x1050x1_0_0_0) shapeCasts_S4x1050x1_S4x1050 :=
  (val1_keep V0 main_v3 (by decide)).trans (val0_2_main_v3 V0)
theorem val1_main_v4 (V0 : Valuation τ sig (Elt F)) : val1 V0 (no_index (Proc.devRef .tc main_v4)) = res_main_v4 V0 :=
  (val1_keep V0 main_v4 (by decide)).trans (val0_2_main_v4 V0)
theorem val1_main_v6 (V0 : Valuation τ sig (Elt F)) : val1 V0 (no_index (Proc.devRef .tc main_v6)) = shapeCast _ (extractStridedSlice S4x20x1 ![0, 0, 4] (V0 (Proc.devRef .tc main_arg3)) slices_S4x20x5_S4x20x1_0_0_4) shapeCasts_S4x20x1_S4x20 :=
  (val1_keep V0 main_v6 (by decide)).trans (val0_2_main_v6 V0)
theorem val1_main_v56 (V0 : Valuation τ sig (Elt F)) : val1 V0 (no_index (Proc.devRef .tc main_v56)) = res_main_v56 V0 :=
  (val1_keep V0 main_v56 (by decide)).trans (val0_2_main_v56 V0)
set_option maxRecDepth 8192 in
theorem val1_main_v57 (V0 : Valuation τ sig (Elt F)) : val1 V0 (no_index (Proc.devRef .tc main_v57)) = Host.reduce FloatOps.maximumf (res_main_v56 V0) (constant S_ .f32 0xFF800000#32) reducesTo_S4x20x1050_S4x1050_d1 h_S_ := by
  unfold val1
  simp only [ops_part0_2]
  after_results_simp
  simp only [val0_2_main_v56] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_call1_v0, main_call1_cst, main_call1_c, main_call1_v1_0, main_v58, main_c, main_v59, main_v60, main_c_1, main_v61, main_v62, main_v63, main_v64, main_v65, main_c_2, main_v66, main_v67, main_c_3, main_v68, main_v69, main_v70, main_v71, main_v72, main_cst_4, main_v73, main_v74, main_cst_5, main_v75, main_v76, main_v77]
set_option maxRecDepth 8192 in
theorem ops_part1_0_writes : (ops_part1_0 : List (HloOp τ sig (Elt F))).Forall fun op => op.writes ⊆ (ops_part1_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
theorem val1_1_main_v1 (V0 : Valuation τ sig (Elt F)) : val1_1 V0 (no_index (Proc.devRef .tc main_v1)) = res_main_v1 V0 :=
  (val1_1_keep V0 main_v1 (by decide)).trans (val1_main_v1 V0)
set_option maxRecDepth 8192 in
set_option maxHeartbeats 2000000 in
theorem val1_1_main_v65 (V0 : Valuation τ sig (Elt F)) : val1_1 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) := by
  unfold val1_1
  simp only [ops_part1_0, TRef.nullary, TRef.quaternary, TRef.toBuf, TRef.ofBuf, cast_eq]
  after_results_simp
  simp only [val1_main_v56, val1_main_v6] <;> rfl
set_option maxRecDepth 8192 in
set_option maxHeartbeats 2000000 in
theorem val1_1_main_v72 (V0 : Valuation τ sig (Elt F)) : val1_1 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) := by
  unfold val1_1
  simp only [ops_part1_0, TRef.nullary, TRef.quaternary, TRef.toBuf, TRef.ofBuf, cast_eq]
  after_results_simp
  simp only [val1_main_v56, val1_main_v4] <;> rfl
set_option maxRecDepth 8192 in
set_option maxHeartbeats 2000000 in
theorem val1_1_main_v77 (V0 : Valuation τ sig (Elt F)) : val1_1 V0 (no_index (Proc.devRef .tc main_v77)) = andi (cmpf .oge (Host.reduce FloatOps.maximumf (res_main_v56 V0) (constant S_ .f32 0xFF800000#32) reducesTo_S4x20x1050_S4x1050_d1 h_S_) (broadcastInDim S4x1050 ![] bcast_S_S4x1050 (constant S_ .f32 0x3E99999A#32))) (cmpf .oge (shapeCast _ (extractStridedSlice S4x1050x1 ![0, 0, 0] (res_main_v0 V0) slices_S4x1050x5_S4x1050x1_0_0_0) shapeCasts_S4x1050x1_S4x1050) (broadcastInDim S4x1050 ![] bcast_S_S4x1050 (constant S_ .f32 0x3C23D70A#32))) := by
  unfold val1_1
  simp only [ops_part1_0, TRef.nullary, TRef.quaternary, TRef.toBuf, TRef.ofBuf, cast_eq]
  after_results_simp
  simp only [val1_main_v3, val1_main_v57] <;> rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v78, main_v79, main_cst_6, main_v80, main_cst_7, main_v81, main_v82, main_v83, main_c_8, main_call2_v0, main_v84, main_v85, main_v86, main_v87, main_v88, main_v89, main_v90, main_v91, main_v92, main_v93, main_v94, main_v95, main_v96, main_v97, main_v98, main_v99, main_v100, main_v101, main_v102, main_v103]
set_option maxRecDepth 8192 in
theorem ops_part1_1_writes : (ops_part1_1 : List (HloOp τ sig (Elt F))).Forall fun op => op.writes ⊆ (ops_part1_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
theorem val1_2_main_v1 (V0 : Valuation τ sig (Elt F)) : val1_2 V0 (no_index (Proc.devRef .tc main_v1)) = res_main_v1 V0 :=
  (val1_2_keep V0 main_v1 (by decide)).trans (val1_1_main_v1 V0)
theorem val1_2_main_v65 (V0 : Valuation τ sig (Elt F)) : val1_2 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val1_2_keep V0 main_v65 (by decide)).trans (val1_1_main_v65 V0)
theorem val1_2_main_v72 (V0 : Valuation τ sig (Elt F)) : val1_2 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val1_2_keep V0 main_v72 (by decide)).trans (val1_1_main_v72 V0)
set_option maxRecDepth 8192 in
set_option maxHeartbeats 2000000 in
theorem val1_2_main_v79 (V0 : Valuation τ sig (Elt F)) : val1_2 V0 (no_index (Proc.devRef .tc main_v79)) = res_main_v79 V0 := by
  unfold val1_2
  simp only [ops_part1_1, TRef.binary, TRef.unary, TRef.toBuf, TRef.ofBuf, cast_eq]
  after_results_simp
  simp only [val1_1_main_v77] <;> rfl
set_option maxRecDepth 8192 in
set_option maxHeartbeats 2000000 in
theorem val1_2_main_v81 (V0 : Valuation τ sig (Elt F)) : val1_2 V0 (no_index (Proc.devRef .tc main_v81)) = res_main_v81 V0 := by
  unfold val1_2
  simp only [ops_part1_1, TRef.binary, TRef.unary, TRef.toBuf, TRef.ofBuf, cast_eq]
  after_results_simp
  simp only [val1_1_main_v77] <;> rfl
set_option maxRecDepth 8192 in
set_option maxHeartbeats 2000000 in
theorem val1_2_main_v83 (V0 : Valuation τ sig (Elt F)) : val1_2 V0 (no_index (Proc.devRef .tc main_v83)) = shapeCast _ (V0 (Proc.devRef .tc main_arg1)) shapeCasts_S4x21x50x64x7x7_S4200x64x7x7 := by
  unfold val1_2
  simp only [ops_part1_1, TRef.binary, TRef.unary, TRef.toBuf, TRef.ofBuf, cast_eq]
  after_results_simp
  simp only [val1_1_main_arg1] <;> rfl
set_option maxRecDepth 8192 in
set_option maxHeartbeats 2000000 in
theorem val1_2_main_v84 (V0 : Valuation τ sig (Elt F)) : val1_2 V0 (no_index (Proc.devRef .tc main_v84)) = res_main_v84 V0 := by
  unfold val1_2
  simp only [ops_part1_1, TRef.binary, TRef.unary, TRef.toBuf, TRef.ofBuf, cast_eq]
  after_results_simp
  simp only [val1_1_main_arg0] <;> rfl
set_option maxRecDepth 8192 in
set_option maxHeartbeats 2000000 in
theorem val1_2_main_v101 (V0 : Valuation τ sig (Elt F)) : val1_2 V0 (no_index (Proc.devRef .tc main_v101)) = addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v84 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v84 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v84 V0) slices_S4200x64x9x9_S4200x64x7x7_0_0_0_2)) transposes_S64x4200x7x7_S4200x64x7x7_1_0_2_3) := by
  unfold val1_2
  simp only [ops_part1_1, TRef.binary, TRef.unary, TRef.toBuf, TRef.ofBuf, cast_eq]
  after_results_simp
  simp only [val1_1_main_arg0, val1_1_main_arg4] <;> rfl
set_option maxRecDepth 8192 in
set_option maxHeartbeats 2000000 in
theorem val1_2_main_v102 (V0 : Valuation τ sig (Elt F)) : val1_2 V0 (no_index (Proc.devRef .tc main_v102)) = extractStridedSlice S4200x64x7x7 ![0, 0, 1, 0] (res_main_v84 V0) slices_S4200x64x9x9_S4200x64x7x7_0_0_1_0 := by
  unfold val1_2
  simp only [ops_part1_1, TRef.binary, TRef.unary, TRef.toBuf, TRef.ofBuf, cast_eq]
  after_results_simp
  simp only [val1_1_main_arg0] <;> rfl
set_option maxRecDepth 8192 in
set_option maxHeartbeats 2000000 in
theorem val1_2_main_v103 (V0 : Valuation τ sig (Elt F)) : val1_2 V0 (no_index (Proc.devRef .tc main_v103)) = extractStridedSlice S64x64x1x1 ![0, 0, 1, 0] (V0 (Proc.devRef .tc main_arg4)) slices_S64x64x3x3_S64x64x1x1_0_0_1_0 := by
  unfold val1_2
  simp only [ops_part1_1, TRef.binary, TRef.unary, TRef.toBuf, TRef.ofBuf, cast_eq]
  after_results_simp
  simp only [val1_1_main_arg4] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v104, main_v105, main_v106, main_v107, main_v108]
set_option maxRecDepth 8192 in
theorem ops_part1_2_writes : (ops_part1_2 : List (HloOp τ sig (Elt F))).Forall fun op => op.writes ⊆ (ops_part1_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
theorem val2_main_arg11 (V0 : Valuation τ sig (Elt F)) : val2 V0 (no_index (Proc.devRef .tc main_arg11)) = V0 (Proc.devRef .tc main_arg11) :=
  (val2_keep V0 main_arg11 (by decide)).trans (val1_2_main_arg11 V0)
theorem val2_main_v1 (V0 : Valuation τ sig (Elt F)) : val2 V0 (no_index (Proc.devRef .tc main_v1)) = res_main_v1 V0 :=
  (val2_keep V0 main_v1 (by decide)).trans (val1_2_main_v1 V0)
theorem val2_main_v65 (V0 : Valuation τ sig (Elt F)) : val2 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_keep V0 main_v65 (by decide)).trans (val1_2_main_v65 V0)
theorem val2_main_v72 (V0 : Valuation τ sig (Elt F)) : val2 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_keep V0 main_v72 (by decide)).trans (val1_2_main_v72 V0)
theorem val2_main_v79 (V0 : Valuation τ sig (Elt F)) : val2 V0 (no_index (Proc.devRef .tc main_v79)) = res_main_v79 V0 :=
  (val2_keep V0 main_v79 (by decide)).trans (val1_2_main_v79 V0)
theorem val2_main_v81 (V0 : Valuation τ sig (Elt F)) : val2 V0 (no_index (Proc.devRef .tc main_v81)) = res_main_v81 V0 :=
  (val2_keep V0 main_v81 (by decide)).trans (val1_2_main_v81 V0)
theorem val2_main_v83 (V0 : Valuation τ sig (Elt F)) : val2 V0 (no_index (Proc.devRef .tc main_v83)) = shapeCast _ (V0 (Proc.devRef .tc main_arg1)) shapeCasts_S4x21x50x64x7x7_S4200x64x7x7 :=
  (val2_keep V0 main_v83 (by decide)).trans (val1_2_main_v83 V0)
theorem val2_main_v84 (V0 : Valuation τ sig (Elt F)) : val2 V0 (no_index (Proc.devRef .tc main_v84)) = res_main_v84 V0 :=
  (val2_keep V0 main_v84 (by decide)).trans (val1_2_main_v84 V0)
set_option maxRecDepth 8192 in
theorem val2_main_v107 (V0 : Valuation τ sig (Elt F)) : val2 V0 (no_index (Proc.devRef .tc main_v107)) = addf (addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v84 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v84 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v84 V0) slices_S4200x64x9x9_S4200x64x7x7_0_0_0_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 0] (V0 (Proc.devRef .tc main_arg4)) slices_S64x64x3x3_S64x64x1x1_0_0_1_0) shapeCasts_S64x64x1x1_S64x64) (extractStridedSlice S4200x64x7x7 ![0, 0, 1, 0] (res_main_v84 V0) slices_S4200x64x9x9_S4200x64x7x7_0_0_1_0)) transposes_S64x4200x7x7_S4200x64x7x7_1_0_2_3) := by
  unfold val2
  simp only [ops_part1_2]
  after_results_simp
  simp only [val1_2_main_v102, val1_2_main_v103, val1_2_main_v101] <;> rfl
set_option maxRecDepth 8192 in
theorem val2_main_v108 (V0 : Valuation τ sig (Elt F)) : val2 V0 (no_index (Proc.devRef .tc main_v108)) = extractStridedSlice S4200x64x7x7 ![0, 0, 1, 1] (res_main_v84 V0) slices_S4200x64x9x9_S4200x64x7x7_0_0_1_1 := by
  unfold val2
  simp only [ops_part1_2]
  after_results_simp
  simp only [val1_2_main_v84] <;> rfl

/-- The device's buffer contents after @main's first 157 operations. -/
def val2_1 (V0 : Valuation τ sig (Elt F)) : Valuation τ sig (Elt F) := after ops_part2_0 (val2 V0)
/-- The buffers that window `ops_part2_0`'s operations write. -/
abbrev ops_part2_0_W : List (Ref sig .tc) := [main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138]
set_option maxRecDepth 8192 in
theorem ops_part2_0_writes : (ops_part2_0 : List (HloOp τ sig (Elt F))).Forall fun op => op.writes ⊆ (ops_part2_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
theorem val2_1_main_arg9 (V0 : Valuation τ sig (Elt F)) : val2_1 V0 (no_index (Proc.devRef .tc main_arg9)) = V0 (Proc.devRef .tc main_arg9) :=
  (val2_1_keep V0 main_arg9 (by decide)).trans (val2_main_arg9 V0)
theorem val2_1_main_arg10 (V0 : Valuation τ sig (Elt F)) : val2_1 V0 (no_index (Proc.devRef .tc main_arg10)) = V0 (Proc.devRef .tc main_arg10) :=
  (val2_1_keep V0 main_arg10 (by decide)).trans (val2_main_arg10 V0)
theorem val2_1_main_arg11 (V0 : Valuation τ sig (Elt F)) : val2_1 V0 (no_index (Proc.devRef .tc main_arg11)) = V0 (Proc.devRef .tc main_arg11) :=
  (val2_1_keep V0 main_arg11 (by decide)).trans (val2_main_arg11 V0)
theorem val2_1_main_v1 (V0 : Valuation τ sig (Elt F)) : val2_1 V0 (no_index (Proc.devRef .tc main_v1)) = res_main_v1 V0 :=
  (val2_1_keep V0 main_v1 (by decide)).trans (val2_main_v1 V0)
theorem val2_1_main_v65 (V0 : Valuation τ sig (Elt F)) : val2_1 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_1_keep V0 main_v65 (by decide)).trans (val2_main_v65 V0)
theorem val2_1_main_v72 (V0 : Valuation τ sig (Elt F)) : val2_1 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_1_keep V0 main_v72 (by decide)).trans (val2_main_v72 V0)
theorem val2_1_main_v79 (V0 : Valuation τ sig (Elt F)) : val2_1 V0 (no_index (Proc.devRef .tc main_v79)) = res_main_v79 V0 :=
  (val2_1_keep V0 main_v79 (by decide)).trans (val2_main_v79 V0)
theorem val2_1_main_v81 (V0 : Valuation τ sig (Elt F)) : val2_1 V0 (no_index (Proc.devRef .tc main_v81)) = res_main_v81 V0 :=
  (val2_1_keep V0 main_v81 (by decide)).trans (val2_main_v81 V0)
theorem val2_1_main_v83 (V0 : Valuation τ sig (Elt F)) : val2_1 V0 (no_index (Proc.devRef .tc main_v83)) = shapeCast _ (V0 (Proc.devRef .tc main_arg1)) shapeCasts_S4x21x50x64x7x7_S4200x64x7x7 :=
  (val2_1_keep V0 main_v83 (by decide)).trans (val2_main_v83 V0)
set_option maxRecDepth 8192 in
set_option maxHeartbeats 2000000 in
theorem val2_1_main_v137 (V0 : Valuation τ sig (Elt F)) : val2_1 V0 (no_index (Proc.devRef .tc main_v137)) = addf (addf (addf (addf (addf (addf (addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v84 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v84 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v84 V0) slices_S4200x64x9x9_S4200x64x7x7_0_0_0_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 0] (V0 (Proc.devRef .tc main_arg4)) slices_S64x64x3x3_S64x64x1x1_0_0_1_0) shapeCasts_S64x64x1x1_S64x64) (extractStridedSlice S4200x64x7x7 ![0, 0, 1, 0] (res_main_v84 V0) slices_S4200x64x9x9_S4200x64x7x7_0_0_1_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 1] (V0 (Proc.devRef .tc main_arg4)) slices_S64x64x3x3_S64x64x1x1_0_0_1_1) shapeCasts_S64x64x1x1_S64x64) (extractStridedSlice S4200x64x7x7 ![0, 0, 1, 1] (res_main_v84 V0) slices_S4200x64x9x9_S4200x64x7x7_0_0_1_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 2] (V0 (Proc.devRef .tc main_arg4)) slices_S64x64x3x3_S64x64x1x1_0_0_1_2) shapeCasts_S64x64x1x1_S64x64) (extractStridedSlice S4200x64x7x7 ![0, 0, 1, 2] (res_main_v84 V0) slices_S4200x64x9x9_S4200x64x7x7_0_0_1_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 0] (V0 (Proc.devRef .tc main_arg4)) slices_S64x64x3x3_S64x64x1x1_0_0_2_0) shapeCasts_S64x64x1x1_S64x64) (extractStridedSlice S4200x64x7x7 ![0, 0, 2, 0] (res_main_v84 V0) slices_S4200x64x9x9_S4200x64x7x7_0_0_2_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 1] (V0 (Proc.devRef .tc main_arg4)) slices_S64x64x3x3_S64x64x1x1_0_0_2_1) shapeCasts_S64x64x1x1_S64x64) (extractStridedSlice S4200x64x7x7 ![0, 0, 2, 1] (res_main_v84 V0) slices_S4200x64x9x9_S4200x64x7x7_0_0_2_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 2, 2] (V0 (Proc.devRef .tc main_arg4)) slices_S64x64x3x3_S64x64x1x1_0_0_2_2) shapeCasts_S64x64x1x1_S64x64) (extractStridedSlice S4200x64x7x7 ![0, 0, 2, 2] (res_main_v84 V0) slices_S4200x64x9x9_S4200x64x7x7_0_0_2_2)) transposes_S64x4200x7x7_S4200x64x7x7_1_0_2_3) := by
  unfold val2_1
  simp only [ops_part2_0]
  after_results_simp
  simp only [val2_main_v84, val2_main_arg4, val2_main_v108, val2_main_v107] <;> rfl
set_option maxRecDepth 8192 in
set_option maxHeartbeats 2000000 in
theorem val2_1_main_v138 (V0 : Valuation τ sig (Elt F)) : val2_1 V0 (no_index (Proc.devRef .tc main_v138)) = broadcastInDim S1x64x1x1 ![1] bcast_S64_S1x64x1x1_1 (V0 (Proc.devRef .tc main_arg5)) := by
  unfold val2_1
  simp only [ops_part2_0]
  after_results_simp
  simp only [val2_main_arg5] <;> rfl

/-- The device's buffer contents after @main's first 187 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v139, main_v140, main_call3_cst, main_call3_v0, main_v141, main_cst_9, main_v142, main_cst_10, main_v143, main_v144, main_v145, main_v146, main_v147, main_v148, main_v149, main_v150, main_cst_11, main_v151, main_v152, main_cst_12, main_v153, main_v154, main_v155, main_v156, main_v157, main_v158, main_v159, main_v160, main_v161, main_v162]
set_option maxRecDepth 8192 in
theorem ops_part2_1_writes : (ops_part2_1 : List (HloOp τ sig (Elt F))).Forall fun op => op.writes ⊆ (ops_part2_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
theorem val2_2_main_arg9 (V0 : Valuation τ sig (Elt F)) : val2_2 V0 (no_index (Proc.devRef .tc main_arg9)) = V0 (Proc.devRef .tc main_arg9) :=
  (val2_2_keep V0 main_arg9 (by decide)).trans (val2_1_main_arg9 V0)
theorem val2_2_main_arg10 (V0 : Valuation τ sig (Elt F)) : val2_2 V0 (no_index (Proc.devRef .tc main_arg10)) = V0 (Proc.devRef .tc main_arg10) :=
  (val2_2_keep V0 main_arg10 (by decide)).trans (val2_1_main_arg10 V0)
theorem val2_2_main_arg11 (V0 : Valuation τ sig (Elt F)) : val2_2 V0 (no_index (Proc.devRef .tc main_arg11)) = V0 (Proc.devRef .tc main_arg11) :=
  (val2_2_keep V0 main_arg11 (by decide)).trans (val2_1_main_arg11 V0)
theorem val2_2_main_v1 (V0 : Valuation τ sig (Elt F)) : val2_2 V0 (no_index (Proc.devRef .tc main_v1)) = res_main_v1 V0 :=
  (val2_2_keep V0 main_v1 (by decide)).trans (val2_1_main_v1 V0)
theorem val2_2_main_v65 (V0 : Valuation τ sig (Elt F)) : val2_2 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_2_keep V0 main_v65 (by decide)).trans (val2_1_main_v65 V0)
theorem val2_2_main_v72 (V0 : Valuation τ sig (Elt F)) : val2_2 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val2_2_keep V0 main_v72 (by decide)).trans (val2_1_main_v72 V0)
theorem val2_2_main_v79 (V0 : Valuation τ sig (Elt F)) : val2_2 V0 (no_index (Proc.devRef .tc main_v79)) = res_main_v79 V0 :=
  (val2_2_keep V0 main_v79 (by decide)).trans (val2_1_main_v79 V0)
theorem val2_2_main_v81 (V0 : Valuation τ sig (Elt F)) : val2_2 V0 (no_index (Proc.devRef .tc main_v81)) = res_main_v81 V0 :=
  (val2_2_keep V0 main_v81 (by decide)).trans (val2_1_main_v81 V0)
theorem val2_2_main_v83 (V0 : Valuation τ sig (Elt F)) : val2_2 V0 (no_index (Proc.devRef .tc main_v83)) = shapeCast _ (V0 (Proc.devRef .tc main_arg1)) shapeCasts_S4x21x50x64x7x7_S4200x64x7x7 :=
  (val2_2_keep V0 main_v83 (by decide)).trans (val2_1_main_v83 V0)
set_option maxRecDepth 8192 in
set_option maxHeartbeats 2000000 in
theorem val2_2_main_v154 (V0 : Valuation τ sig (Elt F)) : val2_2 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) := by
  unfold val2_2
  simp only [ops_part2_1, TRef.binary, TRef.nullary, TRef.unary, TRef.toBuf, TRef.ofBuf, cast_eq]
  after_results_simp
  simp only [val2_1_main_arg7, val2_1_main_arg6, val2_1_main_v138, val2_1_main_v137] <;> rfl
set_option maxRecDepth 8192 in
set_option maxHeartbeats 2000000 in
theorem val2_2_main_v162 (V0 : Valuation τ sig (Elt F)) : val2_2 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) := by
  unfold val2_2
  simp only [ops_part2_1, TRef.binary, TRef.nullary, TRef.unary, TRef.toBuf, TRef.ofBuf, cast_eq]
  after_results_simp
  simp only [val2_1_main_arg11, val2_1_main_arg10, val2_1_main_v138, val2_1_main_v137] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_c_13, main_call4_v0, main_v163]
set_option maxRecDepth 8192 in
theorem ops_part2_2_writes : (ops_part2_2 : List (HloOp τ sig (Elt F))).Forall fun op => op.writes ⊆ (ops_part2_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_2_main_arg11 V0)
theorem val3_main_v1 (V0 : Valuation τ sig (Elt F)) : val3 V0 (no_index (Proc.devRef .tc main_v1)) = res_main_v1 V0 :=
  (val3_keep V0 main_v1 (by decide)).trans (val2_2_main_v1 V0)
theorem val3_main_v65 (V0 : Valuation τ sig (Elt F)) : val3 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_keep V0 main_v65 (by decide)).trans (val2_2_main_v65 V0)
theorem val3_main_v72 (V0 : Valuation τ sig (Elt F)) : val3 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_keep V0 main_v72 (by decide)).trans (val2_2_main_v72 V0)
theorem val3_main_v79 (V0 : Valuation τ sig (Elt F)) : val3 V0 (no_index (Proc.devRef .tc main_v79)) = res_main_v79 V0 :=
  (val3_keep V0 main_v79 (by decide)).trans (val2_2_main_v79 V0)
theorem val3_main_v81 (V0 : Valuation τ sig (Elt F)) : val3 V0 (no_index (Proc.devRef .tc main_v81)) = res_main_v81 V0 :=
  (val3_keep V0 main_v81 (by decide)).trans (val2_2_main_v81 V0)
theorem val3_main_v154 (V0 : Valuation τ sig (Elt F)) : val3 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val3_keep V0 main_v154 (by decide)).trans (val2_2_main_v154 V0)
theorem val3_main_v162 (V0 : Valuation τ sig (Elt F)) : val3 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val3_keep V0 main_v162 (by decide)).trans (val2_2_main_v162 V0)
set_option maxRecDepth 8192 in
theorem val3_main_v163 (V0 : Valuation τ sig (Elt F)) : val3 V0 (no_index (Proc.devRef .tc main_v163)) = res_main_v163 V0 := by
  unfold val3
  simp only [ops_part2_2, TRef.binary, TRef.unary, TRef.toBuf, TRef.ofBuf, cast_eq]
  after_results_simp
  simp only [val2_2_main_v83] <;> rfl

/-- The device's buffer contents after @main's first 220 operations. -/
def val3_1 (V0 : Valuation τ sig (Elt F)) : Valuation τ sig (Elt F) := after ops_part3_0 (val3 V0)
/-- The buffers that window `ops_part3_0`'s operations write. -/
abbrev ops_part3_0_W : List (Ref sig .tc) := [main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193]
set_option maxRecDepth 8192 in
theorem ops_part3_0_writes : (ops_part3_0 : List (HloOp τ sig (Elt F))).Forall fun op => op.writes ⊆ (ops_part3_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_arg5 (V0 : Valuation τ sig (Elt F)) : val3_1 V0 (no_index (Proc.devRef .tc main_arg5)) = V0 (Proc.devRef .tc main_arg5) :=
  (val3_1_keep V0 main_arg5 (by decide)).trans (val3_main_arg5 V0)
theorem val3_1_main_arg6 (V0 : Valuation τ sig (Elt F)) : val3_1 V0 (no_index (Proc.devRef .tc main_arg6)) = V0 (Proc.devRef .tc main_arg6) :=
  (val3_1_keep V0 main_arg6 (by decide)).trans (val3_main_arg6 V0)
theorem val3_1_main_arg7 (V0 : Valuation τ sig (Elt F)) : val3_1 V0 (no_index (Proc.devRef .tc main_arg7)) = V0 (Proc.devRef .tc main_arg7) :=
  (val3_1_keep V0 main_arg7 (by decide)).trans (val3_main_arg7 V0)
theorem val3_1_main_arg8 (V0 : Valuation τ sig (Elt F)) : val3_1 V0 (no_index (Proc.devRef .tc main_arg8)) = V0 (Proc.devRef .tc main_arg8) :=
  (val3_1_keep V0 main_arg8 (by decide)).trans (val3_main_arg8 V0)
theorem val3_1_main_arg9 (V0 : Valuation τ sig (Elt F)) : val3_1 V0 (no_index (Proc.devRef .tc main_arg9)) = V0 (Proc.devRef .tc main_arg9) :=
  (val3_1_keep V0 main_arg9 (by decide)).trans (val3_main_arg9 V0)
theorem val3_1_main_arg10 (V0 : Valuation τ sig (Elt F)) : val3_1 V0 (no_index (Proc.devRef .tc main_arg10)) = V0 (Proc.devRef .tc main_arg10) :=
  (val3_1_keep V0 main_arg10 (by decide)).trans (val3_main_arg10 V0)
theorem val3_1_main_arg11 (V0 : Valuation τ sig (Elt F)) : val3_1 V0 (no_index (Proc.devRef .tc main_arg11)) = V0 (Proc.devRef .tc main_arg11) :=
  (val3_1_keep V0 main_arg11 (by decide)).trans (val3_main_arg11 V0)
theorem val3_1_main_v1 (V0 : Valuation τ sig (Elt F)) : val3_1 V0 (no_index (Proc.devRef .tc main_v1)) = res_main_v1 V0 :=
  (val3_1_keep V0 main_v1 (by decide)).trans (val3_main_v1 V0)
theorem val3_1_main_v65 (V0 : Valuation τ sig (Elt F)) : val3_1 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_1_keep V0 main_v65 (by decide)).trans (val3_main_v65 V0)
theorem val3_1_main_v72 (V0 : Valuation τ sig (Elt F)) : val3_1 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_1_keep V0 main_v72 (by decide)).trans (val3_main_v72 V0)
theorem val3_1_main_v79 (V0 : Valuation τ sig (Elt F)) : val3_1 V0 (no_index (Proc.devRef .tc main_v79)) = res_main_v79 V0 :=
  (val3_1_keep V0 main_v79 (by decide)).trans (val3_main_v79 V0)
theorem val3_1_main_v81 (V0 : Valuation τ sig (Elt F)) : val3_1 V0 (no_index (Proc.devRef .tc main_v81)) = res_main_v81 V0 :=
  (val3_1_keep V0 main_v81 (by decide)).trans (val3_main_v81 V0)
theorem val3_1_main_v154 (V0 : Valuation τ sig (Elt F)) : val3_1 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val3_1_keep V0 main_v154 (by decide)).trans (val3_main_v154 V0)
theorem val3_1_main_v162 (V0 : Valuation τ sig (Elt F)) : val3_1 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val3_1_keep V0 main_v162 (by decide)).trans (val3_main_v162 V0)
theorem val3_1_main_v163 (V0 : Valuation τ sig (Elt F)) : val3_1 V0 (no_index (Proc.devRef .tc main_v163)) = res_main_v163 V0 :=
  (val3_1_keep V0 main_v163 (by decide)).trans (val3_main_v163 V0)
set_option maxRecDepth 8192 in
set_option maxHeartbeats 2000000 in
theorem val3_1_main_v192 (V0 : Valuation τ sig (Elt F)) : val3_1 V0 (no_index (Proc.devRef .tc main_v192)) = addf (addf (addf (addf (transpose S4200x64x7x7 [1, 0, 2, 3] (Host.dotGeneral dot_S64x64_S4200x64x7x7_S64x4200x7x7_1_1_0_023_n_n none (shapeCast _ (extractStridedSlice S64x64x1x1 ![0, 0, 0, 0] (V0 (Proc.devRef .tc main_arg4)) slices_S64x64x3x3_S64x64x1x1_0_0_0_0) shapeCasts_S64x64x1x1_S64x64) (extractStridedSlice S4200x64x7x7 ![0, 0, 0, 0] (res_main_v163 V0) slices_S4200x64x9x9_S4200x64x7x7_0_0_0_0)) transposes_S64x4200x7x7_S4200x64x7x7_1_0_2_3) (transpose S4200x64x7x7 [1, 0, 2, 3] (Host.dotGeneral dot_S64x64_S4200x64x7x7_S64x4200x7x7_1_1_0_023_n_n none (shapeCast _ (extractStridedSlice S64x64x1x1 ![0, 0, 0, 1] (V0 (Proc.devRef .tc main_arg4)) slices_S64x64x3x3_S64x64x1x1_0_0_0_1) shapeCasts_S64x64x1x1_S64x64) (extractStridedSlice S4200x64x7x7 ![0, 0, 0, 1] (res_main_v163 V0) slices_S4200x64x9x9_S4200x64x7x7_0_0_0_1)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 0, 2] (V0 (Proc.devRef .tc main_arg4)) slices_S64x64x3x3_S64x64x1x1_0_0_0_2) shapeCasts_S64x64x1x1_S64x64) (extractStridedSlice S4200x64x7x7 ![0, 0, 0, 2] (res_main_v163 V0) slices_S4200x64x9x9_S4200x64x7x7_0_0_0_2)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 0] (V0 (Proc.devRef .tc main_arg4)) slices_S64x64x3x3_S64x64x1x1_0_0_1_0) shapeCasts_S64x64x1x1_S64x64) (extractStridedSlice S4200x64x7x7 ![0, 0, 1, 0] (res_main_v163 V0) slices_S4200x64x9x9_S4200x64x7x7_0_0_1_0)) transposes_S64x4200x7x7_S4200x64x7x7_1_0_2_3)) (transpose S4200x64x7x7 [1, 0, 2, 3] (Host.dotGeneral dot_S64x64_S4200x64x7x7_S64x4200x7x7_1_1_0_023_n_n none (shapeCast _ (extractStridedSlice S64x64x1x1 ![0, 0, 1, 1] (V0 (Proc.devRef .tc main_arg4)) slices_S64x64x3x3_S64x64x1x1_0_0_1_1) shapeCasts_S64x64x1x1_S64x64) (extractStridedSlice S4200x64x7x7 ![0, 0, 1, 1] (res_main_v163 V0) slices_S4200x64x9x9_S4200x64x7x7_0_0_1_1)) transposes_S64x4200x7x7_S4200x64x7x7_1_0_2_3) := by
  unfold val3_1
  simp only [ops_part3_0]
  after_results_simp
  simp only [val3_main_v163, val3_main_arg4] <;> rfl
set_option maxRecDepth 8192 in
set_option maxHeartbeats 2000000 in
theorem val3_1_main_v193 (V0 : Valuation τ sig (Elt F)) : val3_1 V0 (no_index (Proc.devRef .tc main_v193)) = extractStridedSlice S4200x64x7x7 ![0, 0, 1, 2] (res_main_v163 V0) slices_S4200x64x9x9_S4200x64x7x7_0_0_1_2 := by
  unfold val3_1
  simp only [ops_part3_0]
  after_results_simp
  simp only [val3_main_v163] <;> rfl

/-- The device's buffer contents after @main's first 250 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_call5_cst, main_call5_v0, main_v220, main_cst_14]
set_option maxRecDepth 8192 in
theorem ops_part3_1_writes : (ops_part3_1 : List (HloOp τ sig (Elt F))).Forall fun op => op.writes ⊆ (ops_part3_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_arg5 (V0 : Valuation τ sig (Elt F)) : val3_2 V0 (no_index (Proc.devRef .tc main_arg5)) = V0 (Proc.devRef .tc main_arg5) :=
  (val3_2_keep V0 main_arg5 (by decide)).trans (val3_1_main_arg5 V0)
theorem val3_2_main_arg6 (V0 : Valuation τ sig (Elt F)) : val3_2 V0 (no_index (Proc.devRef .tc main_arg6)) = V0 (Proc.devRef .tc main_arg6) :=
  (val3_2_keep V0 main_arg6 (by decide)).trans (val3_1_main_arg6 V0)
theorem val3_2_main_arg7 (V0 : Valuation τ sig (Elt F)) : val3_2 V0 (no_index (Proc.devRef .tc main_arg7)) = V0 (Proc.devRef .tc main_arg7) :=
  (val3_2_keep V0 main_arg7 (by decide)).trans (val3_1_main_arg7 V0)
theorem val3_2_main_arg8 (V0 : Valuation τ sig (Elt F)) : val3_2 V0 (no_index (Proc.devRef .tc main_arg8)) = V0 (Proc.devRef .tc main_arg8) :=
  (val3_2_keep V0 main_arg8 (by decide)).trans (val3_1_main_arg8 V0)
theorem val3_2_main_arg9 (V0 : Valuation τ sig (Elt F)) : val3_2 V0 (no_index (Proc.devRef .tc main_arg9)) = V0 (Proc.devRef .tc main_arg9) :=
  (val3_2_keep V0 main_arg9 (by decide)).trans (val3_1_main_arg9 V0)
theorem val3_2_main_arg10 (V0 : Valuation τ sig (Elt F)) : val3_2 V0 (no_index (Proc.devRef .tc main_arg10)) = V0 (Proc.devRef .tc main_arg10) :=
  (val3_2_keep V0 main_arg10 (by decide)).trans (val3_1_main_arg10 V0)
theorem val3_2_main_arg11 (V0 : Valuation τ sig (Elt F)) : val3_2 V0 (no_index (Proc.devRef .tc main_arg11)) = V0 (Proc.devRef .tc main_arg11) :=
  (val3_2_keep V0 main_arg11 (by decide)).trans (val3_1_main_arg11 V0)
theorem val3_2_main_v1 (V0 : Valuation τ sig (Elt F)) : val3_2 V0 (no_index (Proc.devRef .tc main_v1)) = res_main_v1 V0 :=
  (val3_2_keep V0 main_v1 (by decide)).trans (val3_1_main_v1 V0)
theorem val3_2_main_v65 (V0 : Valuation τ sig (Elt F)) : val3_2 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_2_keep V0 main_v65 (by decide)).trans (val3_1_main_v65 V0)
theorem val3_2_main_v72 (V0 : Valuation τ sig (Elt F)) : val3_2 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val3_2_keep V0 main_v72 (by decide)).trans (val3_1_main_v72 V0)
theorem val3_2_main_v79 (V0 : Valuation τ sig (Elt F)) : val3_2 V0 (no_index (Proc.devRef .tc main_v79)) = res_main_v79 V0 :=
  (val3_2_keep V0 main_v79 (by decide)).trans (val3_1_main_v79 V0)
theorem val3_2_main_v81 (V0 : Valuation τ sig (Elt F)) : val3_2 V0 (no_index (Proc.devRef .tc main_v81)) = res_main_v81 V0 :=
  (val3_2_keep V0 main_v81 (by decide)).trans (val3_1_main_v81 V0)
theorem val3_2_main_v154 (V0 : Valuation τ sig (Elt F)) : val3_2 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val3_2_keep V0 main_v154 (by decide)).trans (val3_1_main_v154 V0)
theorem val3_2_main_v162 (V0 : Valuation τ sig (Elt F)) : val3_2 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val3_2_keep V0 main_v162 (by decide)).trans (val3_1_main_v162 V0)
set_option maxRecDepth 8192 in
set_option maxHeartbeats 2000000 in
theorem val3_2_main_v220 (V0 : Valuation τ sig (Elt F)) : val3_2 V0 (no_index (Proc.devRef .tc main_v220)) = maximumf (res_main_v219 V0) (broadcastInDim S4200x64x7x7 ![] bcast_S_S4200x64x7x7 (constant S_ .f32 0x00000000#32)) := by
  unfold val3_2
  simp only [ops_part3_1, TRef.binary, TRef.nullary, TRef.unary, TRef.toBuf, TRef.ofBuf, cast_eq]
  after_results_simp
  simp only [val3_1_main_arg5, val3_1_main_v163, val3_1_main_arg4, val3_1_main_v193, val3_1_main_v192] <;> rfl
set_option maxRecDepth 8192 in
set_option maxHeartbeats 2000000 in
theorem val3_2_main_cst_14 (V0 : Valuation τ sig (Elt F)) : val3_2 V0 (no_index (Proc.devRef .tc main_cst_14)) = constant S_ .f32 0x00000000#32 := by
  unfold val3_2
  simp only [ops_part3_1, TRef.binary, TRef.nullary, TRef.unary, TRef.toBuf, TRef.ofBuf, cast_eq]
  after_results_simp
  all_goals rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v221, main_cst_15]
set_option maxRecDepth 8192 in
theorem ops_part3_2_writes : (ops_part3_2 : List (HloOp τ sig (Elt F))).Forall fun op => op.writes ⊆ (ops_part3_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_arg4 (V0 : Valuation τ sig (Elt F)) : val4 V0 (no_index (Proc.devRef .tc main_arg4)) = V0 (Proc.devRef .tc main_arg4) :=
  (val4_keep V0 main_arg4 (by decide)).trans (val3_2_main_arg4 V0)
theorem val4_main_arg5 (V0 : Valuation τ sig (Elt F)) : val4 V0 (no_index (Proc.devRef .tc main_arg5)) = V0 (Proc.devRef .tc main_arg5) :=
  (val4_keep V0 main_arg5 (by decide)).trans (val3_2_main_arg5 V0)
theorem val4_main_arg6 (V0 : Valuation τ sig (Elt F)) : val4 V0 (no_index (Proc.devRef .tc main_arg6)) = V0 (Proc.devRef .tc main_arg6) :=
  (val4_keep V0 main_arg6 (by decide)).trans (val3_2_main_arg6 V0)
theorem val4_main_arg7 (V0 : Valuation τ sig (Elt F)) : val4 V0 (no_index (Proc.devRef .tc main_arg7)) = V0 (Proc.devRef .tc main_arg7) :=
  (val4_keep V0 main_arg7 (by decide)).trans (val3_2_main_arg7 V0)
theorem val4_main_arg8 (V0 : Valuation τ sig (Elt F)) : val4 V0 (no_index (Proc.devRef .tc main_arg8)) = V0 (Proc.devRef .tc main_arg8) :=
  (val4_keep V0 main_arg8 (by decide)).trans (val3_2_main_arg8 V0)
theorem val4_main_arg9 (V0 : Valuation τ sig (Elt F)) : val4 V0 (no_index (Proc.devRef .tc main_arg9)) = V0 (Proc.devRef .tc main_arg9) :=
  (val4_keep V0 main_arg9 (by decide)).trans (val3_2_main_arg9 V0)
theorem val4_main_arg10 (V0 : Valuation τ sig (Elt F)) : val4 V0 (no_index (Proc.devRef .tc main_arg10)) = V0 (Proc.devRef .tc main_arg10) :=
  (val4_keep V0 main_arg10 (by decide)).trans (val3_2_main_arg10 V0)
theorem val4_main_arg11 (V0 : Valuation τ sig (Elt F)) : val4 V0 (no_index (Proc.devRef .tc main_arg11)) = V0 (Proc.devRef .tc main_arg11) :=
  (val4_keep V0 main_arg11 (by decide)).trans (val3_2_main_arg11 V0)
theorem val4_main_v1 (V0 : Valuation τ sig (Elt F)) : val4 V0 (no_index (Proc.devRef .tc main_v1)) = res_main_v1 V0 :=
  (val4_keep V0 main_v1 (by decide)).trans (val3_2_main_v1 V0)
theorem val4_main_v65 (V0 : Valuation τ sig (Elt F)) : val4 V0 (no_index (Proc.devRef .tc main_v65)) = Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val4_keep V0 main_v65 (by decide)).trans (val3_2_main_v65 V0)
theorem val4_main_v72 (V0 : Valuation τ sig (Elt F)) : val4 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val4_keep V0 main_v72 (by decide)).trans (val3_2_main_v72 V0)
theorem val4_main_v79 (V0 : Valuation τ sig (Elt F)) : val4 V0 (no_index (Proc.devRef .tc main_v79)) = res_main_v79 V0 :=
  (val4_keep V0 main_v79 (by decide)).trans (val3_2_main_v79 V0)
theorem val4_main_v81 (V0 : Valuation τ sig (Elt F)) : val4 V0 (no_index (Proc.devRef .tc main_v81)) = res_main_v81 V0 :=
  (val4_keep V0 main_v81 (by decide)).trans (val3_2_main_v81 V0)
theorem val4_main_v154 (V0 : Valuation τ sig (Elt F)) : val4 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_keep V0 main_v154 (by decide)).trans (val3_2_main_v154 V0)
theorem val4_main_v162 (V0 : Valuation τ sig (Elt F)) : val4 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val4_keep V0 main_v162 (by decide)).trans (val3_2_main_v162 V0)
set_option maxRecDepth 8192 in
theorem val4_main_v221 (V0 : Valuation τ sig (Elt F)) : val4 V0 (no_index (Proc.devRef .tc main_v221)) = Host.reduceAdd (maximumf (res_main_v219 V0) (broadcastInDim S4200x64x7x7 ![] bcast_S_S4200x64x7x7 (constant S_ .f32 0x00000000#32))) (constant S_ .f32 0x00000000#32) reducesTo_S4200x64x7x7_S4200x64_d2_3 h_S_ := by
  unfold val4
  simp only [ops_part3_2]
  after_results_simp
  simp only [val3_2_main_cst_14, val3_2_main_v220] <;> rfl
set_option maxRecDepth 8192 in
theorem val4_main_cst_15 (V0 : Valuation τ sig (Elt F)) : val4 V0 (no_index (Proc.devRef .tc main_cst_15)) = constant S_ .f32 0x42440000#32 := by
  unfold val4
  simp only [ops_part3_2]
  after_results_simp
  all_goals rfl

/-- The device's buffer contents after @main's first 282 operations. -/
def val4_1 (V0 : Valuation τ sig (Elt F)) : Valuation τ sig (Elt F) := after ops_part4_0 (val4 V0)
/-- The buffers that window `ops_part4_0`'s operations write. -/
abbrev ops_part4_0_W : List (Ref sig .tc) := [main_v222, main_v223, main_v224, main_v225, main_v226, main_v227, main_v228, main_v229, main_cst_16, main_v230, main_v231, main_cst_17, main_v232, main_v233, main_v234, main_v235, main_v236, main_v237, main_v238, main_v239, main_v240, main_v241, main_v242, main_v243, main_call6_cst, main_call6_v0, main_call6_cst_0, main_call6_v1, main_call6_v2, main_call6_v3]
set_option maxRecDepth 8192 in
theorem ops_part4_0_writes : (ops_part4_0 : List (HloOp τ sig (Elt F))).Forall fun op => op.writes ⊆ (ops_part4_0_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_arg3 (V0 : Valuation τ sig (Elt F)) : val4_1 V0 (no_index (Proc.devRef .tc main_arg3)) = V0 (Proc.devRef .tc main_arg3) :=
  (val4_1_keep V0 main_arg3 (by decide)).trans (val4_main_arg3 V0)
theorem val4_1_main_arg4 (V0 : Valuation τ sig (Elt F)) : val4_1 V0 (no_index (Proc.devRef .tc main_arg4)) = V0 (Proc.devRef .tc main_arg4) :=
  (val4_1_keep V0 main_arg4 (by decide)).trans (val4_main_arg4 V0)
theorem val4_1_main_arg5 (V0 : Valuation τ sig (Elt F)) : val4_1 V0 (no_index (Proc.devRef .tc main_arg5)) = V0 (Proc.devRef .tc main_arg5) :=
  (val4_1_keep V0 main_arg5 (by decide)).trans (val4_main_arg5 V0)
theorem val4_1_main_arg6 (V0 : Valuation τ sig (Elt F)) : val4_1 V0 (no_index (Proc.devRef .tc main_arg6)) = V0 (Proc.devRef .tc main_arg6) :=
  (val4_1_keep V0 main_arg6 (by decide)).trans (val4_main_arg6 V0)
theorem val4_1_main_arg7 (V0 : Valuation τ sig (Elt F)) : val4_1 V0 (no_index (Proc.devRef .tc main_arg7)) = V0 (Proc.devRef .tc main_arg7) :=
  (val4_1_keep V0 main_arg7 (by decide)).trans (val4_main_arg7 V0)
theorem val4_1_main_arg8 (V0 : Valuation τ sig (Elt F)) : val4_1 V0 (no_index (Proc.devRef .tc main_arg8)) = V0 (Proc.devRef .tc main_arg8) :=
  (val4_1_keep V0 main_arg8 (by decide)).trans (val4_main_arg8 V0)
theorem val4_1_main_arg9 (V0 : Valuation τ sig (Elt F)) : val4_1 V0 (no_index (Proc.devRef .tc main_arg9)) = V0 (Proc.devRef .tc main_arg9) :=
  (val4_1_keep V0 main_arg9 (by decide)).trans (val4_main_arg9 V0)
theorem val4_1_main_arg10 (V0 : Valuation τ sig (Elt F)) : val4_1 V0 (no_index (Proc.devRef .tc main_arg10)) = V0 (Proc.devRef .tc main_arg10) :=
  (val4_1_keep V0 main_arg10 (by decide)).trans (val4_main_arg10 V0)
theorem val4_1_main_arg11 (V0 : Valuation τ sig (Elt F)) : val4_1 V0 (no_index (Proc.devRef .tc main_arg11)) = V0 (Proc.devRef .tc main_arg11) :=
  (val4_1_keep V0 main_arg11 (by decide)).trans (val4_main_arg11 V0)
theorem val4_1_main_v1 (V0 : Valuation τ sig (Elt F)) : val4_1 V0 (no_index (Proc.devRef .tc main_v1)) = res_main_v1 V0 :=
  (val4_1_keep V0 main_v1 (by decide)).trans (val4_main_v1 V0)
theorem val4_1_main_v72 (V0 : Valuation τ sig (Elt F)) : val4_1 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val4_1_keep V0 main_v72 (by decide)).trans (val4_main_v72 V0)
theorem val4_1_main_v79 (V0 : Valuation τ sig (Elt F)) : val4_1 V0 (no_index (Proc.devRef .tc main_v79)) = res_main_v79 V0 :=
  (val4_1_keep V0 main_v79 (by decide)).trans (val4_main_v79 V0)
theorem val4_1_main_v81 (V0 : Valuation τ sig (Elt F)) : val4_1 V0 (no_index (Proc.devRef .tc main_v81)) = res_main_v81 V0 :=
  (val4_1_keep V0 main_v81 (by decide)).trans (val4_main_v81 V0)
theorem val4_1_main_v154 (V0 : Valuation τ sig (Elt F)) : val4_1 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_1_keep V0 main_v154 (by decide)).trans (val4_main_v154 V0)
theorem val4_1_main_v162 (V0 : Valuation τ sig (Elt F)) : val4_1 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val4_1_keep V0 main_v162 (by decide)).trans (val4_main_v162 V0)
set_option maxRecDepth 8192 in
set_option maxHeartbeats 2000000 in
theorem val4_1_main_v233 (V0 : Valuation τ sig (Elt F)) : val4_1 V0 (no_index (Proc.devRef .tc main_v233)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7)))))))) := by
  unfold val4_1
  simp only [ops_part4_0, TRef.binary, TRef.nullary, TRef.unary, TRef.toBuf, TRef.ofBuf, cast_eq]
  after_results_simp
  simp only [val4_main_arg7, val4_main_arg6, val4_main_cst_15, val4_main_v221] <;> rfl
set_option maxRecDepth 8192 in
set_option maxHeartbeats 2000000 in
theorem val4_1_main_v237 (V0 : Valuation τ sig (Elt F)) : val4_1 V0 (no_index (Proc.devRef .tc main_v237)) = res_main_v237 V0 := by
  unfold val4_1
  simp only [ops_part4_0, TRef.binary, TRef.nullary, TRef.unary, TRef.toBuf, TRef.ofBuf, cast_eq]
  after_results_simp
  simp only [val4_main_arg9, val4_main_arg8, val4_main_cst_15, val4_main_v221] <;> rfl
set_option maxRecDepth 8192 in
set_option maxHeartbeats 2000000 in
theorem val4_1_main_v243 (V0 : Valuation τ sig (Elt F)) : val4_1 V0 (no_index (Proc.devRef .tc main_v243)) = fptosi 32 (shapeCast _ (Host.gather gather_S4x20_S4x1050x1_S4x1050_n_1_0_0_1_2_11 (shapeCast _ (extractStridedSlice S4x20x1 ![0, 0, 4] (V0 (Proc.devRef .tc main_arg3)) slices_S4x20x5_S4x20x1_0_0_4) shapeCasts_S4x20x1_S4x20) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0)))) shapeCasts_S4x1050_S4200) := by
  unfold val4_1
  simp only [ops_part4_0, TRef.binary, TRef.nullary, TRef.unary, TRef.toBuf, TRef.ofBuf, cast_eq]
  after_results_simp
  simp only [val4_main_v65] <;> rfl
set_option maxRecDepth 8192 in
set_option maxHeartbeats 2000000 in
theorem val4_1_main_call6_v3 (V0 : Valuation τ sig (Elt F)) : val4_1 V0 (no_index (Proc.devRef .tc main_call6_v3)) = broadcastInDim S4200x1 ![0] bcast_S4200_S4200x1_0 (maximumf (broadcastInDim S4200 ![] bcast_S_S4200 (constant S_ .f32 0xFF800000#32)) (Host.reduce FloatOps.maximumf (res_main_v237 V0) (constant S_ .f32 0xFF800000#32) reducesTo_S4200x21_S4200_d1 h_S_)) := by
  unfold val4_1
  simp only [ops_part4_0, TRef.binary, TRef.nullary, TRef.unary, TRef.toBuf, TRef.ofBuf, cast_eq]
  after_results_simp
  simp only [val4_main_arg9, val4_main_arg8, val4_main_cst_15, val4_main_v221] <;> rfl

/-- The device's buffer contents after @main's first 312 operations. -/
def val4_2 (V0 : Valuation τ sig (Elt F)) : Valuation τ sig (Elt F) := after ops_part4_1 (val4_1 V0)
/-- The buffers that window `ops_part4_1`'s operations write. -/
abbrev ops_part4_1_W : List (Ref sig .tc) := [main_call6_v4, main_call6_v5, main_call6_v6, main_call6_cst_1, main_call6_v7, main_call6_v8, main_call6_v9, main_call6_v10, main_v244, main_v245, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst]
set_option maxRecDepth 8192 in
theorem ops_part4_1_writes : (ops_part4_1 : List (HloOp τ sig (Elt F))).Forall fun op => op.writes ⊆ (ops_part4_1_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_arg3 (V0 : Valuation τ sig (Elt F)) : val4_2 V0 (no_index (Proc.devRef .tc main_arg3)) = V0 (Proc.devRef .tc main_arg3) :=
  (val4_2_keep V0 main_arg3 (by decide)).trans (val4_1_main_arg3 V0)
theorem val4_2_main_arg4 (V0 : Valuation τ sig (Elt F)) : val4_2 V0 (no_index (Proc.devRef .tc main_arg4)) = V0 (Proc.devRef .tc main_arg4) :=
  (val4_2_keep V0 main_arg4 (by decide)).trans (val4_1_main_arg4 V0)
theorem val4_2_main_arg5 (V0 : Valuation τ sig (Elt F)) : val4_2 V0 (no_index (Proc.devRef .tc main_arg5)) = V0 (Proc.devRef .tc main_arg5) :=
  (val4_2_keep V0 main_arg5 (by decide)).trans (val4_1_main_arg5 V0)
theorem val4_2_main_arg6 (V0 : Valuation τ sig (Elt F)) : val4_2 V0 (no_index (Proc.devRef .tc main_arg6)) = V0 (Proc.devRef .tc main_arg6) :=
  (val4_2_keep V0 main_arg6 (by decide)).trans (val4_1_main_arg6 V0)
theorem val4_2_main_arg7 (V0 : Valuation τ sig (Elt F)) : val4_2 V0 (no_index (Proc.devRef .tc main_arg7)) = V0 (Proc.devRef .tc main_arg7) :=
  (val4_2_keep V0 main_arg7 (by decide)).trans (val4_1_main_arg7 V0)
theorem val4_2_main_arg8 (V0 : Valuation τ sig (Elt F)) : val4_2 V0 (no_index (Proc.devRef .tc main_arg8)) = V0 (Proc.devRef .tc main_arg8) :=
  (val4_2_keep V0 main_arg8 (by decide)).trans (val4_1_main_arg8 V0)
theorem val4_2_main_arg9 (V0 : Valuation τ sig (Elt F)) : val4_2 V0 (no_index (Proc.devRef .tc main_arg9)) = V0 (Proc.devRef .tc main_arg9) :=
  (val4_2_keep V0 main_arg9 (by decide)).trans (val4_1_main_arg9 V0)
theorem val4_2_main_arg10 (V0 : Valuation τ sig (Elt F)) : val4_2 V0 (no_index (Proc.devRef .tc main_arg10)) = V0 (Proc.devRef .tc main_arg10) :=
  (val4_2_keep V0 main_arg10 (by decide)).trans (val4_1_main_arg10 V0)
theorem val4_2_main_arg11 (V0 : Valuation τ sig (Elt F)) : val4_2 V0 (no_index (Proc.devRef .tc main_arg11)) = V0 (Proc.devRef .tc main_arg11) :=
  (val4_2_keep V0 main_arg11 (by decide)).trans (val4_1_main_arg11 V0)
theorem val4_2_main_v1 (V0 : Valuation τ sig (Elt F)) : val4_2 V0 (no_index (Proc.devRef .tc main_v1)) = res_main_v1 V0 :=
  (val4_2_keep V0 main_v1 (by decide)).trans (val4_1_main_v1 V0)
theorem val4_2_main_v72 (V0 : Valuation τ sig (Elt F)) : val4_2 V0 (no_index (Proc.devRef .tc main_v72)) = Host.gather gather_S4x20x4_S4x1050x1_S4x1050x4_2_1_0_0_1_2_114 (res_main_v4 V0) (broadcastInDim S4x1050x1 ![0, 1] bcast_S4x1050_S4x1050x1_0_1 (select (cmpi .slt (res_main_v58 V0) (broadcastInDim S4x1050 ![] bcast_S_S4x1050 (constantI S_ 32 0#32))) (addi (res_main_v58 V0) (broadcastInDim S4x1050 ![] bcast_S_S4x1050 (constantI S_ 32 20#32))) (res_main_v58 V0))) :=
  (val4_2_keep V0 main_v72 (by decide)).trans (val4_1_main_v72 V0)
theorem val4_2_main_v79 (V0 : Valuation τ sig (Elt F)) : val4_2 V0 (no_index (Proc.devRef .tc main_v79)) = res_main_v79 V0 :=
  (val4_2_keep V0 main_v79 (by decide)).trans (val4_1_main_v79 V0)
theorem val4_2_main_v81 (V0 : Valuation τ sig (Elt F)) : val4_2 V0 (no_index (Proc.devRef .tc main_v81)) = res_main_v81 V0 :=
  (val4_2_keep V0 main_v81 (by decide)).trans (val4_1_main_v81 V0)
theorem val4_2_main_v154 (V0 : Valuation τ sig (Elt F)) : val4_2 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_2_keep V0 main_v154 (by decide)).trans (val4_1_main_v154 V0)
theorem val4_2_main_v162 (V0 : Valuation τ sig (Elt F)) : val4_2 V0 (no_index (Proc.devRef .tc main_v162)) = addf (Host.dotGeneral dot_S4200x64_S64x4_S4200x4_1_0_0_1_n_n none (res_main_v144 V0) (V0 (Proc.devRef .tc main_arg10))) (broadcastInDim S4200x4 ![0, 1] bcast_S1x4_S4200x4_0_1 (broadcastInDim S1x4 ![1] bcast_S4_S1x4_1 (V0 (Proc.devRef .tc main_arg11)))) :=
  (val4_2_keep V0 main_v162 (by decide)).trans (val4_1_main_v162 V0)
theorem val4_2_main_v233 (V0 : Valuation τ sig (Elt F)) : val4_2 V0 (no_index (Proc.devRef .tc main_v233)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_2_keep V0 main_v233 (by decide)).trans (val4_1_main_v233 V0)
set_option maxRecDepth 8192 in
set_option maxHeartbeats 2000000 in
theorem val4_2_main_call7_v12 (V0 : Valuation τ sig (Elt F)) : val4_2 V0 (no_index (Proc.devRef .tc main_call7_v12)) = Host.reduce IntOp.andi (andi (cmpi .sge (res_main_call7_v5 V0) (broadcastInDim S4200x1x1 ![] bcast_S_S4200x1x1 (constantI S_ 32 0#32))) (cmpi .sle (res_main_call7_v5 V0) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_ := by
  unfold val4_2
  simp only [ops_part4_1, TRef.binary, TRef.nullary, TRef.reshape, TRef.ternary, TRef.unary, TRef.toBuf, TRef.ofBuf, cast_eq]
  after_results_simp
  simp only [val4_1_main_v243] <;> rfl
set_option maxRecDepth 8192 in
set_option maxHeartbeats 2000000 in
theorem val4_2_main_call7_v13 (V0 : Valuation τ sig (Elt F)) : val4_2 V0 (no_index (Proc.devRef .tc main_call7_v13)) = Host.gather gather_S4200x21_S4200x1x1_S4200x1_n_1_0_0_1_2_11 (subf (res_main_call6_v5 V0) (broadcastInDim S4200x21 ![0, 1] bcast_S4200x1_S4200x21_0_1 (Host.log (broadcastInDim S4200x1 ![0] bcast_S4200_S4200x1_0 (Host.reduceAdd (Host.exp (res_main_call6_v5 V0)) (constant S_ .f32 0x00000000#32) reducesTo_S4200x21_S4200_d1 h_S_))))) (res_main_call7_v5 V0) := by
  unfold val4_2
  simp only [ops_part4_1, TRef.binary, TRef.nullary, TRef.reshape, TRef.ternary, TRef.unary, TRef.toBuf, TRef.ofBuf, cast_eq]
  after_results_simp
  simp only [val4_1_main_v243, val4_1_main_call6_v3, val4_1_main_v237] <;> rfl
set_option maxRecDepth 8192 in
set_option maxHeartbeats 2000000 in
theorem val4_2_main_call7_cst (V0 : Valuation τ sig (Elt F)) : val4_2 V0 (no_index (Proc.devRef .tc main_call7_cst)) = constant S_ .f32 0x7FC00000#32 := by
  unfold val4_2
  simp only [ops_part4_1, TRef.binary, TRef.nullary, TRef.reshape, TRef.ternary, TRef.unary, TRef.toBuf, TRef.ofBuf, cast_eq]
  after_results_simp
  all_goals rfl

/-- The device's buffer contents after @main's first 342 operations. -/
def val4_3 (V0 : Valuation τ sig (Elt F)) : Valuation τ sig (Elt F) := after ops_part4_2 (val4_2 V0)
/-- The buffers that window `ops_part4_2`'s operations write. -/
abbrev ops_part4_2_W : List (Ref sig .tc) := [main_call7_v14, main_v246, main_v247, main_v248, main_v249, main_cst_18, main_v250, main_v251, main_v252, main_v253, main_v254, main_v255, main_v256, main_cst_19, main_v257, main_v258, main_cst_20, main_v259, main_v260, main_v261, main_cst_21, main_v262, main_v263, main_v264, main_v265, main_v266, main_v267, main_cst_22, main_v268, main_cst_23]
set_option maxRecDepth 8192 in
theorem ops_part4_2_writes : (ops_part4_2 : List (HloOp τ sig (Elt F))).Forall fun op => op.writes ⊆ (ops_part4_2_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part4_2` does not write keeps its contents through it. -/
theorem val4_3_keep (V0 : Valuation τ sig (Elt F)) (r : Ref sig .tc) (h : r ∉ ops_part4_2_W) :
    val4_3 V0 (Proc.devRef .tc r) = val4_2 V0 (Proc.devRef .tc r) :=
  after_of_writes_sub ops_part4_2 _ ops_part4_2_writes h
theorem val4_3_main_arg0 (V0 : Valuation τ sig (Elt F)) : val4_3 V0 (no_index (Proc.devRef .tc main_arg0)) = V0 (Proc.devRef .tc main_arg0) :=
  (val4_3_keep V0 main_arg0 (by decide)).trans (val4_2_main_arg0 V0)
theorem val4_3_main_arg1 (V0 : Valuation τ sig (Elt F)) : val4_3 V0 (no_index (Proc.devRef .tc main_arg1)) = V0 (Proc.devRef .tc main_arg1) :=
  (val4_3_keep V0 main_arg1 (by decide)).trans (val4_2_main_arg1 V0)
theorem val4_3_main_arg2 (V0 : Valuation τ sig (Elt F)) : val4_3 V0 (no_index (Proc.devRef .tc main_arg2)) = V0 (Proc.devRef .tc main_arg2) :=
  (val4_3_keep V0 main_arg2 (by decide)).trans (val4_2_main_arg2 V0)
theorem val4_3_main_arg3 (V0 : Valuation τ sig (Elt F)) : val4_3 V0 (no_index (Proc.devRef .tc main_arg3)) = V0 (Proc.devRef .tc main_arg3) :=
  (val4_3_keep V0 main_arg3 (by decide)).trans (val4_2_main_arg3 V0)
theorem val4_3_main_arg4 (V0 : Valuation τ sig (Elt F)) : val4_3 V0 (no_index (Proc.devRef .tc main_arg4)) = V0 (Proc.devRef .tc main_arg4) :=
  (val4_3_keep V0 main_arg4 (by decide)).trans (val4_2_main_arg4 V0)
theorem val4_3_main_arg5 (V0 : Valuation τ sig (Elt F)) : val4_3 V0 (no_index (Proc.devRef .tc main_arg5)) = V0 (Proc.devRef .tc main_arg5) :=
  (val4_3_keep V0 main_arg5 (by decide)).trans (val4_2_main_arg5 V0)
theorem val4_3_main_arg6 (V0 : Valuation τ sig (Elt F)) : val4_3 V0 (no_index (Proc.devRef .tc main_arg6)) = V0 (Proc.devRef .tc main_arg6) :=
  (val4_3_keep V0 main_arg6 (by decide)).trans (val4_2_main_arg6 V0)
theorem val4_3_main_arg7 (V0 : Valuation τ sig (Elt F)) : val4_3 V0 (no_index (Proc.devRef .tc main_arg7)) = V0 (Proc.devRef .tc main_arg7) :=
  (val4_3_keep V0 main_arg7 (by decide)).trans (val4_2_main_arg7 V0)
theorem val4_3_main_arg8 (V0 : Valuation τ sig (Elt F)) : val4_3 V0 (no_index (Proc.devRef .tc main_arg8)) = V0 (Proc.devRef .tc main_arg8) :=
  (val4_3_keep V0 main_arg8 (by decide)).trans (val4_2_main_arg8 V0)
theorem val4_3_main_arg9 (V0 : Valuation τ sig (Elt F)) : val4_3 V0 (no_index (Proc.devRef .tc main_arg9)) = V0 (Proc.devRef .tc main_arg9) :=
  (val4_3_keep V0 main_arg9 (by decide)).trans (val4_2_main_arg9 V0)
theorem val4_3_main_arg10 (V0 : Valuation τ sig (Elt F)) : val4_3 V0 (no_index (Proc.devRef .tc main_arg10)) = V0 (Proc.devRef .tc main_arg10) :=
  (val4_3_keep V0 main_arg10 (by decide)).trans (val4_2_main_arg10 V0)
theorem val4_3_main_arg11 (V0 : Valuation τ sig (Elt F)) : val4_3 V0 (no_index (Proc.devRef .tc main_arg11)) = V0 (Proc.devRef .tc main_arg11) :=
  (val4_3_keep V0 main_arg11 (by decide)).trans (val4_2_main_arg11 V0)
theorem val4_3_main_v79 (V0 : Valuation τ sig (Elt F)) : val4_3 V0 (no_index (Proc.devRef .tc main_v79)) = res_main_v79 V0 :=
  (val4_3_keep V0 main_v79 (by decide)).trans (val4_2_main_v79 V0)
theorem val4_3_main_v81 (V0 : Valuation τ sig (Elt F)) : val4_3 V0 (no_index (Proc.devRef .tc main_v81)) = res_main_v81 V0 :=
  (val4_3_keep V0 main_v81 (by decide)).trans (val4_2_main_v81 V0)
theorem val4_3_main_v154 (V0 : Valuation τ sig (Elt F)) : val4_3 V0 (no_index (Proc.devRef .tc main_v154)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_3_keep V0 main_v154 (by decide)).trans (val4_2_main_v154 V0)
theorem val4_3_main_v233 (V0 : Valuation τ sig (Elt F)) : val4_3 V0 (no_index (Proc.devRef .tc main_v233)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val4_3_keep V0 main_v233 (by decide)).trans (val4_2_main_v233 V0)
set_option maxRecDepth 8192 in
set_option maxHeartbeats 2000000 in
theorem val4_3_main_v251 (V0 : Valuation τ sig (Elt F)) : val4_3 V0 (no_index (Proc.devRef .tc main_v251)) = Host.divf (Host.reduceAdd (mulf (Host.negf (shapeCast _ (select (Host.reduce IntOp.andi (andi (cmpi .sge (res_main_call7_v5 V0) (broadcastInDim S4200x1x1 ![] bcast_S_S4200x1x1 (constantI S_ 32 0#32))) (cmpi .sle (res_main_call7_v5 V0) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_) (Host.gather gather_S4200x21_S4200x1x1_S4200x1_n_1_0_0_1_2_11 (subf (res_main_call6_v5 V0) (broadcastInDim S4200x21 ![0, 1] bcast_S4200x1_S4200x21_0_1 (Host.log (broadcastInDim S4200x1 ![0] bcast_S4200_S4200x1_0 (Host.reduceAdd (Host.exp (res_main_call6_v5 V0)) (constant S_ .f32 0x00000000#32) reducesTo_S4200x21_S4200_d1 h_S_))))) (res_main_call7_v5 V0)) (broadcastInDim S4200x1 ![] bcast_S_S4200x1 (constant S_ .f32 0x7FC00000#32))) shapeCasts_S4200x1_S4200)) (res_main_v79 V0)) (constant S_ .f32 0x00000000#32) reducesTo_S4200_S_d0 h_S_) (res_main_v81 V0) := by
  unfold val4_3
  simp only [ops_part4_2, TRef.ternary, TRef.unary, TRef.toBuf, TRef.ofBuf, cast_eq]
  after_results_simp
  simp only [val4_2_main_v81, val4_2_main_v79, val4_2_main_call7_cst, val4_2_main_call7_v13, val4_2_main_call7_v12] <;> rfl
set_option maxRecDepth 8192 in
set_option maxHeartbeats 2000000 in
theorem val4_3_main_v268 (V0 : Valuation τ sig (Elt F)) : val4_3 V0 (no_index (Proc.devRef .tc main_v268)) = Host.reduceAdd (mulf (select (cmpf .olt (res_main_v256 V0) (broadcastInDim S4200x4 ![] bcast_S_S4200x4 (constant S_ .f32 0x3F800000#32))) (mulf (mulf (broadcastInDim S4200x4 ![] bcast_S_S4200x4 (constant S_ .f32 0x3F000000#32)) (res_main_v255 V0)) (res_main_v255 V0)) (subf (res_main_v256 V0) (broadcastInDim S4200x4 ![] bcast_S_S4200x4 (constant S_ .f32 0x3F000000#32)))) (broadcastInDim S4200x4 ![0, 1] bcast_S4200x1_S4200x4_0_1 (broadcastInDim S4200x1 ![0] bcast_S4200_S4200x1_0 (res_main_v79 V0)))) (constant S_ .f32 0x00000000#32) reducesTo_S4200x4_S_d0_1 h_S_ := by
  unfold val4_3
  simp only [ops_part4_2, TRef.ternary, TRef.unary, TRef.toBuf, TRef.ofBuf, cast_eq]
  after_results_simp
  simp only [val4_2_main_v79, val4_2_main_v72, val4_2_main_v1, val4_2_main_v162] <;> rfl
set_option maxRecDepth 8192 in
set_option maxHeartbeats 2000000 in
theorem val4_3_main_cst_23 (V0 : Valuation τ sig (Elt F)) : val4_3 V0 (no_index (Proc.devRef .tc main_cst_23)) = constant S_ .f32 0x40800000#32 := by
  unfold val4_3
  simp only [ops_part4_2, TRef.ternary, TRef.unary, TRef.toBuf, TRef.ofBuf, cast_eq]
  after_results_simp
  all_goals rfl

/-- The device's buffer contents after @main's first 5 windows. -/
def val5 (V0 : Valuation τ sig (Elt F)) : Valuation τ sig (Elt F) := after ops_part4_3 (val4_3 V0)
/-- The buffers that window `ops_part4_3`'s operations write. -/
abbrev ops_part4_3_W : List (Ref sig .tc) := [main_v269, main_v270, main_v271, main_cst_24, main_cst_25]
set_option maxRecDepth 8192 in
theorem ops_part4_3_writes : (ops_part4_3 : List (HloOp τ sig (Elt F))).Forall fun op => op.writes ⊆ (ops_part4_3_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part4_3` does not write keeps its contents through it. -/
theorem val5_keep (V0 : Valuation τ sig (Elt F)) (r : Ref sig .tc) (h : r ∉ ops_part4_3_W) :
    val5 V0 (Proc.devRef .tc r) = val4_3 V0 (Proc.devRef .tc r) :=
  after_of_writes_sub ops_part4_3 _ ops_part4_3_writes h
theorem val5_main_arg0 (V0 : Valuation τ sig (Elt F)) : val5 V0 (no_index (Proc.devRef .tc main_arg0)) = V0 (Proc.devRef .tc main_arg0) :=
  (val5_keep V0 main_arg0 (by decide)).trans (val4_3_main_arg0 V0)
theorem val5_main_arg1 (V0 : Valuation τ sig (Elt F)) : val5 V0 (no_index (Proc.devRef .tc main_arg1)) = V0 (Proc.devRef .tc main_arg1) :=
  (val5_keep V0 main_arg1 (by decide)).trans (val4_3_main_arg1 V0)
theorem val5_main_arg2 (V0 : Valuation τ sig (Elt F)) : val5 V0 (no_index (Proc.devRef .tc main_arg2)) = V0 (Proc.devRef .tc main_arg2) :=
  (val5_keep V0 main_arg2 (by decide)).trans (val4_3_main_arg2 V0)
theorem val5_main_arg3 (V0 : Valuation τ sig (Elt F)) : val5 V0 (no_index (Proc.devRef .tc main_arg3)) = V0 (Proc.devRef .tc main_arg3) :=
  (val5_keep V0 main_arg3 (by decide)).trans (val4_3_main_arg3 V0)
theorem val5_main_arg4 (V0 : Valuation τ sig (Elt F)) : val5 V0 (no_index (Proc.devRef .tc main_arg4)) = V0 (Proc.devRef .tc main_arg4) :=
  (val5_keep V0 main_arg4 (by decide)).trans (val4_3_main_arg4 V0)
theorem val5_main_arg5 (V0 : Valuation τ sig (Elt F)) : val5 V0 (no_index (Proc.devRef .tc main_arg5)) = V0 (Proc.devRef .tc main_arg5) :=
  (val5_keep V0 main_arg5 (by decide)).trans (val4_3_main_arg5 V0)
theorem val5_main_arg6 (V0 : Valuation τ sig (Elt F)) : val5 V0 (no_index (Proc.devRef .tc main_arg6)) = V0 (Proc.devRef .tc main_arg6) :=
  (val5_keep V0 main_arg6 (by decide)).trans (val4_3_main_arg6 V0)
theorem val5_main_arg7 (V0 : Valuation τ sig (Elt F)) : val5 V0 (no_index (Proc.devRef .tc main_arg7)) = V0 (Proc.devRef .tc main_arg7) :=
  (val5_keep V0 main_arg7 (by decide)).trans (val4_3_main_arg7 V0)
theorem val5_main_arg8 (V0 : Valuation τ sig (Elt F)) : val5 V0 (no_index (Proc.devRef .tc main_arg8)) = V0 (Proc.devRef .tc main_arg8) :=
  (val5_keep V0 main_arg8 (by decide)).trans (val4_3_main_arg8 V0)
theorem val5_main_arg9 (V0 : Valuation τ sig (Elt F)) : val5 V0 (no_index (Proc.devRef .tc main_arg9)) = V0 (Proc.devRef .tc main_arg9) :=
  (val5_keep V0 main_arg9 (by decide)).trans (val4_3_main_arg9 V0)
theorem val5_main_arg10 (V0 : Valuation τ sig (Elt F)) : val5 V0 (no_index (Proc.devRef .tc main_arg10)) = V0 (Proc.devRef .tc main_arg10) :=
  (val5_keep V0 main_arg10 (by decide)).trans (val4_3_main_arg10 V0)
theorem val5_main_arg11 (V0 : Valuation τ sig (Elt F)) : val5 V0 (no_index (Proc.devRef .tc main_arg11)) = V0 (Proc.devRef .tc main_arg11) :=
  (val5_keep V0 main_arg11 (by decide)).trans (val4_3_main_arg11 V0)
theorem val5_main_v79 (V0 : Valuation τ sig (Elt F)) : val5 V0 (no_index (Proc.devRef .tc main_v79)) = res_main_v79 V0 :=
  (val5_keep V0 main_v79 (by decide)).trans (val4_3_main_v79 V0)
theorem val5_main_v81 (V0 : Valuation τ sig (Elt F)) : val5 V0 (no_index (Proc.devRef .tc main_v81)) = res_main_v81 V0 :=
  (val5_keep V0 main_v81 (by decide)).trans (val4_3_main_v81 V0)
theorem val5_main_v233 (V0 : Valuation τ sig (Elt F)) : val5 V0 (no_index (Proc.devRef .tc main_v233)) = Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7)))))))) :=
  (val5_keep V0 main_v233 (by decide)).trans (val4_3_main_v233 V0)
theorem val5_main_v251 (V0 : Valuation τ sig (Elt F)) : val5 V0 (no_index (Proc.devRef .tc main_v251)) = Host.divf (Host.reduceAdd (mulf (Host.negf (shapeCast _ (select (Host.reduce IntOp.andi (andi (cmpi .sge (res_main_call7_v5 V0) (broadcastInDim S4200x1x1 ![] bcast_S_S4200x1x1 (constantI S_ 32 0#32))) (cmpi .sle (res_main_call7_v5 V0) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_) (Host.gather gather_S4200x21_S4200x1x1_S4200x1_n_1_0_0_1_2_11 (subf (res_main_call6_v5 V0) (broadcastInDim S4200x21 ![0, 1] bcast_S4200x1_S4200x21_0_1 (Host.log (broadcastInDim S4200x1 ![0] bcast_S4200_S4200x1_0 (Host.reduceAdd (Host.exp (res_main_call6_v5 V0)) (constant S_ .f32 0x00000000#32) reducesTo_S4200x21_S4200_d1 h_S_))))) (res_main_call7_v5 V0)) (broadcastInDim S4200x1 ![] bcast_S_S4200x1 (constant S_ .f32 0x7FC00000#32))) shapeCasts_S4200x1_S4200)) (res_main_v79 V0)) (constant S_ .f32 0x00000000#32) reducesTo_S4200_S_d0 h_S_) (res_main_v81 V0) :=
  (val5_keep V0 main_v251 (by decide)).trans (val4_3_main_v251 V0)
set_option maxRecDepth 8192 in
theorem val5_main_v270 (V0 : Valuation τ sig (Elt F)) : val5 V0 (no_index (Proc.devRef .tc main_v270)) = Host.divf (Host.reduceAdd (mulf (select (cmpf .olt (res_main_v256 V0) (broadcastInDim S4200x4 ![] bcast_S_S4200x4 (constant S_ .f32 0x3F800000#32))) (mulf (mulf (broadcastInDim S4200x4 ![] bcast_S_S4200x4 (constant S_ .f32 0x3F000000#32)) (res_main_v255 V0)) (res_main_v255 V0)) (subf (res_main_v256 V0) (broadcastInDim S4200x4 ![] bcast_S_S4200x4 (constant S_ .f32 0x3F000000#32)))) (broadcastInDim S4200x4 ![0, 1] bcast_S4200x1_S4200x4_0_1 (broadcastInDim S4200x1 ![0] bcast_S4200_S4200x1_0 (res_main_v79 V0)))) (constant S_ .f32 0x00000000#32) reducesTo_S4200x4_S_d0_1 h_S_) (mulf (res_main_v81 V0) (constant S_ .f32 0x40800000#32)) := by
  unfold val5
  simp only [ops_part4_3]
  after_results_simp
  simp only [val4_3_main_cst_23, val4_3_main_v81, val4_3_main_v268] <;> rfl
set_option maxRecDepth 8192 in
theorem val5_main_v271 (V0 : Valuation τ sig (Elt F)) : val5 V0 (no_index (Proc.devRef .tc main_v271)) = shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7))))))))) shapeCasts_S4200x1_S4200 := by
  unfold val5
  simp only [ops_part4_3]
  after_results_simp
  simp only [val4_3_main_v154] <;> rfl
set_option maxRecDepth 8192 in
theorem val5_main_cst_24 (V0 : Valuation τ sig (Elt F)) : val5 V0 (no_index (Proc.devRef .tc main_cst_24)) = constant S_ .f32 0x33D6BF95#32 := by
  unfold val5
  simp only [ops_part4_3]
  after_results_simp
  all_goals rfl
set_option maxRecDepth 8192 in
theorem val5_main_cst_25 (V0 : Valuation τ sig (Elt F)) : val5 V0 (no_index (Proc.devRef .tc main_cst_25)) = constant S_ .f32 0x3F7FFFFE#32 := by
  unfold val5
  simp only [ops_part4_3]
  after_results_simp
  all_goals rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_call9_v0, main_call9_v1, main_call9_v2, main_call9_v3, main_call9_v4, main_v272, main_v273, main_cst_26, main_cst_27, main_call10_v0, main_call10_v1, main_call10_v2, main_call10_v3, main_call10_v4, main_v274, main_v275, main_v276, main_v277, main_cst_28, main_v278, main_v279, main_cst_29, main_v280, main_v281, main_v282, main_v283, main_v284, main_cst_30, main_v285, main_v286, main_cst_31, main_v287, main_cst_32, main_v288, main_v289, main_cst_33, main_v290, main_cst_34, main_v291, main_v292, main_cst_35, main_v293, main_v294]
set_option maxRecDepth 8192 in
theorem ops_part5_writes : (ops_part5 : List (HloOp τ sig (Elt F))).Forall fun op => op.writes ⊆ (ops_part5_W.map (Proc.devRef (τ := τ) .tc)).toFinset := by
  simp only [List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
set_option maxRecDepth 8192 in
set_option maxHeartbeats 2000000 in
theorem val6_main_v289 (V0 : Valuation τ sig (Elt F)) : val6 V0 (no_index (Proc.devRef .tc main_v289)) = addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7))))))))) shapeCasts_S4200x1_S4200))))) (res_main_v79 V0)) (constant S_ .f32 0x00000000#32) reducesTo_S4200_S_d0 h_S_) (res_main_v81 V0))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7))))))))) shapeCasts_S4200x1_S4200)))))) (res_main_v79 V0)) (constant S_ .f32 0x00000000#32) reducesTo_S4200_S_d0 h_S_) (res_main_v81 V0))) := by
  unfold val6
  simp only [ops_part5, TRef.binary, TRef.unary, TRef.toBuf, TRef.ofBuf, cast_eq]
  after_results_simp
  simp only [val5_main_v81, val5_main_v79, val5_main_v233, val5_main_v271, val5_main_cst_24, val5_main_cst_25] <;> rfl
set_option maxRecDepth 8192 in
set_option maxHeartbeats 2000000 in
theorem val6_main_v294 (V0 : Valuation τ sig (Elt F)) : val6 V0 (no_index (Proc.devRef .tc main_v294)) = addf (addf (mulf (constant S_ .f32 0x3F19999A#32) (Host.divf (Host.reduceAdd (mulf (select (cmpf .olt (res_main_v256 V0) (broadcastInDim S4200x4 ![] bcast_S_S4200x4 (constant S_ .f32 0x3F800000#32))) (mulf (mulf (broadcastInDim S4200x4 ![] bcast_S_S4200x4 (constant S_ .f32 0x3F000000#32)) (res_main_v255 V0)) (res_main_v255 V0)) (subf (res_main_v256 V0) (broadcastInDim S4200x4 ![] bcast_S_S4200x4 (constant S_ .f32 0x3F000000#32)))) (broadcastInDim S4200x4 ![0, 1] bcast_S4200x1_S4200x4_0_1 (broadcastInDim S4200x1 ![0] bcast_S4200_S4200x1_0 (res_main_v79 V0)))) (constant S_ .f32 0x00000000#32) reducesTo_S4200x4_S_d0_1 h_S_) (mulf (res_main_v81 V0) (constant S_ .f32 0x40800000#32)))) (mulf (constant S_ .f32 0x3F19999A#32) (Host.divf (Host.reduceAdd (mulf (Host.negf (shapeCast _ (select (Host.reduce IntOp.andi (andi (cmpi .sge (res_main_call7_v5 V0) (broadcastInDim S4200x1x1 ![] bcast_S_S4200x1x1 (constantI S_ 32 0#32))) (cmpi .sle (res_main_call7_v5 V0) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_) (Host.gather gather_S4200x21_S4200x1x1_S4200x1_n_1_0_0_1_2_11 (subf (res_main_call6_v5 V0) (broadcastInDim S4200x21 ![0, 1] bcast_S4200x1_S4200x21_0_1 (Host.log (broadcastInDim S4200x1 ![0] bcast_S4200_S4200x1_0 (Host.reduceAdd (Host.exp (res_main_call6_v5 V0)) (constant S_ .f32 0x00000000#32) reducesTo_S4200x21_S4200_d1 h_S_))))) (res_main_call7_v5 V0)) (broadcastInDim S4200x1 ![] bcast_S_S4200x1 (constant S_ .f32 0x7FC00000#32))) shapeCasts_S4200x1_S4200)) (res_main_v79 V0)) (constant S_ .f32 0x00000000#32) reducesTo_S4200_S_d0 h_S_) (res_main_v81 V0)))) (mulf (constant S_ .f32 0x3FE66666#32) (addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 V0) (V0 (Proc.devRef .tc main_arg6))) (broadcastInDim S4200x1 ![0, 1] bcast_S1x1_S4200x1_0_1 (broadcastInDim S1x1 ![1] bcast_S1_S1x1_1 (V0 (Proc.devRef .tc main_arg7))))))))) shapeCasts_S4200x1_S4200))))) (res_main_v79 V0)) (constant S_ .f32 0x00000000#32) reducesTo_S4200_S_d0 h_S_) (res_main_v81 V0))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 V0) (V0 (Proc.devRef .tc main_arg6))) (broadcastInDim S4200x1 ![0, 1] bcast_S1x1_S4200x1_0_1 (broadcastInDim S1x1 ![1] bcast_S1_S1x1_1 (V0 (Proc.devRef .tc main_arg7))))))))) shapeCasts_S4200x1_S4200)))))) (res_main_v79 V0)) (constant S_ .f32 0x00000000#32) reducesTo_S4200_S_d0 h_S_) (res_main_v81 V0))))) := by
  unfold val6
  simp only [ops_part5, TRef.binary, TRef.unary, TRef.toBuf, TRef.ofBuf, cast_eq]
  after_results_simp
  simp only [val5_main_v81, val5_main_v79, val5_main_v233, val5_main_v271, val5_main_cst_24, val5_main_cst_25, val5_main_v251, val5_main_v270] <;> rfl

theorem after_ops (V0 : Valuation τ sig (Elt F)) : after ops V0 = val6 V0 := by
  simp only [ops, ops_part0, ops_part1, ops_part2, ops_part3, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v294) = addf (addf (mulf (constant S_ .f32 0x3F19999A#32) (Host.divf (Host.reduceAdd (mulf (select (cmpf .olt (res_main_v256 (launchContents m c)) (broadcastInDim S4200x4 ![] bcast_S_S4200x4 (constant S_ .f32 0x3F800000#32))) (mulf (mulf (broadcastInDim S4200x4 ![] bcast_S_S4200x4 (constant S_ .f32 0x3F000000#32)) (res_main_v255 (launchContents m c))) (res_main_v255 (launchContents m c))) (subf (res_main_v256 (launchContents m c)) (broadcastInDim S4200x4 ![] bcast_S_S4200x4 (constant S_ .f32 0x3F000000#32)))) (broadcastInDim S4200x4 ![0, 1] bcast_S4200x1_S4200x4_0_1 (broadcastInDim S4200x1 ![0] bcast_S4200_S4200x1_0 (res_main_v79 (launchContents m c))))) (constant S_ .f32 0x00000000#32) reducesTo_S4200x4_S_d0_1 h_S_) (mulf (res_main_v81 (launchContents m c)) (constant S_ .f32 0x40800000#32)))) (mulf (constant S_ .f32 0x3F19999A#32) (Host.divf (Host.reduceAdd (mulf (Host.negf (shapeCast _ (select (Host.reduce IntOp.andi (andi (cmpi .sge (res_main_call7_v5 (launchContents m c)) (broadcastInDim S4200x1x1 ![] bcast_S_S4200x1x1 (constantI S_ 32 0#32))) (cmpi .sle (res_main_call7_v5 (launchContents m c)) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_) (Host.gather gather_S4200x21_S4200x1x1_S4200x1_n_1_0_0_1_2_11 (subf (res_main_call6_v5 (launchContents m c)) (broadcastInDim S4200x21 ![0, 1] bcast_S4200x1_S4200x21_0_1 (Host.log (broadcastInDim S4200x1 ![0] bcast_S4200_S4200x1_0 (Host.reduceAdd (Host.exp (res_main_call6_v5 (launchContents m c))) (constant S_ .f32 0x00000000#32) reducesTo_S4200x21_S4200_d1 h_S_))))) (res_main_call7_v5 (launchContents m c))) (broadcastInDim S4200x1 ![] bcast_S_S4200x1 (constant S_ .f32 0x7FC00000#32))) shapeCasts_S4200x1_S4200)) (res_main_v79 (launchContents m c))) (constant S_ .f32 0x00000000#32) reducesTo_S4200_S_d0 h_S_) (res_main_v81 (launchContents m c))))) (mulf (constant S_ .f32 0x3FE66666#32) (addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 (launchContents m c)) ((launchContents m c) (Proc.devRef .tc main_arg6))) (broadcastInDim S4200x1 ![0, 1] bcast_S1x1_S4200x1_0_1 (broadcastInDim S1x1 ![1] bcast_S1_S1x1_1 ((launchContents m c) (Proc.devRef .tc main_arg7))))))))) shapeCasts_S4200x1_S4200))))) (res_main_v79 (launchContents m c))) (constant S_ .f32 0x00000000#32) reducesTo_S4200_S_d0 h_S_) (res_main_v81 (launchContents m c)))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 (launchContents m c)) ((launchContents m c) (Proc.devRef .tc main_arg6))) (broadcastInDim S4200x1 ![0, 1] bcast_S1x1_S4200x1_0_1 (broadcastInDim S1x1 ![1] bcast_S1_S1x1_1 ((launchContents m c) (Proc.devRef .tc main_arg7))))))))) shapeCasts_S4200x1_S4200)))))) (res_main_v79 (launchContents m c))) (constant S_ .f32 0x00000000#32) reducesTo_S4200_S_d0 h_S_) (res_main_v81 (launchContents m c))))))
      ∧ r.2.mem ((c.tc : Thread nD τ).loc main_v289) = addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v144 (launchContents m c)) ((launchContents m c) (Proc.devRef .tc main_arg6))) (broadcastInDim S4200x1 ![0, 1] bcast_S1x1_S4200x1_0_1 (broadcastInDim S1x1 ![1] bcast_S1_S1x1_1 ((launchContents m c) (Proc.devRef .tc main_arg7))))))))) shapeCasts_S4200x1_S4200))))) (res_main_v79 (launchContents m c))) (constant S_ .f32 0x00000000#32) reducesTo_S4200_S_d0 h_S_) (res_main_v81 (launchContents m c)))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (res_main_v223 (launchContents m c)) ((launchContents m c) (Proc.devRef .tc main_arg6))) (broadcastInDim S4200x1 ![0, 1] bcast_S1x1_S4200x1_0_1 (broadcastInDim S1x1 ![1] bcast_S1_S1x1_1 ((launchContents m c) (Proc.devRef .tc main_arg7))))))))) shapeCasts_S4200x1_S4200)))))) (res_main_v79 (launchContents m c))) (constant S_ .f32 0x00000000#32) reducesTo_S4200_S_d0 h_S_) (res_main_v81 (launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v294).trans ((congrFun (after_ops (launchContents m c)) (Proc.devRef .tc main_v294)).trans (val6_main_v294 (launchContents m c))),
      (h c main_v289).trans ((congrFun (after_ops (launchContents m c)) (Proc.devRef .tc main_v289)).trans (val6_main_v289 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c))),
      (h c main_arg3).trans ((congrFun (after_ops (launchContents m c)) (Proc.devRef .tc main_arg3)).trans (val6_main_arg3 (launchContents m c))),
      (h c main_arg4).trans ((congrFun (after_ops (launchContents m c)) (Proc.devRef .tc main_arg4)).trans (val6_main_arg4 (launchContents m c))),
      (h c main_arg5).trans ((congrFun (after_ops (launchContents m c)) (Proc.devRef .tc main_arg5)).trans (val6_main_arg5 (launchContents m c))),
      (h c main_arg6).trans ((congrFun (after_ops (launchContents m c)) (Proc.devRef .tc main_arg6)).trans (val6_main_arg6 (launchContents m c))),
      (h c main_arg7).trans ((congrFun (after_ops (launchContents m c)) (Proc.devRef .tc main_arg7)).trans (val6_main_arg7 (launchContents m c))),
      (h c main_arg8).trans ((congrFun (after_ops (launchContents m c)) (Proc.devRef .tc main_arg8)).trans (val6_main_arg8 (launchContents m c))),
      (h c main_arg9).trans ((congrFun (after_ops (launchContents m c)) (Proc.devRef .tc main_arg9)).trans (val6_main_arg9 (launchContents m c))),
      (h c main_arg10).trans ((congrFun (after_ops (launchContents m c)) (Proc.devRef .tc main_arg10)).trans (val6_main_arg10 (launchContents m c))),
      (h c main_arg11).trans ((congrFun (after_ops (launchContents m c)) (Proc.devRef .tc main_arg11)).trans (val6_main_arg11 (launchContents m c)))⟩)
    (run_seq scopedRefs_eq scopedSems_eq defs main (fun _ => ops) main_eq (fun _ => ops_sub) m ρ fun _ => ops_fresh)

end Cert.ReferenceIdeal.Value

end
-- ==== Proof.Val.Disc.lean ====
module

public import proofs.«01_k».proof.Proof.KI.R1
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe

/-! What one grid point of the discriminator call computes, as a function of the blocks it is given. -/

/-- A feature block laid out row by row (slot by slot, box by box) between two stretches of 512 zero rows. -/
def xbuf (x : Vec Ideal S64x56x64 .bf16) : Vec Ideal S4608x64 .bf16 := fun i =>
  if h : 512 ≤ (i 0).val ∧ (i 0).val < 4096 then
    x (ix3 (⟨((i 0).val - 512) / 56, by omega⟩ : Fin 64) (⟨((i 0).val - 512) % 56, Nat.mod_lt _ (by decide)⟩ : Fin 56) (i 1 : Fin 64))
  else 0

/-- The two zero stretches of a scratch buffer. -/
def Halo (s : Vec Ideal S4608x64 .bf16) : Prop := ∀ i : S4608x64.Idx, ¬(512 ≤ (i 0).val ∧ (i 0).val < 4096) → s i = 0

/-- Every head of both halves of a block. -/
def headsK (Xt Xs : Vec Ideal S4608x64 .bf16) (w2 : Vec Ideal S576x64 .bf16) (bc : Vec Ideal S1x64 .f32)
    (pool : Vec Ideal S112x6272 .bf16) (wh : Vec Ideal S64x26 .f32) (bh : Vec Ideal S1x26 .f32) : FVec Ideal S112x26 .f32 :=
  k1_pay18 Xt Xs (k1_pay9 Xt Xs) (k1_pay10 Xt Xs) (k1_pay11 Xt Xs) (k1_pay12 Xt Xs) (k1_pay13 Xt Xs) (k1_pay14 Xt Xs)
    (k1_pay15 Xt Xs) (k1_pay16 Xt) (k1_pay17 Xs) w2 bc pool wh bh

/-- The accumulator after a block, over what it held. -/
def stepK (Xt Xs : Vec Ideal S4608x64 .bf16) (aux : Vec Ideal S56x16 .f32) (w2 : Vec Ideal S576x64 .bf16) (bc : Vec Ideal S1x64 .f32)
    (wh : Vec Ideal S64x26 .f32) (bh : Vec Ideal S1x26 .f32) (pool : Vec Ideal S112x6272 .bf16) (acc : Vec Ideal S1x4 .f32) : Vec Ideal S1x4 .f32 :=
  k1_pay2 (k1_pay22 aux)
    (k1_pay28 (k1_pay22 aux) (k1_pay26 Xt Xs (k1_pay9 Xt Xs) (k1_pay10 Xt Xs) (k1_pay11 Xt Xs) (k1_pay12 Xt Xs) (k1_pay13 Xt Xs) (k1_pay14 Xt Xs)
      (k1_pay15 Xt Xs) (k1_pay16 Xt) (k1_pay17 Xs) w2 bc pool wh bh) k1_pay27)
    (k1_pay29 (k1_pay20 Xt Xs (k1_pay9 Xt Xs) (k1_pay10 Xt Xs) (k1_pay11 Xt Xs) (k1_pay12 Xt Xs) (k1_pay13 Xt Xs) (k1_pay14 Xt Xs)
      (k1_pay15 Xt Xs) (k1_pay16 Xt) (k1_pay17 Xs) w2 bc pool wh bh) (k1_pay22 aux))
    (k1_pay30 (k1_pay20 Xt Xs (k1_pay9 Xt Xs) (k1_pay10 Xt Xs) (k1_pay11 Xt Xs) (k1_pay12 Xt Xs) (k1_pay13 Xt Xs) (k1_pay14 Xt Xs)
      (k1_pay15 Xt Xs) (k1_pay16 Xt) (k1_pay17 Xs) w2 bc pool wh bh) (k1_pay22 aux) (k1_pay23 aux))
    (k1_pay31 (k1_pay19 Xt Xs (k1_pay9 Xt Xs) (k1_pay10 Xt Xs) (k1_pay11 Xt Xs) (k1_pay12 Xt Xs) (k1_pay13 Xt Xs) (k1_pay14 Xt Xs)
      (k1_pay15 Xt Xs) (k1_pay16 Xt) (k1_pay17 Xs) w2 bc pool wh bh) (k1_pay24 aux) (k1_pay25 aux))
    acc

end Cert.KernelIdeal.Val

end
-- ==== Proof.Val.DiscRun.lean ====
module

public import proofs.«01_k».proof.Proof.Val.Disc
public import Idealize.ShloMosaic.Lib.Tactic

@[expose] public section

set_option maxRecDepth 16384

noncomputable section

namespace Cert.KernelIdeal.Val

open Cert.KernelIdeal Cert.KernelIdeal.Gen Cert.KernelIdeal.R1
open Idealize.ShloMosaic Idealize.ShloMosaic.TcCoe

variable (m : (c : Dev nD) → Valuation τ sig (Elt Ideal))

theorem hz2 : (![0, 0] : Fin 2 → Nat) = fun _ => 0 := funext fun a => by fin_cases a <;> rfl
theorem hz3 : (![0, 0, 0] : Fin 3 → Nat) = fun _ => 0 := funext fun a => by fin_cases a <;> rfl

/-! What the two scratch buffers hold when a point reads them: the fetched block between two zero stretches. -/

theorem pay8_eq (b : Vec Ideal S64x56x64 .bf16) : k1_pay8 b = k1_pay7 b := rfl

theorem rows_main (b : Vec Ideal S64x56x64 .bf16) (x : (Rect.unit (s := S4608x64) ![512, 0] S3584x64.size inb_S4608x64_S3584x64_512_0).shape.Idx) :
    k1_pay7 b x = xbuf b ((Rect.unit (s := S4608x64) ![512, 0] S3584x64.size inb_S4608x64_S3584x64_512_0).emb x) := by
  change S3584x64.Idx at x
  obtain ⟨r, k, rfl⟩ : ∃ (r : Fin 3584) (k : Fin 64), x = ix2 r k := ⟨x 0, x 1, eq_ix2 x⟩
  have e0 : ((Rect.unit (s := S4608x64) ![512, 0] S3584x64.size inb_S4608x64_S3584x64_512_0).emb (ix2 r k : S3584x64.Idx) 0).val = 512 + r.val := by
    show 512 + 1 * r.val = _; omega
  have e1 : ((Rect.unit (s := S4608x64) ![512, 0] S3584x64.size inb_S4608x64_S3584x64_512_0).emb (ix2 r k : S3584x64.Idx) 1).val = k.val := by
    show 0 + 1 * k.val = _; omega
  unfold xbuf
  rw [dif_pos ⟨by omega, by have := r.isLt; omega⟩]
  pointwise [k1_pay7]
  refine congrArg b ?_
  have h3 : ∀ {a a' : Fin 64} {b b' : Fin 56} {c c' : Fin 64}, a = a' → b = b' → c = c' → (ix3 a b c : S64x56x64.Idx) = ix3 a' b' c' := by rintro _ _ _ _ _ _ rfl rfl rfl; rfl
  refine h3 (Fin.ext ?_) (Fin.ext ?_) (Fin.ext ?_)
  · show r.val / 56 = (_ - 512) / 56; rw [e0]; congr 1; omega
  · show r.val % 56 = (_ - 512) % 56; rw [e0]; congr 1; omega
  · exact e1.symm

theorem rows_low (b : Vec Ideal S64x56x64 .bf16) (x : (Rect.unit (s := S4608x64) ![0, 0] S512x64.size inb_S4608x64_S512x64_0_0).shape.Idx) :
    k1_pay3 (F := Ideal) x = xbuf b ((Rect.unit (s := S4608x64) ![0, 0] S512x64.size inb_S4608x64_S512x64_0_0).emb x) := by
  have e0 : ((Rect.unit (s := S4608x64) ![0, 0] S512x64.size inb_S4608x64_S512x64_0_0).emb x 0).val < 512 := by
    have h : (x 0).val < 512 := (x 0).isLt
    show 0 + 1 * (x 0).val < _; omega
  unfold xbuf
  rw [dif_neg (by omega)]
  change S512x64.Idx at x
  pointwise [k1_pay3]

theorem rows_high (b : Vec Ideal S64x56x64 .bf16) (x : (Rect.unit (s := S4608x64) ![4096, 0] S512x64.size inb_S4608x64_S512x64_4096_0).shape.Idx) :
    k1_pay5 (F := Ideal) x = xbuf b ((Rect.unit (s := S4608x64) ![4096, 0] S512x64.size inb_S4608x64_S512x64_4096_0).emb x) := by
  have e0 : 4096 ≤ ((Rect.unit (s := S4608x64) ![4096, 0] S512x64.size inb_S4608x64_S512x64_4096_0).emb x 0).val := by
    show _ ≤ 4096 + 1 * (x 0).val; omega
  unfold xbuf
  rw [dif_neg (by omega)]
  change S512x64.Idx at x
  pointwise [k1_pay5]

theorem mem_main (y : S4608x64.Idx) (h : 512 ≤ (y 0).val ∧ (y 0).val < 4096) :
    y ∈ (Rect.unit (s := S4608x64) ![512, 0] S3584x64.size inb_S4608x64_S3584x64_512_0).set := by
  rw [Rect.mem_set_unit]
  intro a
  match a with
  | ⟨0, _⟩ => exact ⟨h.1, by show (y 0).val < 512 + 3584; omega⟩
  | ⟨1, _⟩ => exact ⟨Nat.zero_le _, by have h1 : (y 1).val < 64 := (y 1).isLt; show (y 1).val < 0 + 64; omega⟩
theorem not_mem_main (y : S4608x64.Idx) (h : ¬(512 ≤ (y 0).val ∧ (y 0).val < 4096)) :
    y ∉ (Rect.unit (s := S4608x64) ![512, 0] S3584x64.size inb_S4608x64_S3584x64_512_0).set := by
  rw [Rect.mem_set_unit]
  intro hh
  exact h ⟨(hh 0).1, by have h2 : (y 0).val < 512 + 3584 := (hh 0).2; omega⟩
theorem mem_low (y : S4608x64.Idx) (h : (y 0).val < 512) :
    y ∈ (Rect.unit (s := S4608x64) ![0, 0] S512x64.size inb_S4608x64_S512x64_0_0).set := by
  rw [Rect.mem_set_unit]
  intro a
  match a with
  | ⟨0, _⟩ => exact ⟨Nat.zero_le _, by show (y 0).val < 0 + 512; omega⟩
  | ⟨1, _⟩ => exact ⟨Nat.zero_le _, by have h1 : (y 1).val < 64 := (y 1).isLt; show (y 1).val < 0 + 64; omega⟩
theorem mem_high (y : S4608x64.Idx) (h : 4096 ≤ (y 0).val) :
    y ∈ (Rect.unit (s := S4608x64) ![4096, 0] S512x64.size inb_S4608x64_S512x64_4096_0).set := by
  rw [Rect.mem_set_unit]
  intro a
  match a with
  | ⟨0, _⟩ => exact ⟨h, by have h1 : (y 0).val < 4608 := (y 0).isLt; show (y 0).val < 4096 + 512; omega⟩
  | ⟨1, _⟩ => exact ⟨Nat.zero_le _, by have h1 : (y 1).val < 64 := (y 1).isLt; show (y 1).val < 0 + 64; omega⟩

/-- A view after the first point's three stores. -/
theorem read_A (v : View sig .tc .vmem S4608x64 .bf16) (f) (b : Vec Ideal S64x56x64 .bf16) :
    v.read (Elt Ideal) (v.writes (Elt Ideal) f [⟨Rect.unit (s := S4608x64) ![512, 0] S3584x64.size inb_S4608x64_S3584x64_512_0, k1_pay7 b⟩,
      ⟨Rect.unit (s := S4608x64) ![4096, 0] S512x64.size inb_S4608x64_S512x64_4096_0, k1_pay5 (F := Ideal)⟩,
      ⟨Rect.unit (s := S4608x64) ![0, 0] S512x64.size inb_S4608x64_S512x64_0_0, k1_pay3 (F := Ideal)⟩]) = xbuf b := by
  funext y
  refine View.read_writes_apply_of_pieces v f (xbuf b) _ ?_ y ?_
  · intro p hp
    simp only [List.mem_cons, List.not_mem_nil, or_false] at hp
    rcases hp with rfl | rfl | rfl
    · exact rows_main b
    · exact rows_high b
    · exact rows_low b
  · by_cases h : (y 0).val < 512
    · exact ⟨_, .tail _ (.tail _ (.head _)), mem_low y h⟩
    · by_cases h2 : (y 0).val < 4096
      · exact ⟨_, .head _, mem_main y ⟨by omega, h2⟩⟩
      · exact ⟨_, .tail _ (.head _), mem_high y (by omega)⟩

/-- A view after a later point's store, over zero stretches. -/
theorem read_B (v : View sig .tc .vmem S4608x64 .bf16) (f) (hf : Halo (v.read (Elt Ideal) f)) (b : Vec Ideal S64x56x64 .bf16) :
    v.read (Elt Ideal) (v.writes (Elt Ideal) f [⟨Rect.unit (s := S4608x64) ![512, 0] S3584x64.size inb_S4608x64_S3584x64_512_0, k1_pay7 b⟩]) = xbuf b := by
  funext y
  by_cases h : 512 ≤ (y 0).val ∧ (y 0).val < 4096
  · refine View.read_writes_apply_of_pieces v f (xbuf b) _ ?_ y ⟨_, .head _, mem_main y h⟩
    intro p hp
    simp only [List.mem_cons, List.not_mem_nil, or_false] at hp
    subst hp
    exact rows_main b
  · rw [View.read_writes_apply_of_forall_not_mem, hf y h]
    · unfold xbuf; rw [dif_neg h]
    · intro p hp
      simp only [List.mem_cons, List.not_mem_nil, or_false] at hp
      subst hp
      exact not_mem_main y h

theorem halo_xbuf (b : Vec Ideal S64x56x64 .bf16) : Halo (xbuf b) := fun i hi => by unfold xbuf; rw [dif_neg hi]

theorem stB_s0 (c : Dev nD) (t : Fin cfg1.N) (h : ¬t.val % 75 = 0) (p : St Ideal) (hp : Halo p.2.1) :
    (stB m c t h p).2.1 = xbuf (iblk m c 0 t) := by
  unfold stB
  dsimp only
  unfold RB runB
  dsimp only
  sl_unfold_words
  refine (read_B VS0_0 _ (by rw [Memref.IsWhole.read_unread]; exact hp) _).trans ?_
  simp only [View.readAt_eq_ld, Memref.IsWhole.read_unread, View.ld_unit_zero (S := S64x56x64) hz3]

theorem stB_s1 (c : Dev nD) (t : Fin cfg1.N) (h : ¬t.val % 75 = 0) (p : St Ideal) (hp : Halo p.2.2) :
    (stB m c t h p).2.2 = xbuf (iblk m c 1 t) := by
  unfold stB
  dsimp only
  unfold RB runB
  dsimp only
  sl_unfold_words
  refine (read_B VS0_1 _ (by rw [Memref.IsWhole.read_unread]; exact hp) _).trans ?_
  simp only [View.readAt_eq_ld, Memref.IsWhole.read_unread, View.ld_unit_zero (S := S64x56x64) hz3]

theorem stA_s0 (c : Dev nD) (t : Fin cfg1.N) (h : t.val % 75 = 0) : (stA m c t h).2.1 = xbuf (iblk m c 0 t) := by
  unfold stA
  dsimp only
  unfold RA runA
  dsimp only
  sl_unfold_words
  refine (read_A VS0_0 _ _).trans ?_
  simp only [View.readAt_eq_ld, Memref.IsWhole.read_unread, View.ld_unit_zero (S := S64x56x64) hz3]

theorem stA_s1 (c : Dev nD) (t : Fin cfg1.N) (h : t.val % 75 = 0) : (stA m c t h).2.2 = xbuf (iblk m c 1 t) := by
  unfold stA
  dsimp only
  unfold RA runA
  dsimp only
  sl_unfold_words
  refine (read_A VS0_1 _ _).trans ?_
  simp only [View.readAt_eq_ld, Memref.IsWhole.read_unread, View.ld_unit_zero (S := S64x56x64) hz3]

theorem cov_A (v : View sig .tc .vmem S4608x64 .bf16) (b : Vec Ideal S64x56x64 .bf16) :
    v.readCov (Val := Elt Ideal) [⟨Rect.unit (s := S4608x64) ![512, 0] S3584x64.size inb_S4608x64_S3584x64_512_0, k1_pay7 b⟩,
      ⟨Rect.unit (s := S4608x64) ![4096, 0] S512x64.size inb_S4608x64_S512x64_4096_0, k1_pay5 (F := Ideal)⟩,
      ⟨Rect.unit (s := S4608x64) ![0, 0] S512x64.size inb_S4608x64_S512x64_0_0, k1_pay3 (F := Ideal)⟩] (Rect.unit (s := S4608x64) ![0, 0] S4608x64.size inb_S4608x64_S4608x64_0_0).toLoadRect = xbuf b := by
  unfold View.readCov
  rw [View.readAt_eq_ld, read_A, View.ld_unit_zero (S := S4608x64) hz2]

theorem cov_A' (v : View sig .tc .vmem S4608x64 .bf16) (b : Vec Ideal S64x56x64 .bf16) :
    v.readCov (Val := Elt Ideal) [⟨Rect.unit (s := S4608x64) ![512, 0] S3584x64.size inb_S4608x64_S3584x64_512_0, k1_pay8 b⟩,
      ⟨Rect.unit (s := S4608x64) ![4096, 0] S512x64.size inb_S4608x64_S512x64_4096_0, k1_pay6 (F := Ideal)⟩,
      ⟨Rect.unit (s := S4608x64) ![0, 0] S512x64.size inb_S4608x64_S512x64_0_0, k1_pay4 (F := Ideal)⟩] (Rect.unit (s := S4608x64) ![0, 0] S4608x64.size inb_S4608x64_S4608x64_0_0).toLoadRect = xbuf b :=
  cov_A v b

theorem pay1_zero : (k1_pay1 (F := Ideal)) = fun _ => (0 : EReal) := by
  funext j; pointwise [k1_pay1]

/-- Equal blocks, equal accumulators. -/
theorem stepK_congr {a a' b b' : Vec Ideal S4608x64 .bf16} {c c' : Vec Ideal S56x16 .f32} {d d' : Vec Ideal S576x64 .bf16} {e e' : Vec Ideal S1x64 .f32}
    {f f' : Vec Ideal S64x26 .f32} {g g' : Vec Ideal S1x26 .f32} {h h' : Vec Ideal S112x6272 .bf16} {i i' : Vec Ideal S1x4 .f32}
    (e1 : a = a') (e2 : b = b') (e3 : c = c') (e4 : d = d') (e5 : e = e') (e6 : f = f') (e7 : g = g') (e8 : h = h') (e9 : i = i') :
    stepK a b c d e f g h i = stepK a' b' c' d' e' f' g' h' i' := by subst e1 e2 e3 e4 e5 e6 e7 e8 e9; rfl

theorem rd {S : Shape} {φ : EltTy} (M : Memref sig .tc .vmem S φ) (hM : M.IsWhole) (x : Vec Ideal S φ) {off : Fin S.rank → ℕ} (ho : off = fun _ => 0)
    (inb : ∀ a, off a + S.size a ≤ S.size a) :
    View.readAt (Elt Ideal) M.view (Rect.unit off S.size inb).toLoadRect (hM.unread x) = x := by
  rw [View.readAt_eq_ld, hM.read_unread, View.ld_unit_zero ho]

theorem stB_acc (c : Dev nD) (t : Fin cfg1.N) (h : ¬t.val % 75 = 0) (p : St Ideal) (hp : Halo p.2.1) (hp2 : Halo p.2.2) :
    (stB m c t h p).1 = stepK (xbuf (iblk m c 0 t)) (xbuf (iblk m c 1 t)) (iblk m c 2 t) (iblk m c 3 t) (iblk m c 4 t) (iblk m c 5 t) (iblk m c 6 t) (iblk m c 7 t) p.1 := by
  unfold stB
  dsimp only
  rw [View.read_writes_eq_canon _ _ _ (coverB_8 m c t h p)]
  unfold RB runB
  dsimp only
  sl_unfold_words
  rw [View.canon_unit_zero hz2]
  change stepK _ _ _ _ _ _ _ _ _ = _
  refine stepK_congr ?_ ?_ (rd _ _ _ hz2 _) (rd _ _ _ hz2 _) (rd _ _ _ hz2 _) (rd _ _ _ hz2 _) (rd _ _ _ hz2 _) (rd _ _ _ hz2 _) (rd _ _ _ hz2 _)
  · rw [View.readAt_eq_ld, View.ld_unit_zero (S := S4608x64) hz2]
    refine (read_B VS0_0 _ (by rw [Memref.IsWhole.read_unread]; exact hp) _).trans ?_
    rw [rd _ _ _ hz3 _]
  · rw [View.readAt_eq_ld, View.ld_unit_zero (S := S4608x64) hz2]
    refine (read_B VS0_1 _ (by rw [Memref.IsWhole.read_unread]; exact hp2) _).trans ?_
    rw [rd _ _ _ hz3 _]

theorem stA_acc (c : Dev nD) (t : Fin cfg1.N) (h : t.val % 75 = 0) :
    (stA m c t h).1 = stepK (xbuf (iblk m c 0 t)) (xbuf (iblk m c 1 t)) (iblk m c 2 t) (iblk m c 3 t) (iblk m c 4 t) (iblk m c 5 t) (iblk m c 6 t) (iblk m c 7 t) (fun _ => (0 : EReal)) := by
  unfold stA
  dsimp only
  rw [View.read_writes_eq_canon _ _ _ (coverA_8 m c t h)]
  unfold RA runA
  dsimp only
  sl_unfold_words
  rw [View.canon_cons_unit_zero hz2]
  change stepK _ _ _ _ _ _ _ _ _ = _
  refine stepK_congr ?_ ?_ (rd _ _ _ hz2 _) (rd _ _ _ hz2 _) (rd _ _ _ hz2 _) (rd _ _ _ hz2 _) (rd _ _ _ hz2 _) (rd _ _ _ hz2 _) ?_
  · refine (cov_A VS0_0 _).trans ?_
    rw [rd _ _ _ hz3 _]
  · refine (cov_A' VS0_1 _).trans ?_
    rw [rd _ _ _ hz3 _]
  · rw [View.readCov_unit_zero (S := S1x4) _ hz2]
    exact pay1_zero

end Cert.KernelIdeal.Val

end
-- ==== Proof.Val.Conv.lean ====
module

public import proofs.«01_k».proof.Proof.Val.Disc

@[expose] public section

set_option maxRecDepth 16384

noncomputable section

namespace Cert.KernelIdeal.Val

open Cert.KernelIdeal Cert.KernelIdeal.Gen
open Idealize.ShloMosaic Idealize.ShloMosaic.TcCoe

/-! The convolution, the pooling and the heads of one block of boxes. -/

/-- A sum over `m * n` positions, row by row. -/
theorem sum_rows (m n N : ℕ) (h : m * n = N) (f : Fin N → EReal) :
    ∑ k, f k = ∑ i : Fin m, ∑ j : Fin n, f ⟨n * i.val + j.val, by
      have h1 := i.isLt; have h2 := j.isLt
      calc n * i.val + j.val < n * i.val + n := by omega
        _ = n * (i.val + 1) := by ring
        _ ≤ n * m := Nat.mul_le_mul_left _ h1
        _ = N := by rw [← h, Nat.mul_comm]⟩ := by
  subst h
  rw [← finProdFinEquiv.sum_comp, Fintype.sum_prod_type]
  refine Finset.sum_congr rfl fun i _ => Finset.sum_congr rfl fun j _ => ?_
  congr 1
  apply Fin.ext
  show j.val + n * i.val = n * i.val + j.val
  omega

/-- A factor moves out of a sum of terms that are not negative. -/
theorem mul_sum_nonneg {ι : Type} (s : Finset ι) (c : EReal) (f : ι → EReal) (h : ∀ i ∈ s, 0 ≤ f i) :
    ∑ i ∈ s, c * f i = c * ∑ i ∈ s, f i := by
  classical
  induction s using Finset.induction_on with
  | empty => simp
  | insert a s ha ih =>
    rw [Finset.sum_insert ha, Finset.sum_insert ha, ih fun i hi => h i (Finset.mem_insert_of_mem hi),
      EReal.left_distrib_of_nonneg (h a (Finset.mem_insert_self a s)) (Finset.sum_nonneg fun i hi => h i (Finset.mem_insert_of_mem hi))]

/-- The columns of the convolution's product: nine shifted copies of both halves, side by side. -/
def colK (Xt Xs : Vec Ideal S4608x64 .bf16) : FVec Ideal S6272x576 .bf16 :=
  concatenate S6272x576 1 [⟨S6272x64, k1_pay9 Xt Xs⟩, ⟨S6272x64, k1_pay10 Xt Xs⟩, ⟨S6272x64, k1_pay11 Xt Xs⟩, ⟨S6272x64, k1_pay12 Xt Xs⟩,
    ⟨S6272x64, k1_pay13 Xt Xs⟩, ⟨S6272x64, k1_pay14 Xt Xs⟩, ⟨S6272x64, k1_pay15 Xt Xs⟩,
    ⟨S6272x64, concatenate S6272x64 0 [⟨S3136x64, k1_pay16 Xt⟩, ⟨S3136x64, k1_pay17 Xs⟩] concatenates_S3136x64_S3136x64_S6272x64_d0⟩,
    ⟨S6272x64, concatenate S6272x64 0 [⟨S3136x64, extractStridedSlice S3136x64 ![1016, 0] Xt slices_S4608x64_o1016_0_S3136x64⟩,
      ⟨S3136x64, extractStridedSlice S3136x64 ![1016, 0] Xs slices_S4608x64_o1016_0_S3136x64⟩] concatenates_S3136x64_S3136x64_S6272x64_d0⟩]
    concatenates_S6272x64_S6272x64_S6272x64_S6272x64_S6272x64_S6272x64_S6272x64_S6272x64_S6272x64_S6272x576_d1

theorem heads_col (Xt Xs : Vec Ideal S4608x64 .bf16) (w2 : Vec Ideal S576x64 .bf16) (bc : Vec Ideal S1x64 .f32)
    (pool : Vec Ideal S112x6272 .bf16) (wh : Vec Ideal S64x26 .f32) (bh : Vec Ideal S1x26 .f32) (r : Fin 112) (j : Fin 26) :
    headsK Xt Xs w2 bc pool wh bh (ix2 r j)
      = (∑ o : Fin 64, (∑ q : Fin 6272, (pool (ix2 r q) * ((49⁻¹ : ℝ) : EReal))
          * max ((∑ k : Fin 576, colK Xt Xs (ix2 q k) * w2 (ix2 k o)) + bc (ix2 0 o)) 0) * wh (ix2 o j)) + bh (ix2 0 j) := by
  have hk : Named.named (F := Ideal) κ "inv49" (φ := .bf16) 0x3CA7#16 = ((49⁻¹ : ℝ) : EReal) :=
    IdealRules.named_const.ideal_named_scalar _ _ _ _ rfl
  unfold headsK k1_pay18
  rw [show concatenate S6272x576 1 _ _ = colK Xt Xs from rfl, hk]
  generalize colK Xt Xs = col
  pointwise

/-- Nine pieces side by side, read at column `64 t + k`: piece `t` at column `k`. -/
theorem nine_pieces (f : Fin 9 → (S6272x64.Idx → EReal))
    (h : Shape.Concatenates [S6272x64, S6272x64, S6272x64, S6272x64, S6272x64, S6272x64, S6272x64, S6272x64, S6272x64] S6272x576 1)
    (q : Fin 6272) (t : Fin 9) (k : Fin 64) :
    concatenate S6272x576 1 [⟨S6272x64, f 0⟩, ⟨S6272x64, f 1⟩, ⟨S6272x64, f 2⟩, ⟨S6272x64, f 3⟩, ⟨S6272x64, f 4⟩, ⟨S6272x64, f 5⟩,
      ⟨S6272x64, f 6⟩, ⟨S6272x64, f 7⟩, ⟨S6272x64, f 8⟩] h (ix2 q (⟨64 * t.val + k.val, by omega⟩ : Fin 576)) = f t (ix2 q k) := by
  have hi : ∀ b : Fin 2, b ≠ 1 → ((ix2 q k : S6272x64.Idx) b).val = ((ix2 q (⟨64 * t.val + k.val, by omega⟩ : Fin 576) : S6272x576.Idx) b).val := by
    intro b hb
    have hb0 : b = 0 := by omega
    subst hb0; rfl
  refine concatenate_apply_piece (t := S6272x576) (1 : Fin 2) _ _ _ t.val (by show t.val < 9; omega) S6272x64 (f t) ?_ rfl (64 * t.val) ?_ (ix2 q k) hi rfl
  · fin_cases t <;> rfl
  · fin_cases t <;> rfl

/-- Two halves one under the other, each a slice of rows from `o`. -/
theorem two_halves (o : ℕ) (ho : o + 3136 ≤ 4608) (A B : Vec Ideal S4608x64 .bf16) (hA : S4608x64.Slices ![o, 0] S3136x64)
    (h : Shape.Concatenates [S3136x64, S3136x64] S6272x64 0) (q : Fin 6272) (k : Fin 64) :
    concatenate S6272x64 0 [⟨S3136x64, extractStridedSlice S3136x64 ![o, 0] A hA⟩, ⟨S3136x64, extractStridedSlice S3136x64 ![o, 0] B hA⟩] h (ix2 q k)
      = (if q.val < 3136 then A else B) (ix2 (⟨o + q.val % 3136, by omega⟩ : Fin 4608) k) := by
  have hq := q.isLt
  by_cases hlt : q.val < 3136
  · rw [if_pos hlt, concatenate_pair_apply_left (t := S6272x64) (s₁ := S3136x64) (s₂ := S3136x64) (0 : Fin 2) _ _ h _ rfl (ix2 (⟨q.val, hlt⟩ : Fin 3136) k) (by intro b; fin_cases b <;> rfl)]
    refine extractStridedSlice_apply _ _ hA _ _ (fun b => ?_)
    fin_cases b
    · show o + q.val % 3136 = o + q.val
      rw [Nat.mod_eq_of_lt hlt]
    · show k.val = 0 + k.val
      omega
  · rw [if_neg hlt, concatenate_pair_apply_right (t := S6272x64) (s₁ := S3136x64) (s₂ := S3136x64) (0 : Fin 2) _ _ h _ rfl rfl (ix2 (⟨q.val - 3136, by omega⟩ : Fin 3136) k)
      (by intro b hb; fin_cases b
          · exact absurd rfl hb
          · rfl)
      (by show q.val - 3136 + 3136 = q.val; omega)]
    refine extractStridedSlice_apply _ _ hA _ _ (fun b => ?_)
    fin_cases b
    · show o + q.val % 3136 = o + (q.val - 3136)
      omega
    · show k.val = 0 + k.val
      omega

/-- The nine shifted copies. -/
def tapK (Xt Xs : Vec Ideal S4608x64 .bf16) : Fin 9 → (S6272x64.Idx → EReal) :=
  ![k1_pay9 Xt Xs, k1_pay10 Xt Xs, k1_pay11 Xt Xs, k1_pay12 Xt Xs, k1_pay13 Xt Xs, k1_pay14 Xt Xs, k1_pay15 Xt Xs,
    concatenate S6272x64 0 [⟨S3136x64, k1_pay16 Xt⟩, ⟨S3136x64, k1_pay17 Xs⟩] concatenates_S3136x64_S3136x64_S6272x64_d0,
    concatenate S6272x64 0 [⟨S3136x64, extractStridedSlice S3136x64 ![1016, 0] Xt slices_S4608x64_o1016_0_S3136x64⟩,
      ⟨S3136x64, extractStridedSlice S3136x64 ![1016, 0] Xs slices_S4608x64_o1016_0_S3136x64⟩] concatenates_S3136x64_S3136x64_S6272x64_d0]

theorem tap_apply (Xt Xs : Vec Ideal S4608x64 .bf16) (q : Fin 6272) (t : Fin 9) (k : Fin 64) :
    tapK Xt Xs t (ix2 q k)
      = (if q.val < 3136 then Xt else Xs) (ix2 (⟨8 + 448 * (t.val / 3) + 56 * (t.val % 3) + q.val % 3136, by omega⟩ : Fin 4608) k) := by
  fin_cases t
  · exact two_halves 8 (by omega) Xt Xs slices_S4608x64_o8_0_S3136x64 concatenates_S3136x64_S3136x64_S6272x64_d0 q k
  · exact two_halves 64 (by omega) Xt Xs slices_S4608x64_o64_0_S3136x64 concatenates_S3136x64_S3136x64_S6272x64_d0 q k
  · exact two_halves 120 (by omega) Xt Xs slices_S4608x64_o120_0_S3136x64 concatenates_S3136x64_S3136x64_S6272x64_d0 q k
  · exact two_halves 456 (by omega) Xt Xs slices_S4608x64_o456_0_S3136x64 concatenates_S3136x64_S3136x64_S6272x64_d0 q k
  · exact two_halves 512 (by omega) Xt Xs slices_S4608x64_o512_0_S3136x64 concatenates_S3136x64_S3136x64_S6272x64_d0 q k
  · exact two_halves 568 (by omega) Xt Xs slices_S4608x64_o568_0_S3136x64 concatenates_S3136x64_S3136x64_S6272x64_d0 q k
  · exact two_halves 904 (by omega) Xt Xs slices_S4608x64_o904_0_S3136x64 concatenates_S3136x64_S3136x64_S6272x64_d0 q k
  · exact two_halves 960 (by omega) Xt Xs slices_S4608x64_o960_0_S3136x64 concatenates_S3136x64_S3136x64_S6272x64_d0 q k
  · exact two_halves 1016 (by omega) Xt Xs slices_S4608x64_o1016_0_S3136x64 concatenates_S3136x64_S3136x64_S6272x64_d0 q k

/-- A column of tap `t`, channel `k`, reads the half's rows shifted by the tap. -/
theorem col_apply (Xt Xs : Vec Ideal S4608x64 .bf16) (q : Fin 6272) (t : Fin 9) (k : Fin 64) :
    colK Xt Xs (ix2 q (⟨64 * t.val + k.val, by omega⟩ : Fin 576))
      = (if q.val < 3136 then Xt else Xs) (ix2 (⟨8 + 448 * (t.val / 3) + 56 * (t.val % 3) + q.val % 3136, by omega⟩ : Fin 4608) k) := by
  rw [← tap_apply]
  exact nine_pieces (tapK Xt Xs) _ q t k

/-- A feature block with its halo: the padded features of box `n`, zero outside. -/
structure Padded (x : Vec Ideal S64x56x64 .bf16) (P : Fin 56 → Fin 64 → ℕ → ℕ → EReal) : Prop where
  read : ∀ (s : Fin 64) (n : Fin 56) (k : Fin 64), x (ix3 s n k) = P n k (s.val / 8 + 1) (s.val % 8 + 1)
  top : ∀ n k X, P n k 0 X = 0
  left : ∀ n k Y, P n k Y 0 = 0
  right : ∀ n k Y, P n k Y 8 = 0

theorem xbuf_row {x : Vec Ideal S64x56x64 .bf16} {P : Fin 56 → Fin 64 → ℕ → ℕ → EReal} (h : Padded x P)
    (Y X : ℕ) (hY : Y ≤ 8) (hX : X ≤ 8) (n : Fin 56) (k : Fin 64) (r : Fin 4608) (hr : r.val = 8 + 448 * Y + 56 * X + n.val) :
    xbuf x (ix2 r k) = P n k Y X := by
  have hn := n.isLt
  by_cases hin : 512 ≤ r.val ∧ r.val < 4096
  · rw [show xbuf x (ix2 r k) = x (ix3 (⟨(r.val - 512) / 56, by omega⟩ : Fin 64) (⟨(r.val - 512) % 56, by omega⟩ : Fin 56) k) from dif_pos hin]
    have e : x (ix3 (⟨(r.val - 512) / 56, by omega⟩ : Fin 64) (⟨(r.val - 512) % 56, by omega⟩ : Fin 56) k) = P n k Y X := by
      rw [h.read]
      have e1 : (⟨(r.val - 512) % 56, by omega⟩ : Fin 56) = n := by apply Fin.ext; show (r.val - 512) % 56 = n.val; omega
      rw [e1]
      show P n k ((r.val - 512) / 56 / 8 + 1) ((r.val - 512) / 56 % 8 + 1) = P n k Y X
      rcases Nat.eq_zero_or_pos X with hX0 | hX0
      · subst hX0
        rw [h.left, show (r.val - 512) / 56 % 8 + 1 = 8 by omega, h.right]
      · rw [show (r.val - 512) / 56 / 8 + 1 = Y by omega, show (r.val - 512) / 56 % 8 + 1 = X by omega]
    exact e
  · rw [show xbuf x (ix2 r k) = 0 from dif_neg hin]
    rcases Nat.eq_zero_or_pos Y with hY0 | hY0
    · subst hY0; rw [h.top]
    · rcases Nat.eq_zero_or_pos X with hX0 | hX0
      · subst hX0; rw [h.left]
      · exfalso; omega

/-- Pooling a half's rows: the average over a box's seven by seven positions. -/
theorem pool_sum (c : EReal) (hf : ℕ) (hhf : hf < 2) (n : Fin 56) (g : Fin 6272 → EReal) :
    (∑ q : Fin 6272, ((if q.val / 3136 = hf ∧ q.val % 56 = n.val ∧ q.val % 448 / 56 < 7 then (1 : EReal) else 0) * c) * g q)
      = ∑ y : Fin 7, ∑ x : Fin 7, c * g ⟨3136 * hf + (448 * y.val + (56 * x.val + n.val)), by omega⟩ := by
  have hn := n.isLt
  rw [sum_rows 2 3136 6272 rfl, Finset.sum_eq_single (⟨hf, hhf⟩ : Fin 2)]
  · rw [sum_rows 7 448 3136 rfl]
    refine Finset.sum_congr rfl fun y _ => ?_
    have hy := y.isLt
    rw [sum_rows 8 56 448 rfl, Fin.sum_univ_castSucc]
    rw [show ∀ a b : EReal, b = 0 → a + b = a from fun a b h => by rw [h, add_zero]]
    · refine Finset.sum_congr rfl fun x _ => ?_
      have hx := x.isLt
      rw [Finset.sum_eq_single n]
      · rw [if_pos (by refine ⟨?_, ?_, ?_⟩ <;> simp only [Fin.val_castSucc] <;> omega), one_mul]
        rfl
      · intro n' _ hne
        have hne' : n'.val ≠ n.val := fun h => hne (Fin.ext h)
        have := n'.isLt
        rw [if_neg (by simp only [Fin.val_castSucc]; omega), zero_mul, zero_mul]
      · intro h; exact absurd (Finset.mem_univ n) h
    · refine Finset.sum_eq_zero fun n' _ => ?_
      have := n'.isLt
      rw [if_neg (by simp only [Fin.val_last]; omega), zero_mul, zero_mul]
  · intro i _ hne
    have hne' : i.val ≠ hf := fun h => hne (Fin.ext h)
    refine Finset.sum_eq_zero fun j _ => ?_
    have := j.isLt; have := i.isLt
    rw [if_neg (by simp only; omega), zero_mul, zero_mul]
  · intro h; exact absurd (Finset.mem_univ _) h

/-- The convolution of padded features at a position, with its bias and the rectifier. -/
def convAt (P : Fin 64 → ℕ → ℕ → EReal) (w2 : Vec Ideal S576x64 .bf16) (bc : Vec Ideal S1x64 .f32) (o : Fin 64) (y x : ℕ) : EReal :=
  max ((∑ t : Fin 9, ∑ k : Fin 64, P k (y + t.val / 3) (x + t.val % 3) * w2 (ix2 (⟨64 * t.val + k.val, by omega⟩ : Fin 576) o)) + bc (ix2 0 o)) 0

/-- A box's heads: the mean of its convolution, through the heads' product. -/
def headAt (P : Fin 64 → ℕ → ℕ → EReal) (w2 : Vec Ideal S576x64 .bf16) (bc : Vec Ideal S1x64 .f32)
    (wh : Vec Ideal S64x26 .f32) (bh : Vec Ideal S1x26 .f32) (j : Fin 26) : EReal :=
  (∑ o : Fin 64, (((49⁻¹ : ℝ) : EReal) * ∑ y : Fin 7, ∑ x : Fin 7, convAt P w2 bc o y.val x.val) * wh (ix2 o j)) + bh (ix2 0 j)

/-- What the kernel's pooling table holds. -/
def IsPool (pool : Vec Ideal S112x6272 .bf16) : Prop :=
  ∀ (r : Fin 112) (q : Fin 6272), pool (ix2 r q)
    = if q.val / 3136 = r.val / 56 ∧ q.val % 56 = r.val % 56 ∧ q.val % 448 / 56 < 7 then (1 : EReal) else 0

theorem heads_apply {xt xs : Vec Ideal S64x56x64 .bf16} {Pt Ps : Fin 56 → Fin 64 → ℕ → ℕ → EReal} (ht : Padded xt Pt) (hs : Padded xs Ps)
    (w2 : Vec Ideal S576x64 .bf16) (bc : Vec Ideal S1x64 .f32) {pool : Vec Ideal S112x6272 .bf16} (hp : IsPool pool)
    (wh : Vec Ideal S64x26 .f32) (bh : Vec Ideal S1x26 .f32) (hf : ℕ) (hhf : hf < 2) (n : Fin 56) (r : Fin 112) (hr : r.val = 56 * hf + n.val) (j : Fin 26) :
    headsK (xbuf xt) (xbuf xs) w2 bc pool wh bh (ix2 r j) = headAt ((if hf = 0 then Pt else Ps) n) w2 bc wh bh j := by
  have hn := n.isLt
  rw [heads_col]
  unfold headAt
  congr 1
  refine Finset.sum_congr rfl fun o _ => ?_
  congr 1
  simp only [hp r]
  rw [show r.val / 56 = hf by omega, show r.val % 56 = n.val by omega, pool_sum _ hf hhf n]
  rw [← mul_sum_nonneg Finset.univ _ (fun y : Fin 7 => ∑ x : Fin 7, convAt ((if hf = 0 then Pt else Ps) n) w2 bc o y.val x.val)
    (fun y _ => Finset.sum_nonneg fun x _ => le_max_right _ _)]
  refine Finset.sum_congr rfl fun y _ => ?_
  rw [← mul_sum_nonneg Finset.univ _ (fun x : Fin 7 => convAt ((if hf = 0 then Pt else Ps) n) w2 bc o y.val x.val)
    (fun x _ => le_max_right _ _)]
  refine Finset.sum_congr rfl fun x _ => ?_
  have hy := y.isLt; have hx := x.isLt
  congr 1
  unfold convAt
  congr 2
  rw [sum_rows 9 64 576 rfl]
  refine Finset.sum_congr rfl fun t _ => Finset.sum_congr rfl fun k _ => ?_
  have htt := t.isLt
  congr 1
  rw [col_apply]
  have hlt : (3136 * hf + (448 * y.val + (56 * x.val + n.val)) < 3136) ↔ hf = 0 := by omega
  by_cases h0 : hf = 0
  · rw [if_pos (hlt.2 h0), if_pos h0]
    exact xbuf_row ht _ _ (by omega) (by omega) n k _ (by show _ + (3136 * hf + (448 * y.val + (56 * x.val + n.val))) % 3136 = _; omega)
  · rw [if_neg (fun h => h0 (hlt.1 h)), if_neg h0]
    exact xbuf_row hs _ _ (by omega) (by omega) n k _ (by show _ + (3136 * hf + (448 * y.val + (56 * x.val + n.val))) % 3136 = _; omega)

end Cert.KernelIdeal.Val

end
-- ==== Proof.Val.Box.lean ====
module

public import Idealize.ShloMosaic.Lib.Pointwise
public import Idealize.ShloMosaic.PureOps.Ideal

@[expose] public section

noncomputable section

namespace Cert.Box

open Idealize.ShloMosaic

/-! The losses of one box, as plain functions of numbers. -/

/-- The largest of finitely many numbers, over the smallest. -/
def top {n : ℕ} (f : Fin n → EReal) : EReal := Finset.fold max (Ideal.ofBits FTy.f32 4286578688#32) f Finset.univ

/-- The cross entropy of the class logits `l` at the label `c`. -/
def ce (l : Fin 21 → EReal) (c : EReal) : EReal :=
  Ideal.log (∑ k, Ideal.exp (l k - top l)) + top l
    - ∑ k : Fin 21, Scalar.select (IntOp.cmpi CmpIPredicate.eq (BitVec.ofNat 32 k.val) (FloatOps.fptosi (F := Ideal) (φ := .f32) 32 c)) (l k) 0

/-- The smooth absolute difference of a location head from its target. -/
def sl (h p l : EReal) : EReal :=
  if FloatOps.absf (F := Ideal) (φ := .f32) (h + p - l) < (1 : EReal) then
    Ideal.ofBits FTy.f32 1056964608#32 * (h + p - l) * (h + p - l)
  else FloatOps.absf (F := Ideal) (φ := .f32) (h + p - l) - Ideal.ofBits FTy.f32 1056964608#32

/-- A clipped probability. -/
def prob (h : EReal) : EReal := min (Ideal.ofBits FTy.f32 1065353214#32) (max (Ideal.ofBits FTy.f32 869711765#32) (Ideal.logistic h))

/-- A box's four losses, from its heads in both halves and its packed match. -/
def part (ht hs : Fin 26 → EReal) (a : Fin 16 → EReal) : Fin 4 → EReal :=
  ![ce (fun k => hs ⟨1 + k.val, by omega⟩) (a 1) * a 0,
    (∑ k : Fin 4, sl (ht ⟨22 + k.val, by omega⟩) (a ⟨6 + k.val, by omega⟩) (a ⟨2 + k.val, by omega⟩)) * a 0,
    (0 - Ideal.log (prob (ht 0))) * a 0,
    (0 - Ideal.log (1 - prob (hs 0))) * a 0]

/-- The overlap of a target with a box. -/
def iou (t : Fin 5 → EReal) (p : Fin 5 → EReal) : EReal :=
  Ideal.div (max 0 (min (t 2) (p 3) - max (t 0) (p 1)) * max 0 (min (t 3) (p 4) - max (t 1) (p 2)))
    ((t 2 - t 0) * (t 3 - t 1) + (p 3 - p 1) * (p 4 - p 2)
      - max 0 (min (t 2) (p 3) - max (t 0) (p 1)) * max 0 (min (t 3) (p 4) - max (t 1) (p 2)))

/-- The largest overlap of a box. -/
def best (T : Fin 20 → Fin 5 → EReal) (p : Fin 5 → EReal) : EReal := top fun x => iou (T x) p

/-- The first target of largest overlap, as the kernel finds it. -/
def first (T : Fin 20 → Fin 5 → EReal) (p : Fin 5 → EReal) : BitVec 32 :=
  Finset.fold IntOp.minsi 2147483647#32 (fun x : Fin 20 => Scalar.select (Ideal.cmp .oeq (iou (T x) p) (best T p)) (BitVec.ofNat 32 x.val) 20#32) Finset.univ

/-- A coordinate of the match of a box. -/
def pick (T : Fin 20 → Fin 5 → EReal) (p : Fin 5 → EReal) (k : Fin 5) : EReal :=
  ∑ x : Fin 20, Scalar.select (IntOp.cmpi CmpIPredicate.eq (BitVec.ofNat 32 x.val) (first T p)) (T x k) 0

/-- Whether a box is matched, as a number. -/
def mask (T : Fin 20 → Fin 5 → EReal) (p : Fin 5 → EReal) : EReal :=
  FloatOps.sitofp (F := Ideal) FTy.f32 (BitVec.setWidth 32 (IntOp.andi
    (BitVec.ofBool (decide (Ideal.ofBits FTy.f32 1050253722#32 ≤ best T p))) (BitVec.ofBool (decide (Ideal.ofBits FTy.f32 1008981770#32 ≤ p 0)))))

/-- The packed match of a box. -/
def aux (T : Fin 20 → Fin 5 → EReal) (p : Fin 5 → EReal) : Fin 16 → EReal :=
  ![mask T p, pick T p 4, pick T p 0, pick T p 1, pick T p 2, pick T p 3, p 1, p 2, p 3, p 4, 0, 0, 0, 0, 0, 0]

end Cert.Box

end
-- ==== Proof.Val.Step.lean ====
module

public import proofs.«01_k».proof.Proof.Val.Conv
public import proofs.«01_k».proof.Proof.Val.Box

@[expose] public section

set_option maxRecDepth 16384

noncomputable section

namespace Cert.KernelIdeal.Val

open Cert.KernelIdeal Cert.KernelIdeal.Gen
open Idealize.ShloMosaic Idealize.ShloMosaic.TcCoe

/-! One grid point's four partial sums, read at each of the four places. -/

/-- The accumulator after a block, from the heads of its two halves. -/
def lossK (P : FVec Ideal S56x1 .f32) (Ht Hs : FVec Ideal S56x26 .f32) (aux : Vec Ideal S56x16 .f32) (acc : Vec Ideal S1x4 .f32) : Vec Ideal S1x4 .f32 :=
  k1_pay2 (k1_pay22 aux) (k1_pay28 (k1_pay22 aux) P k1_pay27) (k1_pay29 Hs (k1_pay22 aux)) (k1_pay30 Hs (k1_pay22 aux) (k1_pay23 aux))
    (k1_pay31 Ht (k1_pay24 aux) (k1_pay25 aux)) acc

variable (P : FVec Ideal S56x1 .f32) (Ht Hs : FVec Ideal S56x26 .f32) (aux : Vec Ideal S56x16 .f32) (acc : Vec Ideal S1x4 .f32)

theorem loss0 : lossK P Ht Hs aux acc (ix2 0 0) = acc (ix2 0 0) + ∑ x : Fin 56, Box.ce (fun k => Hs (ix2 x ⟨1 + k.val, by omega⟩)) (aux (ix2 x 1)) * aux (ix2 x 0) := by
  unfold lossK
  pointwise [k1_pay2, k1_pay22, k1_pay21, k1_pay28, k1_pay27, k1_pay29, k1_pay30, k1_pay23, k1_pay31, k1_pay24, k1_pay25]
  all_goals rfl
theorem loss1 : lossK P Ht Hs aux acc (ix2 0 1) = acc (ix2 0 1) + ∑ x : Fin 56, (∑ k : Fin 4, Box.sl (Ht (ix2 x ⟨22 + k.val, by omega⟩)) (aux (ix2 x ⟨6 + k.val, by omega⟩)) (aux (ix2 x ⟨2 + k.val, by omega⟩))) * aux (ix2 x 0) := by
  unfold lossK
  pointwise [k1_pay2, k1_pay22, k1_pay21, k1_pay28, k1_pay27, k1_pay29, k1_pay30, k1_pay23, k1_pay31, k1_pay24, k1_pay25]
  all_goals rfl
theorem loss2 : lossK P Ht Hs aux acc (ix2 0 2) = acc (ix2 0 2) + ∑ x : Fin 56, (0 - Ideal.log (min (Ideal.ofBits FTy.f32 1065353214#32) (P (ix2 x 0)))) * aux (ix2 x 0) := by
  unfold lossK
  pointwise [k1_pay2, k1_pay22, k1_pay21, k1_pay28, k1_pay27, k1_pay29, k1_pay30, k1_pay23, k1_pay31, k1_pay24, k1_pay25]
  all_goals rfl
theorem loss3 : lossK P Ht Hs aux acc (ix2 0 3) = acc (ix2 0 3) + ∑ x : Fin 56, (0 - Ideal.log (1 - Box.prob (Hs (ix2 x 0)))) * aux (ix2 x 0) := by
  unfold lossK
  pointwise [k1_pay2, k1_pay22, k1_pay21, k1_pay28, k1_pay27, k1_pay29, k1_pay30, k1_pay23, k1_pay31, k1_pay24, k1_pay25]
  all_goals rfl

theorem halves (Xt Xs : Vec Ideal S4608x64 .bf16) (w2 : Vec Ideal S576x64 .bf16) (bc : Vec Ideal S1x64 .f32)
    (wh : Vec Ideal S64x26 .f32) (bh : Vec Ideal S1x26 .f32) (pool : Vec Ideal S112x6272 .bf16) :
    ∃ (P : FVec Ideal S56x1 .f32) (Ht Hs : FVec Ideal S56x26 .f32),
      (∀ aux acc, stepK Xt Xs aux w2 bc wh bh pool acc = lossK P Ht Hs aux acc)
      ∧ (∀ (n : Fin 56) (j : Fin 26), Ht (ix2 n j) = headsK Xt Xs w2 bc pool wh bh (ix2 (⟨n.val, by omega⟩ : Fin 112) j))
      ∧ (∀ (n : Fin 56) (j : Fin 26), Hs (ix2 n j) = headsK Xt Xs w2 bc pool wh bh (ix2 (⟨56 + n.val, by omega⟩ : Fin 112) j))
      ∧ (∀ (n : Fin 56), P (ix2 n 0) = max (Ideal.ofBits FTy.f32 869711765#32) (Ideal.logistic (headsK Xt Xs w2 bc pool wh bh (ix2 (⟨n.val, by omega⟩ : Fin 112) 0)))) := by
  refine ⟨_, _, _, fun aux acc => rfl, fun n j => ?_, fun n j => ?_, fun n => ?_⟩
  · unfold k1_pay19
    rw [show k1_pay18 _ _ _ _ _ _ _ _ _ _ _ _ _ _ _ _ = headsK Xt Xs w2 bc pool wh bh from rfl]
    generalize headsK Xt Xs w2 bc pool wh bh = G
    pointwise
  · unfold k1_pay20
    rw [show k1_pay18 _ _ _ _ _ _ _ _ _ _ _ _ _ _ _ _ = headsK Xt Xs w2 bc pool wh bh from rfl]
    generalize headsK Xt Xs w2 bc pool wh bh = G
    pointwise
  · unfold k1_pay26 k1_pay19
    rw [show k1_pay18 _ _ _ _ _ _ _ _ _ _ _ _ _ _ _ _ = headsK Xt Xs w2 bc pool wh bh from rfl]
    generalize headsK Xt Xs w2 bc pool wh bh = G
    pointwise

/-- A block's step, box by box. -/
theorem stepK_apply {xt xs : Vec Ideal S64x56x64 .bf16} {Pt Ps : Fin 56 → Fin 64 → ℕ → ℕ → EReal} (ht : Padded xt Pt) (hs : Padded xs Ps)
    (w2 : Vec Ideal S576x64 .bf16) (bc : Vec Ideal S1x64 .f32) {pool : Vec Ideal S112x6272 .bf16} (hp : IsPool pool)
    (wh : Vec Ideal S64x26 .f32) (bh : Vec Ideal S1x26 .f32) (aux : Vec Ideal S56x16 .f32) (acc : Vec Ideal S1x4 .f32) (j : Fin 4) :
    stepK (xbuf xt) (xbuf xs) aux w2 bc wh bh pool acc (ix2 0 j)
      = acc (ix2 0 j) + ∑ n : Fin 56, Box.part (headAt (Pt n) w2 bc wh bh) (headAt (Ps n) w2 bc wh bh) (fun k => aux (ix2 n k)) j := by
  obtain ⟨P, Ht, Hs, h1, h2, h3, h4⟩ := halves (xbuf xt) (xbuf xs) w2 bc wh bh pool
  have e2 : ∀ (n : Fin 56) (j : Fin 26), Ht (ix2 n j) = headAt (Pt n) w2 bc wh bh j := fun n j => by
    rw [h2, heads_apply ht hs w2 bc hp wh bh 0 (by omega) n _ (by show n.val = _; omega) j, if_pos rfl]
  have e3 : ∀ (n : Fin 56) (j : Fin 26), Hs (ix2 n j) = headAt (Ps n) w2 bc wh bh j := fun n j => by
    rw [h3, heads_apply ht hs w2 bc hp wh bh 1 (by omega) n _ (by show 56 + n.val = _; omega) j, if_neg (by omega)]
  have e4 : ∀ (n : Fin 56), P (ix2 n 0) = max (Ideal.ofBits FTy.f32 869711765#32) (Ideal.logistic (headAt (Pt n) w2 bc wh bh 0)) := fun n => by
    rw [h4, heads_apply ht hs w2 bc hp wh bh 0 (by omega) n _ (by show n.val = _; omega) 0, if_pos rfl]
  rw [h1]
  fin_cases j
  · refine (loss0 P Ht Hs aux acc).trans (congrArg (_ + ·) (Finset.sum_congr rfl fun n _ => ?_))
    simp only [e3]; rfl
  · refine (loss1 P Ht Hs aux acc).trans (congrArg (_ + ·) (Finset.sum_congr rfl fun n _ => ?_))
    simp only [e2]; rfl
  · refine (loss2 P Ht Hs aux acc).trans (congrArg (_ + ·) (Finset.sum_congr rfl fun n _ => ?_))
    simp only [e4]; rfl
  · refine (loss3 P Ht Hs aux acc).trans (congrArg (_ + ·) (Finset.sum_congr rfl fun n _ => ?_))
    simp only [e3]; rfl

end Cert.KernelIdeal.Val

end
-- ==== Proof.Val.Acc.lean ====
module

public import proofs.«01_k».proof.Proof.Val.DiscRun
public import proofs.«01_k».proof.Proof.Val.Step

@[expose] public section

set_option maxRecDepth 16384

noncomputable section

namespace Cert.KernelIdeal.Val

open Cert.KernelIdeal Cert.KernelIdeal.Gen Cert.KernelIdeal.R1
open Idealize.ShloMosaic Idealize.ShloMosaic.TcCoe
open Idealize.ShloMosaic.Pipeline (Dat)

variable (m : (c : Dev nD) → Valuation τ sig (Elt Ideal))

/-! The discriminator call's accumulator over its seventy-five points, and the array it is written back to. -/

/-- The accumulator after point `t`, over `a`. -/
abbrev stepAt (c : Dev nD) (t : Fin cfg1.N) (a : Vec Ideal S1x4 .f32) : Vec Ideal S1x4 .f32 :=
  stepK (xbuf (iblk m c 0 t)) (xbuf (iblk m c 1 t)) (iblk m c 2 t) (iblk m c 3 t) (iblk m c 4 t) (iblk m c 5 t) (iblk m c 6 t) (iblk m c 7 t) a

/-- The running accumulator. -/
def accAt (c : Dev nD) : (n : ℕ) → n < cfg1.N → Vec Ideal S1x4 .f32
  | 0, h => stepAt m c ⟨0, h⟩ (fun _ => (0 : EReal))
  | n + 1, h => stepAt m c ⟨n + 1, h⟩ (accAt c n (Nat.lt_of_succ_lt h))

theorem outs_acc (c : Dev nD) : ∀ (n : ℕ) (h : n < cfg1.N),
    (outsAt m c n h).1 = accAt m c n h ∧ (outsAt m c n h).2.1 = xbuf (iblk m c 0 ⟨n, h⟩) ∧ (outsAt m c n h).2.2 = xbuf (iblk m c 1 ⟨n, h⟩)
  | 0, h => by
    have hA : (⟨0, h⟩ : Fin cfg1.N).val % 75 = 0 := rfl
    rw [outsAt_A m c ⟨0, h⟩ hA]
    exact ⟨stA_acc m c _ hA, stA_s0 m c _ hA, stA_s1 m c _ hA⟩
  | n + 1, h => by
    have hN : cfg1.N = 75 := N_1
    have hB : ¬(⟨n + 1, h⟩ : Fin cfg1.N).val % 75 = 0 := by dsimp only; omega
    obtain ⟨h1, h2, h3⟩ := outs_acc c n (Nat.lt_of_succ_lt h)
    have k2 : Halo (outsAt m c n (Nat.lt_of_succ_lt h)).2.1 := by rw [h2]; exact halo_xbuf _
    have k3 : Halo (outsAt m c n (Nat.lt_of_succ_lt h)).2.2 := by rw [h3]; exact halo_xbuf _
    rw [outsAt_B m c ⟨n + 1, h⟩ hB]
    refine ⟨(stB_acc m c _ hB _ k2 k3).trans ?_, stB_s0 m c _ hB _ k2, stB_s1 m c _ hB _ k3⟩
    show stepAt m c _ _ = stepAt m c _ _
    exact congrArg (stepAt m c _) h1

def last1 : Fin cfg1.N := ⟨74, by rw [show cfg1.N = 75 from N_1]; decide⟩

theorem flushed1 (c : Dev nD) (t : Fin cfg1.N) (hf : (cfg1.win 8).flush t = true) :
    (dat m c).flushed 8 t = ((cfg1.win 8).blk t).view.read (Elt Ideal) (accAt m c last1.val last1.isLt) := by
  have hN : cfg1.N = 75 := N_1
  have h3 : t.val = 74 := by have := (flush1_8 t).mp hf; have := t.isLt; omega
  obtain rfl : t = last1 := Fin.ext h3
  show (cfg1.win 8).cut (grid1.coords last1) ((dat m c).after 8 last1) = _
  rw [after_8, (outs_acc m c _ _).1]
  have hz' : (fun a => win1_8.index last1 a * main_v38.ty.shape.size a) = fun _ => 0 := funext fun a => by fin_cases a <;> decide
  exact (Memref.read_access_unit_zero (Elt Ideal) main_v38 hz' (fun a => by rw [congrFun hz' a]; simp) (accAt m c last1.val last1.isLt)).symm

theorem final1 (c : Dev nD) : (dat m c).arrAt 8 cfg1.N = accAt m c last1.val last1.isLt :=
  (dat m c).arrAt_eq_of_cover 8 (accAt m c last1.val last1.isLt) (flushed1 m c) fun i =>
    ⟨last1, (flush1_8 last1).mpr rfl, by
      show i ∈ ((View.whole main_v38).slice (win1_8.rect last1)).set
      rw [View.set_slice_whole, Rect.mem_set_unit]
      intro a
      have h0 : (i 0 : Nat) < 1 := (i 0).isLt
      have h1 : (i 1 : Nat) < 4 := (i 1).isLt
      match a with
      | ⟨0, _⟩ => show win1_8.index last1 0 * win1_8.size 0 ≤ (i 0 : Nat) ∧ (i 0 : Nat) < win1_8.index last1 0 * win1_8.size 0 + win1_8.xsize (grid1.coords last1) 0
                  rw [show win1_8.index last1 0 * win1_8.size 0 = 0 from by decide +kernel, show win1_8.xsize (grid1.coords last1) 0 = 1 from by decide +kernel]; omega
      | ⟨1, _⟩ => show win1_8.index last1 1 * win1_8.size 1 ≤ (i 1 : Nat) ∧ (i 1 : Nat) < win1_8.index last1 1 * win1_8.size 1 + win1_8.xsize (grid1.coords last1) 1
                  rw [show win1_8.index last1 1 * win1_8.size 1 = 0 from by decide +kernel, show win1_8.xsize (grid1.coords last1) 1 = 4 from by decide +kernel]; omega⟩

/-! What the windows read: rows `56 t …` of the features and the matches, and the whole of the rest. -/

theorem idx1 : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0 :=
  (by decide +kernel : ∀ t : Fin grid1.N, _)

theorem idx1' : ∀ t : Fin cfg1.N, (∀ a : Fin 2, win1_3.index t a = 0) ∧ (∀ a : Fin 2, win1_4.index t a = 0) ∧ (∀ a : Fin 2, win1_5.index t a = 0)
    ∧ (∀ a : Fin 2, win1_6.index t a = 0) ∧ (∀ a : Fin 2, win1_7.index t a = 0) :=
  (by decide +kernel : ∀ t : Fin grid1.N, _)

theorem blk0_apply (c : Dev nD) (t : Fin cfg1.N) (s : Fin 64) (n : Fin 56) (k : Fin 64) (i : Fin 4200) (hi : i.val = 56 * t.val + n.val) :
    (iblk m c 0 t : Vec Ideal S64x56x64 .bf16) (ix3 s n k) = (m c (Proc.devRef .tc (Pipeline.arrRef spec1 0)) : Vec Ideal S64x4200x64 .bf16) (ix3 s i k) := by
  unfold iblk
  rw [View.read_apply]
  refine congrArg (m c (Proc.devRef .tc (Pipeline.arrRef spec1 0))) (funext fun a => Fin.ext ?_)
  obtain ⟨h0, h1, h2, -⟩ := idx1 t
  match a with
  | ⟨0, _⟩ => show win1_0.index t 0 * 64 + 1 * s.val = s.val; rw [h0]; omega
  | ⟨1, _⟩ => show win1_0.index t 1 * 56 + 1 * n.val = i.val; rw [h1]; omega
  | ⟨2, _⟩ => show win1_0.index t 2 * 64 + 1 * k.val = k.val; rw [h2]; omega

theorem blk1_apply (c : Dev nD) (t : Fin cfg1.N) (s : Fin 64) (n : Fin 56) (k : Fin 64) (i : Fin 4200) (hi : i.val = 56 * t.val + n.val) :
    (iblk m c 1 t : Vec Ideal S64x56x64 .bf16) (ix3 s n k) = (m c (Proc.devRef .tc (Pipeline.arrRef spec1 1)) : Vec Ideal S64x4200x64 .bf16) (ix3 s i k) := by
  unfold iblk
  rw [View.read_apply]
  refine congrArg (m c (Proc.devRef .tc (Pipeline.arrRef spec1 1))) (funext fun a => Fin.ext ?_)
  obtain ⟨-, -, -, h0, h1, h2, -⟩ := idx1 t
  match a with
  | ⟨0, _⟩ => show win1_1.index t 0 * 64 + 1 * s.val = s.val; rw [h0]; omega
  | ⟨1, _⟩ => show win1_1.index t 1 * 56 + 1 * n.val = i.val; rw [h1]; omega
  | ⟨2, _⟩ => show win1_1.index t 2 * 64 + 1 * k.val = k.val; rw [h2]; omega

theorem blk2_apply (c : Dev nD) (t : Fin cfg1.N) (n : Fin 56) (k : Fin 16) (i : Fin 4200) (hi : i.val = 56 * t.val + n.val) :
    (iblk m c 2 t : Vec Ideal S56x16 .f32) (ix2 n k) = (m c (Proc.devRef .tc (Pipeline.arrRef spec1 2)) : Vec Ideal S4200x16 .f32) (ix2 i k) := by
  unfold iblk
  rw [View.read_apply]
  refine congrArg (m c (Proc.devRef .tc (Pipeline.arrRef spec1 2))) (funext fun a => Fin.ext ?_)
  obtain ⟨-, -, -, -, -, -, h0, h1⟩ := idx1 t
  match a with
  | ⟨0, _⟩ => show win1_2.index t 0 * 56 + 1 * n.val = i.val; rw [h0]; omega
  | ⟨1, _⟩ => show win1_2.index t 1 * 16 + 1 * k.val = k.val; rw [h1]; omega

theorem blk3 (c : Dev nD) (t : Fin cfg1.N) :
    (iblk m c 3 t : Vec Ideal S576x64 .bf16) = m c (Proc.devRef .tc (Pipeline.arrRef spec1 3)) := by
  funext j
  have h := (idx1' t).1
  unfold iblk
  rw [View.read_apply]
  refine congrArg (m c (Proc.devRef .tc (Pipeline.arrRef spec1 3))) (funext fun a => Fin.ext ?_)
  match a with
  | ⟨0, _⟩ => show win1_3.index t 0 * _ + 1 * (j 0).val = (j 0).val; rw [h 0]; omega
  | ⟨1, _⟩ => show win1_3.index t 1 * _ + 1 * (j 1).val = (j 1).val; rw [h 1]; omega

theorem blk4 (c : Dev nD) (t : Fin cfg1.N) :
    (iblk m c 4 t : Vec Ideal S1x64 .f32) = m c (Proc.devRef .tc (Pipeline.arrRef spec1 4)) := by
  funext j
  have h := (idx1' t).2.1
  unfold iblk
  rw [View.read_apply]
  refine congrArg (m c (Proc.devRef .tc (Pipeline.arrRef spec1 4))) (funext fun a => Fin.ext ?_)
  match a with
  | ⟨0, _⟩ => show win1_4.index t 0 * _ + 1 * (j 0).val = (j 0).val; rw [h 0]; omega
  | ⟨1, _⟩ => show win1_4.index t 1 * _ + 1 * (j 1).val = (j 1).val; rw [h 1]; omega

theorem blk5 (c : Dev nD) (t : Fin cfg1.N) :
    (iblk m c 5 t : Vec Ideal S64x26 .f32) = m c (Proc.devRef .tc (Pipeline.arrRef spec1 5)) := by
  funext j
  have h := (idx1' t).2.2.1
  unfold iblk
  rw [View.read_apply]
  refine congrArg (m c (Proc.devRef .tc (Pipeline.arrRef spec1 5))) (funext fun a => Fin.ext ?_)
  match a with
  | ⟨0, _⟩ => show win1_5.index t 0 * _ + 1 * (j 0).val = (j 0).val; rw [h 0]; omega
  | ⟨1, _⟩ => show win1_5.index t 1 * _ + 1 * (j 1).val = (j 1).val; rw [h 1]; omega

theorem blk6 (c : Dev nD) (t : Fin cfg1.N) :
    (iblk m c 6 t : Vec Ideal S1x26 .f32) = m c (Proc.devRef .tc (Pipeline.arrRef spec1 6)) := by
  funext j
  have h := (idx1' t).2.2.2.1
  unfold iblk
  rw [View.read_apply]
  refine congrArg (m c (Proc.devRef .tc (Pipeline.arrRef spec1 6))) (funext fun a => Fin.ext ?_)
  match a with
  | ⟨0, _⟩ => show win1_6.index t 0 * _ + 1 * (j 0).val = (j 0).val; rw [h 0]; omega
  | ⟨1, _⟩ => show win1_6.index t 1 * _ + 1 * (j 1).val = (j 1).val; rw [h 1]; omega

theorem blk7 (c : Dev nD) (t : Fin cfg1.N) :
    (iblk m c 7 t : Vec Ideal S112x6272 .bf16) = m c (Proc.devRef .tc (Pipeline.arrRef spec1 7)) := by
  funext j
  have h := (idx1' t).2.2.2.2
  unfold iblk
  rw [View.read_apply]
  refine congrArg (m c (Proc.devRef .tc (Pipeline.arrRef spec1 7))) (funext fun a => Fin.ext ?_)
  match a with
  | ⟨0, _⟩ => show win1_7.index t 0 * _ + 1 * (j 0).val = (j 0).val; rw [h 0]; omega
  | ⟨1, _⟩ => show win1_7.index t 1 * _ + 1 * (j 1).val = (j 1).val; rw [h 1]; omega

end Cert.KernelIdeal.Val

end
-- ==== Proof.Val.Match.lean ====
module

public import proofs.«01_k».proof.Proof.KI.R0
public import proofs.«01_k».proof.Proof.Val.Box
public import Idealize.ShloMosaic.Lib.Pointwise
public import Idealize.ShloMosaic.Lib.Pipeline.Value

@[expose] public section

set_option maxRecDepth 16384

noncomputable section

namespace Cert.KernelIdeal.Val

open Cert.KernelIdeal Cert.KernelIdeal.Gen Cert.KernelIdeal.R0
open Idealize.ShloMosaic Idealize.ShloMosaic.TcCoe

/-! What one grid point of the matching call writes. -/

variable (m : (c : Dev nD) → Valuation τ sig (Elt Ideal))

/-- The mask of an image's boxes. -/
def maskK (p : Vec Ideal S1x1050x5 .f32) (t : Vec Ideal S1x5x20 .f32) : FVec Ideal S1050x1 .f32 := k0_pay14 (k0_pay5 p) (k0_pay12 p t)

/-- The packed matches of an image's boxes. -/
def auxK (p : Vec Ideal S1x1050x5 .f32) (t : Vec Ideal S1x5x20 .f32) : FVec Ideal S1x1050x16 .f32 :=
  k0_pay1 (k0_pay15 (k0_pay3 p) (k0_pay5 p) (k0_pay6 t) (k0_pay7 t) (k0_pay8 t) (k0_pay9 t) (k0_pay10 t) (k0_pay12 p t)
    (iota .tc S1050x20 32 [1] iota_S1050x20_d1_w32) (k0_pay13 p t) 20#32)

theorem hz2' : (![0, 0] : Fin 2 → Nat) = fun _ => 0 := funext fun a => by fin_cases a <;> rfl
theorem hz3' : (![0, 0, 0] : Fin 3 → Nat) = fun _ => 0 := funext fun a => by fin_cases a <;> rfl

theorem rd0 {S : Shape} {φ : EltTy} (M : Memref sig .tc .vmem S φ) (hM : M.IsWhole) (x : Vec Ideal S φ) {off : Fin S.rank → ℕ} (ho : off = fun _ => 0)
    (inb : ∀ a, off a + S.size a ≤ S.size a) :
    View.readAt (Elt Ideal) M.view (Rect.unit off S.size inb).toLoadRect (hM.unread x) = x := by
  rw [View.readAt_eq_ld, hM.read_unread, View.ld_unit_zero ho]

theorem auxK_congr {p p' : Vec Ideal S1x1050x5 .f32} {t t' : Vec Ideal S1x5x20 .f32} (e : p = p') (e' : t = t') : auxK p t = auxK p' t' := by
  subst e e'; rfl
theorem maskK_congr {p p' : Vec Ideal S1x1050x5 .f32} {t t' : Vec Ideal S1x5x20 .f32} (e : p = p') (e' : t = t') : maskK p t = maskK p' t' := by
  subst e e'; rfl

theorem stB_aux (c : Dev nD) (t : Fin cfg0.N) (h : ¬t.val % 4 = 0) (p : R0.St Ideal) :
    (R0.stB m c t h p).1 = auxK (R0.iblk m c 0 t) (R0.iblk m c 1 t) := by
  unfold R0.stB
  dsimp only
  rw [View.read_writes_eq_canon _ _ _ (R0.coverB_2 m c t h p)]
  unfold R0.RB R0.runB
  dsimp only
  sl_unfold_words
  rw [View.canon_unit_zero hz3']
  change auxK _ _ = _
  exact auxK_congr (rd0 _ _ _ hz3' _) (rd0 _ _ _ hz3' _)

theorem stA_aux (c : Dev nD) (t : Fin cfg0.N) (h : t.val % 4 = 0) :
    (R0.stA m c t h).1 = auxK (R0.iblk m c 0 t) (R0.iblk m c 1 t) := by
  unfold R0.stA
  dsimp only
  rw [View.read_writes_eq_canon _ _ _ (R0.coverA_2 m c t h)]
  unfold R0.RA R0.runA
  dsimp only
  sl_unfold_words
  rw [View.canon_unit_zero hz3']
  change auxK _ _ = _
  exact auxK_congr (rd0 _ _ _ hz3' _) (rd0 _ _ _ hz3' _)

theorem stB_nm (c : Dev nD) (t : Fin cfg0.N) (h : ¬t.val % 4 = 0) (p : R0.St Ideal) :
    (R0.stB m c t h p).2 = fun j => k0_pay2 (maskK (R0.iblk m c 0 t) (R0.iblk m c 1 t)) (p.2 (ix2 0 0)) := by
  unfold R0.stB
  dsimp only
  rw [View.read_writes_eq_canon _ _ _ (R0.coverB_3 m c t h p)]
  unfold R0.RB R0.runB
  dsimp only
  sl_unfold_words
  refine (View.canon_unit_zero (S := S1x1) hz2' _ _).trans ?_
  funext j
  refine congrArg₂ k0_pay2 (maskK_congr (rd0 _ _ _ hz3' _) (rd0 _ _ _ hz3' _)) ?_
  rw [View.readAt_eq_ld, Memref.IsWhole.read_unread, View.ld_unit_zero (S := S1x1) hz2']
  refine congrArg p.2 (funext fun a => ?_)
  fin_cases a <;> exact Subsingleton.elim (α := Fin 1) _ _

theorem stA_nm (c : Dev nD) (t : Fin cfg0.N) (h : t.val % 4 = 0) :
    (R0.stA m c t h).2 = fun j => k0_pay2 (maskK (R0.iblk m c 0 t) (R0.iblk m c 1 t)) 0 := by
  unfold R0.stA
  dsimp only
  rw [View.read_writes_eq_canon _ _ _ (R0.coverA_3 m c t h)]
  unfold R0.RA R0.runA
  dsimp only
  sl_unfold_words
  refine (View.canon_cons_unit_zero (S := S1x1) hz2' _ _ _).trans ?_
  funext j
  refine congrArg₂ k0_pay2 (maskK_congr (rd0 _ _ _ hz3' _) (rd0 _ _ _ hz3' _)) ?_
  exact Ideal.ofBits_zero_f32

/-- The targets and the boxes of a block, by row. -/
def tg (t : Vec Ideal S1x5x20 .f32) (x : Fin 20) (k : Fin 5) : EReal := t (ix3 0 k x)
def bx (p : Vec Ideal S1x1050x5 .f32) (r : Fin 1050) (k : Fin 5) : EReal := p (ix3 0 r k)

theorem ov_apply (p : Vec Ideal S1x1050x5 .f32) (t : Vec Ideal S1x5x20 .f32) (r : Fin 1050) (x : Fin 20) :
    k0_pay11 p t (ix2 r x) = Box.iou (tg t x) (bx p r) := by
  pointwise [k0_pay3, k0_pay6, k0_pay7, k0_pay8, k0_pay9, k0_pay4, k0_pay11]
  rfl

theorem best_apply (p : Vec Ideal S1x1050x5 .f32) (t : Vec Ideal S1x5x20 .f32) (r : Fin 1050) :
    k0_pay12 p t (ix2 r 0) = Box.best (tg t) (bx p r) := by
  pointwise [k0_pay12]
  simp only [ov_apply]
  rfl

theorem mask_apply (p : Vec Ideal S1x1050x5 .f32) (t : Vec Ideal S1x5x20 .f32) (r : Fin 1050) :
    maskK p t (ix2 r 0) = Box.mask (tg t) (bx p r) := by
  unfold maskK
  pointwise [k0_pay3, k0_pay5, k0_pay14]
  rw [best_apply]
  rfl

theorem eqs_apply (p : Vec Ideal S1x1050x5 .f32) (t : Vec Ideal S1x5x20 .f32) (r : Fin 1050) (x : Fin 20) :
    k0_pay13 p t (ix2 r x) = Ideal.cmp .oeq (Box.iou (tg t x) (bx p r)) (Box.best (tg t) (bx p r)) := by
  rw [← best_apply, ← ov_apply]
  unfold k0_pay13
  generalize k0_pay12 p t = A
  generalize k0_pay11 p t = B
  pointwise

theorem aux_apply (p : Vec Ideal S1x1050x5 .f32) (t : Vec Ideal S1x5x20 .f32) (r : Fin 1050) (j : Fin 16) :
    auxK p t (ix3 0 r j) = Box.aux (tg t) (bx p r) j := by
  unfold auxK
  have he : ∀ x, k0_pay13 p t (ix2 r x) = _ := eqs_apply p t r
  generalize k0_pay13 p t = E at he ⊢
  fin_cases j
  all_goals (pointwise [k0_pay1, k0_pay15, k0_pay3, k0_pay6, k0_pay7, k0_pay8, k0_pay9, k0_pay10, k0_pay4])
  · exact mask_apply p t r
  · simp only [he]; show _ = Box.pick (tg t) (bx p r) 4; rfl
  · simp only [he]; show _ = Box.pick (tg t) (bx p r) 0; rfl
  · simp only [he]; show _ = Box.pick (tg t) (bx p r) 1; rfl
  · simp only [he]; show _ = Box.pick (tg t) (bx p r) 2; rfl
  · simp only [he]; show _ = Box.pick (tg t) (bx p r) 3; rfl
  all_goals rfl

/-- The count of an image's matched boxes, added to what was counted. -/
theorem nm_apply (M : FVec Ideal S1050x1 .f32) (a : EReal) : k0_pay2 M a = a + ∑ r : Fin 1050, M (ix2 r 0) := by
  unfold k0_pay2
  pointwise
  exact congrArg (a + ·) (Finset.sum_congr rfl fun r _ => Fin.sum_univ_one _)

end Cert.KernelIdeal.Val

end
-- ==== Proof.Val.MatchAcc.lean ====
module

public import proofs.«01_k».proof.Proof.Val.Match
public import proofs.«01_k».proof.Proof.Val.Conv

@[expose] public section

set_option maxRecDepth 16384

noncomputable section

namespace Cert.KernelIdeal.Val

open Cert.KernelIdeal Cert.KernelIdeal.Gen
open Idealize.ShloMosaic Idealize.ShloMosaic.TcCoe
open Idealize.ShloMosaic.Pipeline (Dat)

variable (m : (c : Dev nD) → Valuation τ sig (Elt Ideal))

/-! The matching call's two results over its four points. -/

theorem outs0_aux (c : Dev nD) (t : Fin cfg0.N) : (R0.outsAt m c t.val t.isLt).1 = auxK (R0.iblk m c 0 t) (R0.iblk m c 1 t) := by
  by_cases h : t.val % 4 = 0
  · rw [R0.outsAt_A m c t h]; exact stA_aux m c t h
  · rw [R0.outsAt_B m c t h]; exact stB_aux m c t h _

/-- The running number of matches. -/
def nmAt (c : Dev nD) : (n : ℕ) → n < cfg0.N → EReal
  | 0, h => k0_pay2 (maskK (R0.iblk m c 0 ⟨0, h⟩) (R0.iblk m c 1 ⟨0, h⟩)) (0 : EReal)
  | n + 1, h => k0_pay2 (maskK (R0.iblk m c 0 ⟨n + 1, h⟩) (R0.iblk m c 1 ⟨n + 1, h⟩)) (nmAt c n (Nat.lt_of_succ_lt h))

theorem outs0_nm (c : Dev nD) : ∀ (n : ℕ) (h : n < cfg0.N), (R0.outsAt m c n h).2 = fun _ => nmAt m c n h
  | 0, h => by
    have hA : (⟨0, h⟩ : Fin cfg0.N).val % 4 = 0 := rfl
    rw [R0.outsAt_A m c ⟨0, h⟩ hA]
    exact stA_nm m c _ hA
  | n + 1, h => by
    have hN : cfg0.N = 4 := N_0
    have hB : ¬(⟨n + 1, h⟩ : Fin cfg0.N).val % 4 = 0 := by dsimp only; omega
    rw [R0.outsAt_B m c ⟨n + 1, h⟩ hB]
    refine (stB_nm m c _ hB _).trans ?_
    funext j
    show k0_pay2 _ ((R0.outsAt m c n _).2 (ix2 0 0)) = _
    rw [outs0_nm c n (Nat.lt_of_succ_lt h)]
    rfl

theorem idx0 : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The boxes and the targets the call is given. -/
abbrev arrP (c : Dev nD) : Vec Ideal S4x1050x5 .f32 := m c (Proc.devRef .tc (Pipeline.arrRef spec0 0))
abbrev arrT (c : Dev nD) : Vec Ideal S4x5x20 .f32 := m c (Proc.devRef .tc (Pipeline.arrRef spec0 1))

theorem blkP (c : Dev nD) (t : Fin cfg0.N) (r : Fin 1050) (k : Fin 5) (i : Fin 4) (hi : i.val = t.val) :
    (R0.iblk m c 0 t : Vec Ideal S1x1050x5 .f32) (ix3 0 r k) = arrP m c (ix3 i r k) := by
  unfold R0.iblk
  rw [View.read_apply]
  refine congrArg (m c (Proc.devRef .tc (Pipeline.arrRef spec0 0))) (funext fun a => Fin.ext ?_)
  obtain ⟨⟨h0, h1, h2⟩, -⟩ := idx0 t
  match a with
  | ⟨0, _⟩ => show win0_0.index t 0 * 1 + 1 * 0 = i.val; rw [h0]; omega
  | ⟨1, _⟩ => show win0_0.index t 1 * 1050 + 1 * r.val = r.val; rw [h1]; omega
  | ⟨2, _⟩ => show win0_0.index t 2 * 5 + 1 * k.val = k.val; rw [h2]; omega

theorem blkT (c : Dev nD) (t : Fin cfg0.N) (k : Fin 5) (x : Fin 20) (i : Fin 4) (hi : i.val = t.val) :
    (R0.iblk m c 1 t : Vec Ideal S1x5x20 .f32) (ix3 0 k x) = arrT m c (ix3 i k x) := by
  unfold R0.iblk
  rw [View.read_apply]
  refine congrArg (m c (Proc.devRef .tc (Pipeline.arrRef spec0 1))) (funext fun a => Fin.ext ?_)
  obtain ⟨-, ⟨h0, h1, h2⟩, -⟩ := idx0 t
  match a with
  | ⟨0, _⟩ => show win0_1.index t 0 * 1 + 1 * 0 = i.val; rw [h0]; omega
  | ⟨1, _⟩ => show win0_1.index t 1 * 5 + 1 * k.val = k.val; rw [h1]; omega
  | ⟨2, _⟩ => show win0_1.index t 2 * 20 + 1 * x.val = x.val; rw [h2]; omega

/-- The targets of an image, and a box of it. -/
def tgt (c : Dev nD) (i : Fin 4) (x : Fin 20) (k : Fin 5) : EReal := arrT m c (ix3 i k x)
def box (c : Dev nD) (i : Fin 4) (r : Fin 1050) (k : Fin 5) : EReal := arrP m c (ix3 i r k)

theorem tg_blk (c : Dev nD) (t : Fin cfg0.N) (i : Fin 4) (hi : i.val = t.val) : tg (R0.iblk m c 1 t) = tgt m c i :=
  funext fun x => funext fun k => blkT m c t k x i hi
theorem bx_blk (c : Dev nD) (t : Fin cfg0.N) (i : Fin 4) (hi : i.val = t.val) (r : Fin 1050) : bx (R0.iblk m c 0 t) r = box m c i r :=
  funext fun k => blkP m c t r k i hi

/-- The packed matches of all the boxes. -/
def auxArr (c : Dev nD) : Vec Ideal S4x1050x16 .f32 := fun i => Box.aux (tgt m c (i 0)) (box m c (i 0) (i 1)) (i 2)

theorem flushed0 (c : Dev nD) (t : Fin cfg0.N) (hf : (cfg0.win 2).flush t = true) :
    (R0.dat m c).flushed 2 t = ((cfg0.win 2).blk t).view.read (Elt Ideal) (auxArr m c) := by
  have hN : cfg0.N = 4 := N_0
  show (cfg0.win 2).cut (grid0.coords t) ((R0.dat m c).after 2 t) = _
  rw [R0.after_2, outs0_aux]
  funext j
  rw [View.read_apply]
  obtain ⟨-, -, ⟨h0, h1, h2⟩⟩ := idx0 t
  have hj0 : (j 0).val = 0 := Nat.lt_one_iff.mp (j 0).isLt
  let r : Fin 1050 := ⟨(j 1).val, (j 1).isLt⟩
  let k : Fin 16 := ⟨(j 2).val, (j 2).isLt⟩
  let i : Fin 4 := ⟨t.val, by omega⟩
  have e1 : (cfg0.win 2).cut (grid0.coords t) (auxK (R0.iblk m c 0 t) (R0.iblk m c 1 t)) j = auxK (R0.iblk m c 0 t) (R0.iblk m c 1 t) (ix3 0 r k) :=
    congrArg (auxK (R0.iblk m c 0 t) (R0.iblk m c 1 t)) (funext fun a => Fin.ext (match a with
      | ⟨0, _⟩ => hj0
      | ⟨1, _⟩ => rfl
      | ⟨2, _⟩ => rfl))
  have e2 : ((cfg0.win 2).blk t).view.emb j = (ix3 i r k : S4x1050x16.Idx) :=
    funext fun a => Fin.ext (match a with
      | ⟨0, _⟩ => show win0_2.index t 0 * 1 + 1 * (j 0).val = t.val by rw [h0]; omega
      | ⟨1, _⟩ => show win0_2.index t 1 * 1050 + 1 * (j 1).val = (j 1).val by rw [h1]; omega
      | ⟨2, _⟩ => show win0_2.index t 2 * 16 + 1 * (j 2).val = (j 2).val by rw [h2]; omega)
  rw [e1, e2, aux_apply]
  show Box.aux (tg (R0.iblk m c 1 t)) (bx (R0.iblk m c 0 t) r) k = Box.aux (tgt m c i) (box m c i r) k
  rw [tg_blk m c t i rfl, bx_blk m c t i rfl]

theorem final0_aux (c : Dev nD) : (R0.dat m c).arrAt 2 cfg0.N = auxArr m c :=
  (R0.dat m c).arrAt_eq_of_cover 2 (auxArr m c) (flushed0 m c) fun i => by
    have hN : cfg0.N = 4 := N_0
    have hi0 : (i 0 : Nat) < 4 := (i 0).isLt
    have hi1 : (i 1 : Nat) < 1050 := (i 1).isLt
    have hi2 : (i 2 : Nat) < 16 := (i 2).isLt
    let t : Fin cfg0.N := ⟨(i 0 : Nat), by omega⟩
    refine ⟨t, flush0_2 _, ?_⟩
    obtain ⟨-, -, ⟨h0, h1, h2⟩⟩ := idx0 t
    show i ∈ ((View.whole main_v36_0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [h0]; show (i 0 : Nat) * 1 ≤ _ ∧ _ < (i 0 : Nat) * 1 + 1; omega
    | ⟨1, _⟩ => show win0_2.index t 1 * 1050 ≤ (i 1 : Nat) ∧ (i 1 : Nat) < win0_2.index t 1 * 1050 + 1050; rw [h1]; omega
    | ⟨2, _⟩ => show win0_2.index t 2 * 16 ≤ (i 2 : Nat) ∧ (i 2 : Nat) < win0_2.index t 2 * 16 + 16; rw [h2]; omega

def last0 : Fin cfg0.N := ⟨3, by rw [show cfg0.N = 4 from N_0]; decide⟩

/-- The number of matches, as the call leaves it. -/
def nmArr (c : Dev nD) : Vec Ideal S1x1 .f32 := fun _ => nmAt m c last0.val last0.isLt

theorem flushed0_nm (c : Dev nD) (t : Fin cfg0.N) (hf : (cfg0.win 3).flush t = true) :
    (R0.dat m c).flushed 3 t = ((cfg0.win 3).blk t).view.read (Elt Ideal) (nmArr m c) := by
  have hN : cfg0.N = 4 := N_0
  have h3 : t.val = 3 := by have := (flush0_3 t).mp hf; have := t.isLt; omega
  obtain rfl : t = last0 := Fin.ext h3
  show (cfg0.win 3).cut (grid0.coords last0) ((R0.dat m c).after 3 last0) = _
  rw [R0.after_3, outs0_nm m c _ _]
  funext j
  rw [View.read_apply]
  rfl

theorem final0_nm (c : Dev nD) : (R0.dat m c).arrAt 3 cfg0.N = nmArr m c :=
  (R0.dat m c).arrAt_eq_of_cover 3 (nmArr m c) (flushed0_nm m c) fun i =>
    ⟨last0, (flush0_3 last0).mpr rfl, by
      show i ∈ ((View.whole main_v36_1).slice (win0_3.rect last0)).set
      rw [View.set_slice_whole, Rect.mem_set_unit]
      intro a
      have h0 : (i 0 : Nat) < 1 := (i 0).isLt
      have h1 : (i 1 : Nat) < 1 := (i 1).isLt
      match a with
      | ⟨0, _⟩ => show win0_3.index last0 0 * win0_3.size 0 ≤ (i 0 : Nat) ∧ (i 0 : Nat) < win0_3.index last0 0 * win0_3.size 0 + win0_3.xsize (grid0.coords last0) 0
                  rw [show win0_3.index last0 0 * win0_3.size 0 = 0 from by decide +kernel, show win0_3.xsize (grid0.coords last0) 0 = 1 from by decide +kernel]; omega
      | ⟨1, _⟩ => show win0_3.index last0 1 * win0_3.size 1 ≤ (i 1 : Nat) ∧ (i 1 : Nat) < win0_3.index last0 1 * win0_3.size 1 + win0_3.xsize (grid0.coords last0) 1
                  rw [show win0_3.index last0 1 * win0_3.size 1 = 0 from by decide +kernel, show win0_3.xsize (grid0.coords last0) 1 = 1 from by decide +kernel]; omega⟩

/-- It is the sum of the masks over all boxes. -/
theorem nm_step (c : Dev nD) (t : Fin cfg0.N) (i : Fin 4) (hi : i.val = t.val) (a : EReal) :
    k0_pay2 (maskK (R0.iblk m c 0 t) (R0.iblk m c 1 t)) a = a + ∑ r : Fin 1050, Box.mask (tgt m c i) (box m c i r) := by
  rw [nm_apply]
  refine congrArg (a + ·) (Finset.sum_congr rfl fun r _ => ?_)
  rw [mask_apply, tg_blk m c t i hi, bx_blk m c t i hi]

theorem nmAt_succ (c : Dev nD) (n : ℕ) (h : n + 1 < cfg0.N) :
    nmAt m c (n + 1) h = k0_pay2 (maskK (R0.iblk m c 0 ⟨n + 1, h⟩) (R0.iblk m c 1 ⟨n + 1, h⟩)) (nmAt m c n (Nat.lt_of_succ_lt h)) := by
  rw [nmAt]
theorem nmAt_zero (c : Dev nD) (h : 0 < cfg0.N) :
    nmAt m c 0 h = k0_pay2 (maskK (R0.iblk m c 0 ⟨0, h⟩) (R0.iblk m c 1 ⟨0, h⟩)) (0 : EReal) := by
  rw [nmAt]

theorem nm_sum' (c : Dev nD) (h : 3 < cfg0.N) : nmAt m c 3 h = ∑ i : Fin 4, ∑ r : Fin 1050, Box.mask (tgt m c i) (box m c i r) := by
  have e0 : nmAt m c 0 (by omega) = _ := (nmAt_zero m c _).trans (nm_step m c ⟨0, by omega⟩ 0 rfl _)
  have e1 : nmAt m c 1 (by omega) = _ := (nmAt_succ m c 0 (by omega)).trans (nm_step m c ⟨1, by omega⟩ 1 rfl _)
  have e2 : nmAt m c 2 (by omega) = _ := (nmAt_succ m c 1 (by omega)).trans (nm_step m c ⟨2, by omega⟩ 2 rfl _)
  have e3 : nmAt m c 3 (by omega) = _ := (nmAt_succ m c 2 (by omega)).trans (nm_step m c ⟨3, by omega⟩ 3 rfl _)
  refine e3.trans ?_
  rw [e2, e1, e0, Fin.sum_univ_four, zero_add]

theorem nm_sum (c : Dev nD) (n : ℕ) (h : n < cfg0.N) (hn : n = 3) : nmAt m c n h = ∑ i : Fin 4, ∑ r : Fin 1050, Box.mask (tgt m c i) (box m c i r) := by
  subst hn; exact nm_sum' m c h

end Cert.KernelIdeal.Val

end
-- ==== Proof.Val.Host.lean ====
module

public import proofs.«01_k».proof.Proof.KI.Run
public import proofs.«01_k».proof.Proof.Val.Acc
public import proofs.«01_k».proof.Proof.Val.MatchAcc
public import Idealize.ShloMosaic.Lib.StableHlo.ReadAt

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ)

/-! What the host lines before the calls hold, at an index. -/

abbrev ar0 (c : Dev nD) : Vec Ideal S4x21x50x64x7x7 .f32 := m (c, Proc.devRef .tc main_arg0)
abbrev ar1 (c : Dev nD) : Vec Ideal S4x21x50x64x7x7 .f32 := m (c, Proc.devRef .tc main_arg1)
abbrev ar2 (c : Dev nD) : Vec Ideal S4x21x50x5 .f32 := m (c, Proc.devRef .tc main_arg2)
abbrev ar3 (c : Dev nD) : Vec Ideal S4x20x5 .f32 := m (c, Proc.devRef .tc main_arg3)
abbrev ar4 (c : Dev nD) : Vec Ideal S64x64x3x3 .f32 := m (c, Proc.devRef .tc main_arg4)
abbrev ar5 (c : Dev nD) : Vec Ideal S64 .f32 := m (c, Proc.devRef .tc main_arg5)
abbrev ar6 (c : Dev nD) : Vec Ideal S64x1 .f32 := m (c, Proc.devRef .tc main_arg6)
abbrev ar7 (c : Dev nD) : Vec Ideal S1 .f32 := m (c, Proc.devRef .tc main_arg7)
abbrev ar8 (c : Dev nD) : Vec Ideal S64x21 .f32 := m (c, Proc.devRef .tc main_arg8)
abbrev ar9 (c : Dev nD) : Vec Ideal S21 .f32 := m (c, Proc.devRef .tc main_arg9)
abbrev ar10 (c : Dev nD) : Vec Ideal S64x4 .f32 := m (c, Proc.devRef .tc main_arg10)
abbrev ar11 (c : Dev nD) : Vec Ideal S4 .f32 := m (c, Proc.devRef .tc main_arg11)

theorem v12_apply (c : Dev nD) (i : Fin 4) (r : Fin 1050) (k : Fin 5) (a : Fin 21) (b : Fin 50) (h : r.val = 50 * a.val + b.val) :
    (V7 m c main_v12 : Vec Ideal S4x1050x5 .f32) (ix3 i r k) = ar2 m c (ix4 i a b k) := by
  rw [V7_of m c main_v12 (by decide), V6_of m c main_v12 (by decide)]
  unfold V5
  after_reads_at
  have e1 : (⟨r.val / 50, by omega⟩ : Fin 21) = a := Fin.ext (by dsimp only; omega)
  have e2 : (⟨r.val % 50, by omega⟩ : Fin 50) = b := Fin.ext (by dsimp only; omega)
  exact congrArg₂ (fun (a : Fin 21) (b : Fin 50) => ar2 m c (ix4 i a b k)) e1 e2

theorem v13_apply (c : Dev nD) (i : Fin 4) (k : Fin 5) (x : Fin 20) :
    (V7 m c main_v13 : Vec Ideal S4x5x20 .f32) (ix3 i k x) = ar3 m c (ix3 i x k) := by
  rw [V7_of m c main_v13 (by decide), V6_of m c main_v13 (by decide)]
  unfold V5
  after_reads_at

theorem v16_apply (c : Dev nD) (t : Fin 9) (k o : Fin 64) :
    (V7 m c main_v16 : Vec Ideal S576x64 .bf16) (ix2 ⟨64 * t.val + k.val, by omega⟩ o)
      = ar4 m c (ix4 o k ⟨t.val / 3, by omega⟩ ⟨t.val % 3, by omega⟩) := by
  rw [V7_of m c main_v16 (by decide), V6_of m c main_v16 (by decide)]
  unfold V5
  after_reads_at
  have e1 : (⟨(64 * t.val + k.val) % 64, by omega⟩ : Fin 64) = k := Fin.ext (by dsimp only; omega)
  have e2 : (⟨(64 * t.val + k.val) / 192, by omega⟩ : Fin 3) = ⟨t.val / 3, by omega⟩ := Fin.ext (by dsimp only; omega)
  have e3 : (⟨(64 * t.val + k.val) / 64 % 3, by omega⟩ : Fin 3) = ⟨t.val % 3, by omega⟩ := Fin.ext (by dsimp only; omega)
  exact (congrArg₂ (fun (a : Fin 64) (b : Fin 3) => ar4 m c (ix4 o a b ⟨(64 * t.val + k.val) / 64 % 3, by omega⟩)) e1 e2).trans
    (congrArg (fun b : Fin 3 => ar4 m c (ix4 o k ⟨t.val / 3, by omega⟩ b)) e3)

theorem v20_apply (c : Dev nD) (o : Fin 64) : (V7 m c main_v20 : Vec Ideal S1x64 .f32) (ix2 0 o) = ar5 m c (ix1 o) := by
  rw [V7_of m c main_v20 (by decide), V6_of m c main_v20 (by decide)]
  unfold V5
  after_reads_at

end Cert.KernelIdeal.Val

end
-- ==== Proof.Val.Feat.lean ====
module

public import proofs.«01_k».proof.Proof.Val.Host

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ)

/-! What the whole kernel leaves, as sums over the 4200 boxes. -/

/-- A padded feature map: box `i`, channel `k`, row `Y` and column `X` of a 9 × 9 map whose border is zero. -/
def feat (A : Vec Ideal S4x21x50x64x7x7 .f32) (i : Fin 4200) (k : Fin 64) (Y X : ℕ) : EReal :=
  if h : (1 ≤ Y ∧ Y ≤ 7) ∧ 1 ≤ X ∧ X ≤ 7 then
    A (ix6 ⟨i.val / 1050, by omega⟩ ⟨i.val / 50 % 21, by omega⟩ ⟨i.val % 50, by omega⟩ k ⟨Y - 1, by omega⟩ ⟨X - 1, by omega⟩) else 0

theorem feat_top (A : Vec Ideal S4x21x50x64x7x7 .f32) (i : Fin 4200) (k : Fin 64) (X : ℕ) : feat A i k 0 X = 0 := dif_neg (by omega)
theorem feat_left (A : Vec Ideal S4x21x50x64x7x7 .f32) (i : Fin 4200) (k : Fin 64) (Y : ℕ) : feat A i k Y 0 = 0 := dif_neg (by omega)
theorem feat_right (A : Vec Ideal S4x21x50x64x7x7 .f32) (i : Fin 4200) (k : Fin 64) (Y : ℕ) : feat A i k Y 8 = 0 := dif_neg (by omega)

theorem feat_read (A : Vec Ideal S4x21x50x64x7x7 .f32) (i : Fin 4200) (k s : Fin 64) :
    (if h : s.val / 8 < 7 ∧ s.val % 8 < 7 then A (ix6 ⟨i.val / 1050, by omega⟩ ⟨i.val / 50 % 21, by omega⟩ ⟨i.val % 50, by omega⟩ k ⟨s.val / 8, by omega⟩ ⟨s.val % 8, by omega⟩)
      else (0 : EReal)) = feat A i k (s.val / 8 + 1) (s.val % 8 + 1) := by
  unfold feat
  by_cases h : s.val / 8 < 7 ∧ s.val % 8 < 7
  · rw [dif_pos h, dif_pos (by omega)]; rfl
  · rw [dif_neg h, dif_neg (by omega)]

theorem zero_word : FloatOps.sitofp (F := Ideal) FTy.f32 (0#32) = (0 : EReal) := by
  show (((0#32 : BitVec 32).toInt : ℝ) : EReal) = 0
  simp

/-- The weights and the bias of the three heads side by side. -/
def wAll (c : Dev nD) (o : Fin 64) (j : Fin 26) : EReal :=
  if h : j.val < 1 then ar6 m c (ix2 o ⟨j.val, h⟩)
  else if h : j.val - 1 < 21 then ar8 m c (ix2 o ⟨j.val - 1, h⟩) else ar10 m c (ix2 o ⟨j.val - 1 - 21, by omega⟩)
def bAll (c : Dev nD) (j : Fin 26) : EReal :=
  if h : j.val < 1 then ar7 m c (ix1 ⟨j.val, h⟩)
  else if h : j.val - 1 < 21 then ar9 m c (ix1 ⟨j.val - 1, h⟩) else ar11 m c (ix1 ⟨j.val - 1 - 21, by omega⟩)

end Cert.KernelIdeal.Val

end
-- ==== Proof.Val.Arg.lean ====
module

public import proofs.«01_k».proof.Proof.Val.Box
public import Idealize.ShloMosaic.PureOps.Reduce
public import Idealize.ShloMosaic.PureOps.Ideal.Laws

@[expose] public section

noncomputable section

namespace Cert.Box

open Idealize.ShloMosaic

/-! The first of the largest: what the kernel's fold of words finds, and what a scan by pairs finds, are one position. -/

/-- The word `w` names the first position at which `f` is largest. -/
def IsFirst (f : Fin 20 → EReal) (x : Fin 20) (w : BitVec 32) : Prop :=
  w = BitVec.ofNat 32 x.val ∧ f x = top f ∧ ∀ y, f y = top f → x ≤ y

theorem bot_bits : Ideal.ofBits FTy.f32 4286578688#32 = ⊥ := by simp [Ideal.ofBits, Ideal.ieee]

theorem le_top' {n : ℕ} (f : Fin n → EReal) (x : Fin n) : f x ≤ top f :=
  (Finset.le_fold_max (f x)).mpr (Or.inr ⟨x, Finset.mem_univ x, le_rfl⟩)

theorem top_le' {n : ℕ} (f : Fin n → EReal) (c : EReal) (h : ∀ x, f x ≤ c) : top f ≤ c :=
  (Finset.fold_max_le c).mpr ⟨by rw [bot_bits]; exact bot_le, fun x _ => h x⟩

theorem exists_top {n : ℕ} (f : Fin (n + 1) → EReal) : ∃ x, f x = top f := by
  obtain ⟨x, -, hx⟩ := Finset.exists_max_image Finset.univ f ⟨0, Finset.mem_univ _⟩
  exact ⟨x, le_antisymm (le_top' f x) (top_le' f _ fun y => hx y (Finset.mem_univ y))⟩

theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

theorem big_word : (2147483647#32 : BitVec 32).toInt = 2147483647 := by decide

theorem minsi_spec (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b = true
  · rw [if_pos h]; exact ⟨Or.inl rfl, le_rfl, (BitVec.slt_iff_toInt_lt.mp h).le⟩
  · rw [if_neg h]
    exact ⟨Or.inr rfl, not_lt.mp fun hl => h (BitVec.slt_iff_toInt_lt.mpr hl), le_rfl⟩

theorem fold_minsi {ι : Type} [DecidableEq ι] (M : BitVec 32) (g : ι → BitVec 32) (s : Finset ι) :
    (Finset.fold IntOp.minsi M g s = M ∨ ∃ x ∈ s, Finset.fold IntOp.minsi M g s = g x) ∧ ∀ x ∈ s, (Finset.fold IntOp.minsi M g s).toInt ≤ (g x).toInt := by
  induction s using Finset.induction_on with
  | empty => exact ⟨Or.inl rfl, fun x hx => absurd hx (Finset.notMem_empty x)⟩
  | insert a s ha ih =>
    rw [Finset.fold_insert ha]
    obtain ⟨h1, h2, h3⟩ := minsi_spec (g a) (Finset.fold IntOp.minsi M g s)
    refine ⟨?_, fun x hx => ?_⟩
    · rcases h1 with e | e
      · exact Or.inr ⟨a, Finset.mem_insert_self a s, e⟩
      · rcases ih.1 with i | ⟨x, hx, i⟩
        · exact Or.inl (e.trans i)
        · exact Or.inr ⟨x, Finset.mem_insert_of_mem hx, e.trans i⟩
    · rcases Finset.mem_insert.mp hx with rfl | hx
      · exact h2
      · exact h3.trans (ih.2 x hx)

/-- The smallest of the words of the largest values. -/
theorem fold_isFirst (f : Fin 20 → EReal) : ∃ x, IsFirst f x
    (Finset.fold IntOp.minsi 2147483647#32 (fun x : Fin 20 => Scalar.select (Ideal.cmp .oeq (f x) (top f)) (BitVec.ofNat 32 x.val) 20#32) Finset.univ) := by
  obtain ⟨hin, hle⟩ := fold_minsi 2147483647#32 (fun x : Fin 20 => Scalar.select (Ideal.cmp .oeq (f x) (top f)) (BitVec.ofNat 32 x.val) 20#32) Finset.univ
  have hsel : ∀ x : Fin 20, Scalar.select (Ideal.cmp .oeq (f x) (top f)) (BitVec.ofNat 32 x.val) 20#32 = if f x = top f then BitVec.ofNat 32 x.val else 20#32 := by
    intro x
    by_cases h : f x = top f <;> simp [Scalar.select, Ideal.cmp, h]
  simp only [hsel] at hin hle ⊢
  generalize Finset.fold IntOp.minsi 2147483647#32 (fun x : Fin 20 => if f x = top f then BitVec.ofNat 32 x.val else 20#32) Finset.univ = w at hin hle ⊢
  have hlt : ∀ y, f y = top f → w.toInt ≤ (y.val : ℤ) := by
    intro y hy
    have := hle y (Finset.mem_univ y)
    rw [if_pos hy, toInt_small _ (by omega)] at this
    exact this
  obtain ⟨y, hy⟩ := exists_top f
  have hwy := hlt y hy
  rcases hin with e | ⟨x, -, e⟩
  · rw [e, big_word] at hwy; omega
  · by_cases hx : f x = top f
    · rw [if_pos hx] at e
      refine ⟨x, e, hx, fun z hz => ?_⟩
      have := hlt z hz
      rw [e, toInt_small _ (by omega)] at this
      exact Fin.le_def.mpr (by omega)
    · rw [if_neg hx] at e
      rw [e, toInt_small 20 (by norm_num)] at hwy; have := y.isLt; norm_num at hwy; omega

/-- The kernel's word. -/
theorem first_isFirst (T : Fin 20 → Fin 5 → EReal) (p : Fin 5 → EReal) : ∃ x, IsFirst (fun y => iou (T y) p) x (first T p) :=
  fold_isFirst fun y => iou (T y) p

theorem isFirst_unique {f : Fin 20 → EReal} {x y : Fin 20} {w v : BitVec 32} (h : IsFirst f x w) (g : IsFirst f y v) : x = y :=
  le_antisymm (h.2.2 y g.2.1) (g.2.2 x h.2.1)

theorem pick_eq (T : Fin 20 → Fin 5 → EReal) (p : Fin 5 → EReal) (k : Fin 5) (x : Fin 20) (w : BitVec 32) (h : IsFirst (fun y => iou (T y) p) x w) :
    pick T p k = T x k := by
  obtain ⟨x', h'⟩ := first_isFirst T p
  obtain rfl := isFirst_unique h h'
  unfold pick
  rw [h'.1]
  refine (Finset.sum_eq_single x (fun y _ hy => ?_) fun hx => absurd (Finset.mem_univ x) hx).trans ?_
  · have : (BitVec.ofNat 32 y.val == BitVec.ofNat 32 x.val) = false := by
      rw [beq_eq_false_iff_ne]
      intro e
      have := congrArg BitVec.toNat e
      simp only [BitVec.toNat_ofNat] at this
      exact hy (Fin.ext (by omega))
    simp [IntOp.cmpi, this, Scalar.select]
  · simp [IntOp.cmpi, Scalar.select]

/-! The scan by pairs. -/

/-- One step of the scan: the larger value, of equal values the smaller position. -/
structure Scan (R : EReal × BitVec 32 → EReal × BitVec 32 → EReal × BitVec 32) : Prop where
  mem : ∀ a b, R a b = a ∨ R a b = b
  left : ∀ a b, a.1 ≤ (R a b).1
  right : ∀ a b, b.1 ≤ (R a b).1
  leftTie : ∀ a b, a.1 = (R a b).1 → (R a b).2.toInt ≤ a.2.toInt
  rightTie : ∀ a b, b.1 = (R a b).1 → (R a b).2.toInt ≤ b.2.toInt

theorem scan_foldl {R : EReal × BitVec 32 → EReal × BitVec 32 → EReal × BitVec 32} (hR : Scan R) (L : List (EReal × BitVec 32)) :
    ∀ a, L.foldl R a ∈ a :: L ∧ (∀ q ∈ a :: L, q.1 ≤ (L.foldl R a).1) ∧ ∀ q ∈ a :: L, q.1 = (L.foldl R a).1 → (L.foldl R a).2.toInt ≤ q.2.toInt := by
  induction L with
  | nil =>
    intro a
    refine ⟨List.mem_cons_self, fun q hq => ?_, fun q hq _ => ?_⟩ <;> obtain rfl := List.mem_singleton.mp hq <;> exact le_rfl
  | cons b L ih =>
    intro a
    obtain ⟨h1, h2, h3⟩ := ih (R a b)
    rw [List.foldl_cons]
    have hr := h2 (R a b) List.mem_cons_self
    have ht := h3 (R a b) List.mem_cons_self
    refine ⟨?_, fun q hq => ?_, fun q hq e => ?_⟩
    · rcases List.mem_cons.mp h1 with e | e
      · rcases hR.mem a b with i | i
        · rw [e, i]; exact List.mem_cons_self
        · rw [e, i]; exact List.mem_cons_of_mem _ List.mem_cons_self
      · exact List.mem_cons_of_mem _ (List.mem_cons_of_mem _ e)
    · rcases List.mem_cons.mp hq with rfl | hq
      · exact (hR.left _ _).trans hr
      · rcases List.mem_cons.mp hq with rfl | hq
        · exact (hR.right _ _).trans hr
        · exact h2 q (List.mem_cons_of_mem _ hq)
    · rcases List.mem_cons.mp hq with rfl | hq
      · have e1 : q.1 = (R q b).1 := le_antisymm (hR.left _ _) (by rw [e]; exact hr)
        exact (ht (e1.symm.trans e)).trans (hR.leftTie _ _ e1)
      · rcases List.mem_cons.mp hq with rfl | hq
        · have e1 : q.1 = (R a q).1 := le_antisymm (hR.right _ _) (by rw [e]; exact hr)
          exact (ht (e1.symm.trans e)).trans (hR.rightTie _ _ e1)
        · exact h3 q (List.mem_cons_of_mem _ hq) e

/-- The scan over all twenty positions from the smallest number at position zero. -/
theorem scan_isFirst {R : EReal × BitVec 32 → EReal × BitVec 32 → EReal × BitVec 32} (hR : Scan R) (L : List (EReal × BitVec 32)) (f : Fin 20 → EReal)
    (hL : ∀ q, q ∈ L ↔ ∃ x : Fin 20, q = (f x, BitVec.ofNat 32 x.val)) : ∃ x, IsFirst f x (L.foldl R (⊥, 0#32)).2 := by
  obtain ⟨h1, h2, h3⟩ := scan_foldl hR L (⊥, 0#32)
  generalize L.foldl R (⊥, 0#32) = w at h1 h2 h3 ⊢
  have hm : ∀ x : Fin 20, (f x, BitVec.ofNat 32 x.val) ∈ (⊥, 0#32) :: L := fun x => List.mem_cons_of_mem _ ((hL _).mpr ⟨x, rfl⟩)
  have hle : ∀ x, f x ≤ w.1 := fun x => h2 _ (hm x)
  have htop : top f ≤ w.1 := top_le' f _ hle
  rcases List.mem_cons.mp h1 with e | e
  · refine ⟨0, by rw [e]; rfl, ?_, fun y _ => Fin.zero_le y⟩
    have hb : w.1 = ⊥ := by rw [e]
    rw [hb] at htop
    exact le_antisymm (le_top' f 0) (htop.trans bot_le)
  · obtain ⟨x, hx⟩ := (hL w).mp e
    have e1 : w.1 = f x := by rw [hx]
    have e2 : w.2 = BitVec.ofNat 32 x.val := by rw [hx]
    refine ⟨x, e2, le_antisymm (le_top' f x) (by rw [← e1]; exact htop), fun y hy => ?_⟩
    have hyw : f y = w.1 := le_antisymm (hle y) (by rw [hy, e1]; exact le_top' f x)
    have := h3 _ (hm y) hyw
    rw [e2] at this
    simp only [toInt_small x.val (by omega), toInt_small y.val (by omega)] at this
    exact Fin.le_def.mpr (by omega)

end Cert.Box

end
-- ==== Proof.Val.Spec.lean ====
module

public import proofs.«01_k».proof.Proof.Val.Arg

@[expose] public section

noncomputable section

namespace Cert.Spec

open Idealize.ShloMosaic

/-! The losses as sums over the 4200 boxes, over what the twelve arguments hold. -/

/-- The arguments, read as functions: the two padded feature maps, the targets, the boxes, the convolution and the three heads. -/
structure Data where
  ft : Fin 4200 → Fin 64 → ℕ → ℕ → EReal
  fs : Fin 4200 → Fin 64 → ℕ → ℕ → EReal
  tg : Fin 4 → Fin 20 → Fin 5 → EReal
  bx : Fin 4200 → Fin 5 → EReal
  w : Fin 64 → Fin 64 → Fin 3 → Fin 3 → EReal
  b : Fin 64 → EReal
  wd : Fin 64 → EReal
  bd : EReal
  wc : Fin 64 → Fin 21 → EReal
  bc : Fin 21 → EReal
  wl : Fin 64 → Fin 4 → EReal
  bl : Fin 4 → EReal

variable (D : Data)

/-- The convolution of a padded map at a position. -/
def conv (P : Fin 64 → ℕ → ℕ → EReal) (o : Fin 64) (y x : ℕ) : EReal :=
  max ((∑ t : Fin 9, ∑ k : Fin 64, P k (y + t.val / 3) (x + t.val % 3) * D.w o k ⟨t.val / 3, by omega⟩ ⟨t.val % 3, by omega⟩) + D.b o) 0

/-- Its mean over the 49 positions. -/
def mean (P : Fin 64 → ℕ → ℕ → EReal) (o : Fin 64) : EReal :=
  ((49⁻¹ : ℝ) : EReal) * ∑ y : Fin 7, ∑ x : Fin 7, conv D P o y.val x.val

/-- A linear head. -/
def lin (u w : Fin 64 → EReal) (b : EReal) : EReal := (∑ o : Fin 64, u o * w o) + b

/-- The three heads side by side. -/
def wAll (o : Fin 64) (j : Fin 26) : EReal :=
  if h : j.val < 1 then D.wd o else if h : j.val - 1 < 21 then D.wc o ⟨j.val - 1, h⟩ else D.wl o ⟨j.val - 1 - 21, by omega⟩
def bAll (j : Fin 26) : EReal :=
  if h : j.val < 1 then D.bd else if h : j.val - 1 < 21 then D.bc ⟨j.val - 1, h⟩ else D.bl ⟨j.val - 1 - 21, by omega⟩

def heads (P : Fin 64 → ℕ → ℕ → EReal) (j : Fin 26) : EReal := lin (mean D P) (fun o => wAll D o j) (bAll D j)

theorem heads_real (P : Fin 64 → ℕ → ℕ → EReal) : heads D P 0 = lin (mean D P) D.wd D.bd := rfl
theorem heads_cls (P : Fin 64 → ℕ → ℕ → EReal) (k : Fin 21) (h : 1 + k.val < 26) :
    heads D P ⟨1 + k.val, h⟩ = lin (mean D P) (fun o => D.wc o k) (D.bc k) := by
  have e : (⟨1 + k.val - 1, by omega⟩ : Fin 21) = k := Fin.ext (by dsimp only; omega)
  unfold heads wAll bAll
  simp only [dif_neg (show ¬(1 + k.val < 1) by omega), dif_pos (show 1 + k.val - 1 < 21 by omega), e]
theorem heads_loc (P : Fin 64 → ℕ → ℕ → EReal) (k : Fin 4) (h : 22 + k.val < 26) :
    heads D P ⟨22 + k.val, h⟩ = lin (mean D P) (fun o => D.wl o k) (D.bl k) := by
  have e : (⟨22 + k.val - 1 - 21, by omega⟩ : Fin 4) = k := Fin.ext (by dsimp only; omega)
  unfold heads wAll bAll
  simp only [dif_neg (show ¬(22 + k.val < 1) by omega), dif_neg (show ¬(22 + k.val - 1 < 21) by omega), e]

/-- The targets of a box's image. -/
def tgs (i : Fin 4200) : Fin 20 → Fin 5 → EReal := D.tg ⟨i.val / 1050, by omega⟩

/-- Loss `j` over all boxes. -/
def total (j : Fin 4) : EReal :=
  ∑ i : Fin 4200, Box.part (heads D (D.ft i)) (heads D (D.fs i)) (fun k => Box.aux (tgs D i) (D.bx i) k) j

/-- The number of matched boxes, at least one. -/
def count : EReal := max (∑ i : Fin 4200, Box.mask (tgs D i) (D.bx i)) 1

/-- The discriminator's loss. -/
def dis : EReal :=
  Ideal.ofBits FTy.f32 1056964608#32 * Ideal.div (total D 2) (count D) + Ideal.ofBits FTy.f32 1056964608#32 * Ideal.div (total D 3) (count D)

/-- The whole loss. -/
def loss : EReal :=
  Ideal.ofBits FTy.f32 1058642330#32 * Ideal.div (total D 1) (count D * Ideal.ofBits FTy.f32 1082130432#32)
    + Ideal.ofBits FTy.f32 1058642330#32 * Ideal.div (total D 0) (count D) + Ideal.ofBits FTy.f32 1072064102#32 * dis D

end Cert.Spec

end
-- ==== Proof.Val.RData.lean ====
module

public import proofs.«01_k».proof.Proof.RI.Res
public import proofs.«01_k».proof.Proof.Val.Feat
public import proofs.«01_k».proof.Proof.Val.Spec
public import Idealize.ShloMosaic.Lib.Pointwise
public import Idealize.ShloMosaic.Lib.StableHlo.ReadAt

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-! The reference's arguments, and its overlaps. -/

abbrev ar0 : Vec Ideal S4x21x50x64x7x7 .f32 := V0 (Proc.devRef .tc main_arg0)
abbrev ar1 : Vec Ideal S4x21x50x64x7x7 .f32 := V0 (Proc.devRef .tc main_arg1)
abbrev ar2 : Vec Ideal S4x21x50x5 .f32 := V0 (Proc.devRef .tc main_arg2)
abbrev ar3 : Vec Ideal S4x20x5 .f32 := V0 (Proc.devRef .tc main_arg3)
abbrev ar4 : Vec Ideal S64x64x3x3 .f32 := V0 (Proc.devRef .tc main_arg4)
abbrev ar5 : Vec Ideal S64 .f32 := V0 (Proc.devRef .tc main_arg5)
abbrev ar6 : Vec Ideal S64x1 .f32 := V0 (Proc.devRef .tc main_arg6)
abbrev ar7 : Vec Ideal S1 .f32 := V0 (Proc.devRef .tc main_arg7)
abbrev ar8 : Vec Ideal S64x21 .f32 := V0 (Proc.devRef .tc main_arg8)
abbrev ar9 : Vec Ideal S21 .f32 := V0 (Proc.devRef .tc main_arg9)
abbrev ar10 : Vec Ideal S64x4 .f32 := V0 (Proc.devRef .tc main_arg10)
abbrev ar11 : Vec Ideal S4 .f32 := V0 (Proc.devRef .tc main_arg11)

/-- The reference's arguments as functions. -/
def data : Spec.Data where
  ft := KernelIdeal.Val.feat (ar0 V0)
  fs := KernelIdeal.Val.feat (ar1 V0)
  tg b x k := ar3 V0 (ix3 b x k)
  bx i k := ar2 V0 (ix4 ⟨i.val / 1050, by omega⟩ ⟨i.val % 1050 / 50, by omega⟩ ⟨i.val % 1050 % 50, by omega⟩ k)
  w o k a b := ar4 V0 (ix4 o k a b)
  b o := ar5 V0 (ix1 o)
  wd o := ar6 V0 (ix2 o 0)
  bd := ar7 V0 (ix1 0)
  wc o k := ar8 V0 (ix2 o k)
  bc k := ar9 V0 (ix1 k)
  wl o k := ar10 V0 (ix2 o k)
  bl k := ar11 V0 (ix1 k)

theorem zero_id : (id (constant (F := Ideal) S_ FTy.f32 0#32) ix0 : EReal) = 0 := Ideal.ofBits_zero_f32

theorem v56_apply (i : Fin 4200) (x : Fin 20) :
    (res_main_v56 V0 : Vec Ideal S4x20x1050 .f32) (ix3 (⟨i.val / 1050, by omega⟩ : Fin 4) x (⟨i.val % 1050, by omega⟩ : Fin 1050)) = Box.iou (Spec.tgs (data V0) i x) ((data V0).bx i) := by
  pointwise [res_main_v56, res_main_v27, res_main_v22, res_main_v4, res_main_v1, res_main_v0]
  simp only [zero_id]
  rfl

end Cert.ReferenceIdeal.Val

end
-- ==== Proof.Val.Gather.lean ====
module

public import proofs.«01_k».proof.Proof.RI.Res
public import Idealize.ShloMosaic.Lib.Pointwise

@[expose] public section

set_option maxRecDepth 16384

noncomputable section

namespace Cert.ReferenceIdeal.Val

open Cert.ReferenceIdeal Cert.ReferenceIdeal.Gen
open Idealize.ShloMosaic

/-! The reference's three takes, read at an index: the start index, kept inside the axis it runs over. -/

theorem take_cls {α : Type} (x : S4x20.Idx → α) (idx : IVec S4x1050x1 32) (i : Fin 4) (r : Fin 1050) :
    Host.gather gather_S4x20_S4x1050x1_S4x1050_n_1_0_0_1_2_11 x idx (ix2 i r)
      = x (ix2 i ⟨min (idx (ix3 i r 0)).toInt.toNat 19, by omega⟩) := by
  unfold Host.gather
  refine congrArg x (funext fun a => Fin.ext ?_)
  match a with
  | ⟨0, _⟩ => show 0 + _ + 0 = i.val; rw [Nat.add_zero, Nat.zero_add]; rfl
  | ⟨1, _⟩ =>
    show _ + 0 + 0 = min (idx (ix3 i r 0)).toInt.toNat 19
    refine congrArg (fun w : BitVec 32 => min w.toInt.toNat 19) (congrArg idx (funext fun b => Fin.ext ?_))
    match b with
    | ⟨0, _⟩ => rfl
    | ⟨1, _⟩ => rfl
    | ⟨2, _⟩ => rfl

theorem take_loc {α : Type} (x : S4x20x4.Idx → α) (idx : IVec S4x1050x1 32) (i : Fin 4) (r : Fin 1050) (k : Fin 4) :
    Host.gather gather_S4x20x4_S4x1050x1_S4x1050x4_2_1_0_0_1_2_114 x idx (ix3 i r k)
      = x (ix3 i ⟨min (idx (ix3 i r 0)).toInt.toNat 19, by omega⟩ k) := by
  unfold Host.gather
  refine congrArg x (funext fun a => Fin.ext ?_)
  match a with
  | ⟨0, _⟩ => show 0 + _ + 0 = i.val; rw [Nat.add_zero, Nat.zero_add]; rfl
  | ⟨1, _⟩ =>
    show _ + 0 + 0 = min (idx (ix3 i r 0)).toInt.toNat 19
    refine congrArg (fun w : BitVec 32 => min w.toInt.toNat 19) (congrArg idx (funext fun b => Fin.ext ?_))
    match b with
    | ⟨0, _⟩ => rfl
    | ⟨1, _⟩ => rfl
    | ⟨2, _⟩ => rfl
  | ⟨2, _⟩ => show 0 + 0 + _ = k.val; rw [Nat.zero_add]; rfl

theorem take_row {α : Type} (x : S4200x21.Idx → α) (idx : IVec S4200x1x1 32) (i : Fin 4200) :
    Host.gather gather_S4200x21_S4200x1x1_S4200x1_n_1_0_0_1_2_11 x idx (ix2 i 0)
      = x (ix2 i ⟨min (idx (ix3 i 0 0)).toInt.toNat 20, by omega⟩) := by
  unfold Host.gather
  refine congrArg x (funext fun a => Fin.ext ?_)
  match a with
  | ⟨0, _⟩ => show 0 + _ + 0 = i.val; rw [Nat.add_zero, Nat.zero_add]; rfl
  | ⟨1, _⟩ =>
    show _ + 0 + 0 = min (idx (ix3 i 0 0)).toInt.toNat 20
    refine congrArg (fun w : BitVec 32 => min w.toInt.toNat 20) (congrArg idx (funext fun b => Fin.ext ?_))
    match b with
    | ⟨0, _⟩ => rfl
    | ⟨1, _⟩ => rfl
    | ⟨2, _⟩ => rfl

end Cert.ReferenceIdeal.Val

end
-- ==== Proof.Val.RMatch.lean ====
module

public import proofs.«01_k».proof.Proof.Val.RData
public import proofs.«01_k».proof.Proof.Val.Gather

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-! The reference's matches: the scan for the first of the largest, the mask and the number of matches. -/

theorem reducer_eq (a b : EReal × BitVec 32) : reducer_argmax_f32_i32 (F := Ideal) a b
    = if b.1 < a.1 then a else if a.1 = b.1 ∧ a.2.slt b.2 = true then a else b := by
  obtain ⟨x, v⟩ := a
  obtain ⟨y, w⟩ := b
  have e : IntOp.cmpi CmpIPredicate.slt v w = BitVec.ofBool (v.slt w) := rfl
  unfold reducer_argmax_f32_i32
  simp only [e, Ideal.cmpf_def]
  by_cases h : y < x
  · have h' : x ≠ y := fun q => absurd h (by rw [q]; exact lt_irrefl _)
    simp [Ideal.cmp, h, h', Scalar.select, IntOp.ori, IntOp.andi]
  · by_cases h' : x = y
    · subst h'
      cases hv : v.slt w <;> simp [Ideal.cmp, Scalar.select, IntOp.ori, IntOp.andi]
    · simp [Ideal.cmp, h, h', Scalar.select, IntOp.ori, IntOp.andi]

theorem reducer_scan : Box.Scan (reducer_argmax_f32_i32 (F := Ideal)) where
  mem a b := by rw [reducer_eq]; split_ifs <;> simp
  left a b := by
    rw [reducer_eq]; split_ifs with h1 h2
    · exact le_rfl
    · exact le_rfl
    · exact not_lt.mp h1
  right a b := by
    rw [reducer_eq]; split_ifs with h1 h2
    · exact h1.le
    · exact h2.1.ge
    · exact le_rfl
  leftTie a b := by
    rw [reducer_eq]; split_ifs with h1 h2
    · exact fun _ => le_rfl
    · exact fun _ => le_rfl
    · exact fun e => not_lt.mp fun hl => h2 ⟨e, BitVec.slt_iff_toInt_lt.mpr hl⟩
  rightTie a b := by
    rw [reducer_eq]; split_ifs with h1 h2
    · exact fun e => absurd h1 (by rw [e]; exact lt_irrefl _)
    · exact fun _ => (BitVec.slt_iff_toInt_lt.mp h2.2).le
    · exact fun _ => le_rfl

abbrev r56 : Vec Ideal S4x20x1050 .f32 := res_main_v56 V0
abbrev r58 : IVec S4x1050 32 := res_main_v58 V0
abbrev r79 : Vec Ideal S4200 .f32 := res_main_v79 V0

theorem fiber_mem (X : S4x20x1050.Idx → EReal) (b : Fin 4) (r : Fin 1050) (q : EReal × BitVec 32) :
    q ∈ Host.argReduceFiber X (iotaInDim S4x20x1050 32 1) reducesTo_S4x20x1050_S4x1050_d1 (ix2 b r)
      ↔ ∃ x : Fin 20, q = (X (ix3 b x r), BitVec.ofNat 32 x.val) := by
  unfold Host.argReduceFiber
  rw [List.mem_map]
  constructor
  · rintro ⟨n, hn, rfl⟩
    rw [List.mem_filter] at hn
    obtain ⟨k, hk⟩ := (Shape.ReducesTo.fiber_r3_a1 reducesTo_S4x20x1050_S4x1050_d1 (ix2 b r) _).mp (of_decide_eq_true hn.2)
    refine ⟨k, ?_⟩
    rw [← hk]
    rfl
  · rintro ⟨x, rfl⟩
    refine ⟨S4x20x1050.rowMajor (ix3 b x r), List.mem_filter.mpr ⟨List.mem_finRange _, decide_eq_true ?_⟩, ?_⟩
    · rw [Equiv.symm_apply_apply]
      exact (Shape.ReducesTo.fiber_r3_a1 reducesTo_S4x20x1050_S4x1050_d1 (ix2 b r) _).mpr ⟨x, rfl⟩
    · rw [Equiv.symm_apply_apply]
      rfl

theorem arg_fold (X : FVec Ideal S4x20x1050 .f32) (Y : IVec S4x20x1050 32) (z : FVec Ideal S_ .f32) (w : IVec S_ 32) (j : S4x1050.Idx) :
    Host.argReduce (F := Ideal) reducer_argmax_f32_i32 X Y z w reducesTo_S4x20x1050_S4x1050_d1 h_S_ j
      = (Host.argReduceFiber X Y reducesTo_S4x20x1050_S4x1050_d1 j).foldl (reducer_argmax_f32_i32 (F := Ideal)) (z (Shape.Idx.first h_S_), w (Shape.Idx.first h_S_)) :=
  (congrFun (Ideal.argReduce_eq_reduce2 reducer_argmax_f32_i32 X Y z w reducesTo_S4x20x1050_S4x1050_d1 h_S_) j).trans
    (Host.reduce2_eq_foldl_fiber reducer_argmax_f32_i32 X Y z w reducesTo_S4x20x1050_S4x1050_d1 h_S_ j)

theorem init_pair : ((constant S_ FTy.f32 0xFF800000#32 : FVec Ideal S_ .f32) (Shape.Idx.first h_S_), (constantI S_ 32 0#32 : IVec S_ 32) (Shape.Idx.first h_S_)) = ((⊥ : EReal), 0#32) := by
  generalize Shape.Idx.first h_S_ = q
  exact congrArg (fun z : EReal => (z, 0#32)) Box.bot_bits

theorem v58_first (i : Fin 4200) : ∃ x, Box.IsFirst (fun y => Box.iou (Spec.tgs (data V0) i y) ((data V0).bx i)) x
    (r58 V0 (ix2 ⟨i.val / 1050, by omega⟩ ⟨i.val % 1050, by omega⟩)) := by
  have h := congrArg Prod.snd (arg_fold (r56 V0) (iotaInDim S4x20x1050 32 1) (constant S_ FTy.f32 0xFF800000#32) (constantI S_ 32 0#32)
    (ix2 ⟨i.val / 1050, by omega⟩ ⟨i.val % 1050, by omega⟩))
  rw [init_pair] at h
  have hf : ∀ x : Fin 20, r56 V0 (ix3 ⟨i.val / 1050, by omega⟩ x ⟨i.val % 1050, by omega⟩) = Box.iou (Spec.tgs (data V0) i x) ((data V0).bx i) := fun x => v56_apply V0 i x
  have hm := fiber_mem (r56 V0) ⟨i.val / 1050, by omega⟩ ⟨i.val % 1050, by omega⟩
  simp only [hf] at hm
  obtain ⟨x, hx⟩ := Box.scan_isFirst reducer_scan _ (fun y => Box.iou (Spec.tgs (data V0) i y) ((data V0).bx i)) hm
  exact ⟨x, Eq.subst (motive := fun w => Box.IsFirst _ x w) h.symm hx⟩

theorem bit_word (a : BitVec 1) : FloatOps.uitofp (F := Ideal) FTy.f32 a = FloatOps.sitofp (F := Ideal) FTy.f32 (BitVec.setWidth 32 a) := by
  show (((a.toNat : ℕ) : ℝ) : EReal) = (((BitVec.setWidth 32 a).toInt : ℝ) : EReal)
  have : ((BitVec.setWidth 32 a).toInt : ℤ) = (a.toNat : ℤ) := by revert a; decide
  rw [this]; rfl

theorem v79_apply (i : Fin 4200) : r79 V0 (ix1 i) = Box.mask (Spec.tgs (data V0) i) ((data V0).bx i) := by
  have hv : (fun x : Fin 20 => r56 V0 (ix3 (⟨i.val / 1050, by omega⟩ : Fin 4) x (⟨i.val % 1050, by omega⟩ : Fin 1050))) = fun x => Box.iou (Spec.tgs (data V0) i x) ((data V0).bx i) :=
    funext fun x => v56_apply V0 i x
  unfold Box.mask Box.best
  rw [← hv, ← bit_word]
  unfold Box.top
  pointwise [res_main_v79, res_main_v0]
  refine congrArg (fun q : EReal => FloatOps.uitofp (F := Ideal) FTy.f32 (IntOp.andi (BitVec.ofBool (decide (Ideal.ofBits FTy.f32 1050253722#32 ≤ q)))
    (BitVec.ofBool (decide (Ideal.ofBits FTy.f32 1008981770#32 ≤ (data V0).bx i 0))))) ?_
  exact Shape.ReducesTo.fold_fiber_r3_a1 reducesTo_S4x20x1050_S4x1050_d1 _ max _ (r56 V0)

theorem v81_apply : (res_main_v81 V0 : Vec Ideal S_ .f32) ix0 = Spec.count (data V0) := by
  refine Eq.trans (b := max (∑ i : Fin 4200, r79 V0 (ix1 i)) 1) ?_ ?_
  · pointwise [res_main_v81]
    all_goals rfl
  · unfold Spec.count
    simp only [v79_apply]

end Cert.ReferenceIdeal.Val

end
-- ==== Proof.Val.RConv.lean ====
module

public import proofs.«01_k».proof.Proof.Val.RData

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-! The reference's convolution and its mean. -/

theorem sum9 (f : Fin 9 → EReal) : ∑ t, f t = f 0 + f 1 + f 2 + f 3 + f 4 + f 5 + f 6 + f 7 + f 8 := by
  rw [Fin.sum_univ_castSucc, Fin.sum_univ_eight]; rfl

abbrev r140 : Vec Ideal S4200x64x7x7 .f32 := res_main_v140 V0
abbrev r219 : Vec Ideal S4200x64x7x7 .f32 := res_main_v219 V0

/-- One tap. -/
theorem tap (D : Spec.Data) (W : Vec Ideal S64x64x3x3 .f32) (hW : ∀ o k a b, W (ix4 o k a b) = D.w o k a b) (X : Vec Ideal S4200x64x9x9 .f32)
    (P : Fin 64 → ℕ → ℕ → EReal) (i : Fin 4200) (hX : ∀ (k : Fin 64) (Y Z : ℕ) (hY : Y < 9) (hZ : Z < 9), X (ix4 i k ⟨Y, hY⟩ ⟨Z, hZ⟩) = P k Y Z)
    (o : Fin 64) (y x : ℕ) (t : Fin 9) (a b : Fin 3) (ha : a.val = t.val / 3) (hb : b.val = t.val % 3) (Y Z : ℕ) (hY : Y < 9) (hZ : Z < 9)
    (eY : Y = y + t.val / 3) (eZ : Z = x + t.val % 3) :
    ∑ k : Fin 64, (W (ix4 o k a b) : EReal) * X (ix4 i k ⟨Y, hY⟩ ⟨Z, hZ⟩)
      = ∑ k : Fin 64, P k (y + t.val / 3) (x + t.val % 3) * D.w o k ⟨t.val / 3, Nat.div_lt_of_lt_mul t.isLt⟩ ⟨t.val % 3, Nat.mod_lt _ (by decide)⟩ := by
  have ea : a = ⟨t.val / 3, Nat.div_lt_of_lt_mul t.isLt⟩ := Fin.ext ha
  have eb : b = ⟨t.val % 3, Nat.mod_lt _ (by decide)⟩ := Fin.ext hb
  subst ea eb eY eZ
  refine Finset.sum_congr rfl fun k _ => ?_
  rw [hX, hW, mul_comm]

theorem taps (D : Spec.Data) (W : Vec Ideal S64x64x3x3 .f32) (hW : ∀ o k a b, W (ix4 o k a b) = D.w o k a b) (X : Vec Ideal S4200x64x9x9 .f32)
    (P : Fin 64 → ℕ → ℕ → EReal) (i : Fin 4200) (hX : ∀ (k : Fin 64) (Y Z : ℕ) (hY : Y < 9) (hZ : Z < 9), X (ix4 i k ⟨Y, hY⟩ ⟨Z, hZ⟩) = P k Y Z)
    (o : Fin 64) (y x : Fin 7) (B : EReal) (hB : B = D.b o) :
    max ((∑ k : Fin 64, (W (ix4 o k 0 0) : EReal) * X (ix4 i k ⟨y.val, by omega⟩ ⟨x.val, by omega⟩))
      + (∑ k : Fin 64, (W (ix4 o k 0 1) : EReal) * X (ix4 i k ⟨y.val, by omega⟩ ⟨1 + x.val, by omega⟩))
      + (∑ k : Fin 64, (W (ix4 o k 0 2) : EReal) * X (ix4 i k ⟨y.val, by omega⟩ ⟨2 + x.val, by omega⟩))
      + (∑ k : Fin 64, (W (ix4 o k 1 0) : EReal) * X (ix4 i k ⟨1 + y.val, by omega⟩ ⟨x.val, by omega⟩))
      + (∑ k : Fin 64, (W (ix4 o k 1 1) : EReal) * X (ix4 i k ⟨1 + y.val, by omega⟩ ⟨1 + x.val, by omega⟩))
      + (∑ k : Fin 64, (W (ix4 o k 1 2) : EReal) * X (ix4 i k ⟨1 + y.val, by omega⟩ ⟨2 + x.val, by omega⟩))
      + (∑ k : Fin 64, (W (ix4 o k 2 0) : EReal) * X (ix4 i k ⟨2 + y.val, by omega⟩ ⟨x.val, by omega⟩))
      + (∑ k : Fin 64, (W (ix4 o k 2 1) : EReal) * X (ix4 i k ⟨2 + y.val, by omega⟩ ⟨1 + x.val, by omega⟩))
      + (∑ k : Fin 64, (W (ix4 o k 2 2) : EReal) * X (ix4 i k ⟨2 + y.val, by omega⟩ ⟨2 + x.val, by omega⟩)) + B) 0
      = Spec.conv D P o y.val x.val := by
  unfold Spec.conv
  rw [sum9, hB]
  rw [tap D W hW X P i hX o y.val x.val 0 0 0 rfl rfl y.val x.val _ _ rfl rfl]
  rw [tap D W hW X P i hX o y.val x.val 1 0 1 rfl rfl y.val (1 + x.val) _ _ rfl (Nat.add_comm _ _)]
  rw [tap D W hW X P i hX o y.val x.val 2 0 2 rfl rfl y.val (2 + x.val) _ _ rfl (Nat.add_comm _ _)]
  rw [tap D W hW X P i hX o y.val x.val 3 1 0 rfl rfl (1 + y.val) x.val _ _ (Nat.add_comm _ _) rfl]
  rw [tap D W hW X P i hX o y.val x.val 4 1 1 rfl rfl (1 + y.val) (1 + x.val) _ _ (Nat.add_comm _ _) (Nat.add_comm _ _)]
  rw [tap D W hW X P i hX o y.val x.val 5 1 2 rfl rfl (1 + y.val) (2 + x.val) _ _ (Nat.add_comm _ _) (Nat.add_comm _ _)]
  rw [tap D W hW X P i hX o y.val x.val 6 2 0 rfl rfl (2 + y.val) x.val _ _ (Nat.add_comm _ _) rfl]
  rw [tap D W hW X P i hX o y.val x.val 7 2 1 rfl rfl (2 + y.val) (1 + x.val) _ _ (Nat.add_comm _ _) (Nat.add_comm _ _)]
  rw [tap D W hW X P i hX o y.val x.val 8 2 2 rfl rfl (2 + y.val) (2 + x.val) _ _ (Nat.add_comm _ _) (Nat.add_comm _ _)]

theorem feat_read9 (A : Vec Ideal S4x21x50x64x7x7 .f32) (i : Fin 4200) (k : Fin 64) (Y Z : ℕ) :
    (if h : (1 ≤ Y ∧ Y - 1 < 7) ∧ 1 ≤ Z ∧ Z - 1 < 7 then
      A (ix6 ⟨i.val / 1050, by omega⟩ ⟨i.val / 50 % 21, by omega⟩ ⟨i.val % 50, by omega⟩ k ⟨Y - 1, by omega⟩ ⟨Z - 1, by omega⟩) else (0 : EReal))
      = KernelIdeal.Val.feat A i k Y Z := by
  unfold KernelIdeal.Val.feat
  by_cases h : (1 ≤ Y ∧ Y - 1 < 7) ∧ 1 ≤ Z ∧ Z - 1 < 7
  · rw [dif_pos h, dif_pos (by omega)]
  · rw [dif_neg h, dif_neg (by omega)]

theorem v84_apply (i : Fin 4200) (k : Fin 64) (Y Z : ℕ) (hY : Y < 9) (hZ : Z < 9) :
    (res_main_v84 V0 : Vec Ideal S4200x64x9x9 .f32) (ix4 i k ⟨Y, hY⟩ ⟨Z, hZ⟩) = (data V0).ft i k Y Z := by
  pointwise [res_main_v84]
  exact Eq.trans (dite_congr rfl (fun _ => rfl) fun _ => KernelIdeal.Val.zero_word) (feat_read9 (ar0 V0) i k Y Z)

theorem v163_apply (i : Fin 4200) (k : Fin 64) (Y Z : ℕ) (hY : Y < 9) (hZ : Z < 9) :
    (res_main_v163 V0 : Vec Ideal S4200x64x9x9 .f32) (ix4 i k ⟨Y, hY⟩ ⟨Z, hZ⟩) = (data V0).fs i k Y Z := by
  pointwise [res_main_v163]
  exact Eq.trans (dite_congr rfl (fun _ => rfl) fun _ => KernelIdeal.Val.zero_word) (feat_read9 (ar1 V0) i k Y Z)

theorem v140_apply (i : Fin 4200) (o : Fin 64) (y x : Fin 7) :
    max (r140 V0 (ix4 i o y x)) 0 = Spec.conv (data V0) ((data V0).ft i) o y.val x.val := by
  refine Eq.trans (congrArg (fun q : EReal => max q 0) ?_) (taps (data V0) (ar4 V0) (fun _ _ _ _ => rfl) (res_main_v84 V0) ((data V0).ft i) i (v84_apply V0 i) o y x _ rfl)
  pointwise [res_main_v140]
  all_goals rfl

theorem v219_apply (i : Fin 4200) (o : Fin 64) (y x : Fin 7) :
    max (r219 V0 (ix4 i o y x)) 0 = Spec.conv (data V0) ((data V0).fs i) o y.val x.val := by
  refine Eq.trans (congrArg (fun q : EReal => max q 0) ?_) (taps (data V0) (ar4 V0) (fun _ _ _ _ => rfl) (res_main_v163 V0) ((data V0).fs i) i (v163_apply V0 i) o y x _ rfl)
  pointwise [res_main_v219]
  all_goals rfl

theorem forty_nine : Ideal.ofBits FTy.f32 1111752704#32 = ((49 : ℝ) : EReal) := by
  simp [Ideal.ofBits, Ideal.ieee]; rw [← EReal.coe_mul]; norm_num

theorem div49 (x : EReal) : Ideal.div x (Ideal.ofBits FTy.f32 1111752704#32) = ((49⁻¹ : ℝ) : EReal) * x := by
  rw [forty_nine, Ideal.div, if_neg (by exact_mod_cast (by norm_num : (49 : ℝ) ≠ 0)), ← EReal.coe_inv, mul_comm]

theorem v144_apply (i : Fin 4200) (o : Fin 64) :
    (res_main_v144 V0 : Vec Ideal S4200x64 .f32) (ix2 i o) = Spec.mean (data V0) ((data V0).ft i) o := by
  refine Eq.trans (b := Ideal.div (∑ y : Fin 7, ∑ x : Fin 7, max (r140 V0 (ix4 i o y x)) 0) (Ideal.ofBits FTy.f32 1111752704#32)) ?_ ?_
  · pointwise [res_main_v144]
    all_goals rfl
  · rw [div49]
    refine congrArg (_ * ·) (Finset.sum_congr rfl fun y _ => Finset.sum_congr rfl fun x _ => v140_apply V0 i o y x)

theorem v223_apply (i : Fin 4200) (o : Fin 64) :
    (res_main_v223 V0 : Vec Ideal S4200x64 .f32) (ix2 i o) = Spec.mean (data V0) ((data V0).fs i) o := by
  refine Eq.trans (b := Ideal.div (∑ y : Fin 7, ∑ x : Fin 7, max (r219 V0 (ix4 i o y x)) 0) (Ideal.ofBits FTy.f32 1111752704#32)) ?_ ?_
  · pointwise [res_main_v223]
    all_goals rfl
  · rw [div49]
    refine congrArg (_ * ·) (Finset.sum_congr rfl fun y _ => Finset.sum_congr rfl fun x _ => v219_apply V0 i o y x)

end Cert.ReferenceIdeal.Val

end
-- ==== Proof.Val.RTake.lean ====
module

public import proofs.«01_k».proof.Proof.Val.RMatch
public import proofs.«01_k».proof.Proof.Val.RConv

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-! The reference's takes at the first of the largest, the heads. -/

theorem take_word {f : Fin 20 → EReal} {x : Fin 20} {w : BitVec 32} (h : Box.IsFirst f x w) (hm : min (Scalar.select (IntOp.cmpi CmpIPredicate.slt w 0#32) (IntOp.addi w 20#32) w).toInt.toNat 19 < 20) :
    (⟨min (Scalar.select (IntOp.cmpi CmpIPredicate.slt w 0#32) (IntOp.addi w 20#32) w).toInt.toNat 19, hm⟩ : Fin 20) = x := by
  obtain ⟨rfl, -, -⟩ := h
  revert hm
  revert x
  decide

theorem take_word' {f : Fin 20 → EReal} {x : Fin 20} {w v : BitVec 32} (h : Box.IsFirst f x w)
    (hv : v = Scalar.select (IntOp.cmpi CmpIPredicate.slt w 0#32) (IntOp.addi w 20#32) w) (hm : min v.toInt.toNat 19 < 20) :
    (⟨min v.toInt.toNat 19, hm⟩ : Fin 20) = x := by
  subst hv; exact take_word h hm

/-- The start indices of the two takes from the targets. -/
abbrev start (w : IVec S4x1050 32) : IVec S4x1050x1 32 :=
  broadcastInDim S4x1050x1 ![0, 1] bcast_S4x1050_S4x1050x1_0_1 (select (cmpi .slt w (broadcastInDim S4x1050 ![] bcast_S_S4x1050 (constantI S_ 32 0#32)))
    (addi w (broadcastInDim S4x1050 ![] bcast_S_S4x1050 (constantI S_ 32 20#32))) w)

theorem start_apply (w : IVec S4x1050 32) (b : Fin 4) (r : Fin 1050) :
    start w (ix3 b r 0) = Scalar.select (IntOp.cmpi CmpIPredicate.slt (w (ix2 b r)) 0#32) (IntOp.addi (w (ix2 b r)) 20#32) (w (ix2 b r)) := by
  pointwise [start]
  all_goals rfl

theorem cls_taken (x : FVec Ideal S4x20 .f32) (w : IVec S4x1050 32) (b : Fin 4) (r : Fin 1050) {f : Fin 20 → EReal} {X : Fin 20} (h : Box.IsFirst f X (w (ix2 b r))) :
    Host.gather gather_S4x20_S4x1050x1_S4x1050_n_1_0_0_1_2_11 x (start w) (ix2 b r) = x (ix2 b X) :=
  (take_cls x (start w) b r).trans (congrArg (fun q => x (ix2 b q)) (take_word' h (start_apply w b r) _))

theorem loc_taken (x : FVec Ideal S4x20x4 .f32) (w : IVec S4x1050 32) (b : Fin 4) (r : Fin 1050) (k : Fin 4) {f : Fin 20 → EReal} {X : Fin 20} (h : Box.IsFirst f X (w (ix2 b r))) :
    Host.gather gather_S4x20x4_S4x1050x1_S4x1050x4_2_1_0_0_1_2_114 x (start w) (ix3 b r k) = x (ix3 b X k) :=
  (take_loc x (start w) b r k).trans (congrArg (fun q => x (ix3 b q k)) (take_word' h (start_apply w b r) _))

/-- The class taken at each box, before its cast. -/
theorem cls_pick (i : Fin 4200) :
    Host.gather gather_S4x20_S4x1050x1_S4x1050_n_1_0_0_1_2_11
      (shapeCast S4x20 (extractStridedSlice S4x20x1 ![0, 0, 4] (ar3 V0) slices_S4x20x5_S4x20x1_0_0_4) shapeCasts_S4x20x1_S4x20 : FVec Ideal S4x20 .f32)
      (start (r58 V0)) (ix2 (⟨i.val / 1050, by omega⟩ : Fin 4) (⟨i.val % 1050, by omega⟩ : Fin 1050)) = Box.pick (Spec.tgs (data V0) i) ((data V0).bx i) 4 := by
  obtain ⟨X, h⟩ := v58_first V0 i
  rw [Box.pick_eq _ _ 4 X _ h]
  refine (cls_taken _ _ _ _ h).trans ?_
  pointwise []
  all_goals rfl

theorem loc_pick (i : Fin 4200) (k : Fin 4) :
    Host.gather gather_S4x20x4_S4x1050x1_S4x1050x4_2_1_0_0_1_2_114
      (extractStridedSlice S4x20x4 ![0, 0, 0] (ar3 V0) slices_S4x20x5_S4x20x4_0_0_0 : FVec Ideal S4x20x4 .f32)
      (start (r58 V0)) (ix3 (⟨i.val / 1050, by omega⟩ : Fin 4) (⟨i.val % 1050, by omega⟩ : Fin 1050) k) = Box.pick (Spec.tgs (data V0) i) ((data V0).bx i) ⟨k.val, by omega⟩ := by
  obtain ⟨X, h⟩ := v58_first V0 i
  rw [Box.pick_eq _ _ _ X _ h]
  refine (loc_taken _ _ _ _ k h).trans ?_
  pointwise []
  all_goals rfl

abbrev r245 : IVec S4200x1 32 := res_main_v245 V0
abbrev r7 : IVec S4200x1x1 32 := res_main_call7_v5 V0
abbrev r255 : Vec Ideal S4200x4 .f32 := res_main_v255 V0
abbrev r237 : Vec Ideal S4200x21 .f32 := res_main_v237 V0
abbrev r6 : Vec Ideal S4200x21 .f32 := res_main_call6_v5 V0
abbrev r144 : Vec Ideal S4200x64 .f32 := res_main_v144 V0
abbrev r223 : Vec Ideal S4200x64 .f32 := res_main_v223 V0

/-- The label of a box as a word. -/
abbrev label (i : Fin 4200) : BitVec 32 := FloatOps.fptosi (F := Ideal) (φ := .f32) 32 (Box.pick (Spec.tgs (data V0) i) ((data V0).bx i) 4)

theorem v245_apply (i : Fin 4200) : r245 V0 (ix2 i 0) = label V0 i := by
  unfold label
  rw [← cls_pick]
  pointwise [res_main_v245]
  all_goals rfl

theorem call7_apply (i : Fin 4200) :
    r7 V0 (ix3 i 0 0) = Scalar.select (IntOp.cmpi CmpIPredicate.slt (label V0 i) 0#32) (IntOp.addi (label V0 i) 21#32) (label V0 i) := by
  rw [← v245_apply]
  pointwise [res_main_call7_v5]
  all_goals rfl

/-- The difference a box's location is scored by. -/
theorem v255_apply (i : Fin 4200) (k : Fin 4) :
    r255 V0 (ix2 i k) = Spec.heads (data V0) ((data V0).ft i) ⟨22 + k.val, by omega⟩ + (data V0).bx i ⟨1 + k.val, by omega⟩
      - Box.pick (Spec.tgs (data V0) i) ((data V0).bx i) ⟨k.val, by omega⟩ := by
  rw [Spec.heads_loc, ← loc_pick]
  have e : Spec.lin (Spec.mean (data V0) ((data V0).ft i)) (fun o => (data V0).wl o k) ((data V0).bl k)
      = (∑ o : Fin 64, r144 V0 (ix2 i o) * ar10 V0 (ix2 o k)) + ar11 V0 (ix1 k) :=
    congrArg (· + _) (Finset.sum_congr rfl fun o _ => by rw [show r144 V0 (ix2 i o) = _ from v144_apply V0 i o]; rfl)
  rw [e]
  pointwise [res_main_v255, res_main_v4, res_main_v1, res_main_v0]
  all_goals rfl

theorem v237_apply (i : Fin 4200) (k : Fin 21) :
    r237 V0 (ix2 i k) = Spec.heads (data V0) ((data V0).fs i) ⟨1 + k.val, by omega⟩ := by
  rw [Spec.heads_cls]
  have e : Spec.lin (Spec.mean (data V0) ((data V0).fs i)) (fun o => (data V0).wc o k) ((data V0).bc k)
      = (∑ o : Fin 64, r223 V0 (ix2 i o) * ar8 V0 (ix2 o k)) + ar9 V0 (ix1 k) :=
    congrArg (· + _) (Finset.sum_congr rfl fun o _ => by rw [show r223 V0 (ix2 i o) = _ from v223_apply V0 i o]; rfl)
  rw [e]
  pointwise [res_main_v237]
  all_goals rfl

/-- The class logits of a box. -/
abbrev logit (i : Fin 4200) (k : Fin 21) : EReal := Spec.heads (data V0) ((data V0).fs i) ⟨1 + k.val, by omega⟩

theorem top_read (X : S4200x21.Idx → EReal) (i : Fin 4200) :
    Finset.fold max (Ideal.ofBits FTy.f32 4286578688#32) X {i_1 | reducesTo_S4200x21_S4200_d1.drop i_1 = ix1 i} = Box.top fun k => X (ix2 i k) :=
  Shape.ReducesTo.fold_fiber_r2_a1 reducesTo_S4200x21_S4200_d1 _ max _ X

theorem call6_apply (i : Fin 4200) (k : Fin 21) :
    r6 V0 (ix2 i k) = logit V0 i k - Box.top (logit V0 i) := by
  have h : r6 V0 (ix2 i k) = r237 V0 (ix2 i k) - max (Ideal.ofBits FTy.f32 4286578688#32) (Box.top fun k => r237 V0 (ix2 i k)) := by
    pointwise [res_main_call6_v5]
    exact congrArg (fun q : EReal => r237 V0 (ix2 i k) - max (Ideal.ofBits FTy.f32 4286578688#32) q) (top_read (r237 V0) i)
  rw [h, v237_apply, Box.bot_bits, max_eq_right bot_le]
  exact congrArg (fun q => _ - Box.top q) (funext fun k => v237_apply V0 i k)

end Cert.ReferenceIdeal.Val

end
-- ==== Proof.Val.Finite.lean ====
module

public import proofs.«01_k».proof.Proof.Val.Spec

@[expose] public section

noncomputable section

namespace Cert.Box

open Idealize.ShloMosaic

/-! Finite numbers, and the two forms of the cross entropy. -/

/-- A number is finite. -/
def IsFin (x : EReal) : Prop := ∃ r : ℝ, x = (r : EReal)

theorem IsFin.zero : IsFin 0 := ⟨0, rfl⟩
theorem IsFin.coe (r : ℝ) : IsFin (r : EReal) := ⟨r, rfl⟩
theorem IsFin.add {x y : EReal} : IsFin x → IsFin y → IsFin (x + y) := by
  rintro ⟨r, rfl⟩ ⟨s, rfl⟩; exact ⟨r + s, (EReal.coe_add r s).symm⟩
theorem IsFin.mul {x y : EReal} : IsFin x → IsFin y → IsFin (x * y) := by
  rintro ⟨r, rfl⟩ ⟨s, rfl⟩; exact ⟨r * s, (EReal.coe_mul r s).symm⟩
theorem IsFin.max {x y : EReal} (hx : IsFin x) (hy : IsFin y) : IsFin (max x y) := by
  rcases max_choice x y with h | h <;> rw [h] <;> assumption
theorem IsFin.sum {n : ℕ} (f : Fin n → EReal) (h : ∀ k, IsFin (f k)) : IsFin (∑ k, f k) := by
  refine Finset.sum_induction f IsFin (fun _ _ => IsFin.add) IsFin.zero fun k _ => h k

theorem isFin_of_abs {x : EReal} (h : max x (-x) < ⊤) : IsFin x := by
  induction x using EReal.rec with
  | bot => simp at h
  | top => simp at h
  | coe r => exact ⟨r, rfl⟩

/-- `-((a - t) - L)` is `L + t - a` for finite `a` and `t`. -/
theorem flip_sub {a t : EReal} (L : EReal) (ha : IsFin a) (ht : IsFin t) : -(a - t - L) = L + t - a := by
  obtain ⟨a, rfl⟩ := ha
  obtain ⟨t, rfl⟩ := ht
  induction L using EReal.rec with
  | bot =>
    rw [← EReal.coe_sub, EReal.coe_sub_bot, EReal.neg_top, EReal.bot_add, EReal.bot_sub]
  | top =>
    rw [← EReal.coe_sub, sub_eq_add_neg _ (⊤ : EReal), EReal.neg_top, EReal.add_bot, EReal.neg_bot, EReal.top_add_coe, EReal.top_sub_coe]
  | coe L =>
    norm_cast
    ring

/-- The cross entropy at a label inside the classes, as a difference of logarithms. -/
theorem ce_eq (l : Fin 21 → EReal) (hl : ∀ k, IsFin (l k)) (c : EReal) (n : Fin 21)
    (hc : FloatOps.fptosi (F := Ideal) (φ := .f32) 32 c = BitVec.ofNat 32 n.val) :
    -((l n - top l) - Ideal.log (∑ k, Ideal.exp (l k - top l))) = ce l c := by
  have ht : IsFin (top l) := by
    obtain ⟨x, hx⟩ := exists_top l
    rw [← hx]; exact hl x
  rw [flip_sub _ (hl n) ht]
  unfold ce
  rw [hc]
  refine congrArg (fun z : EReal => Ideal.log (∑ k, Ideal.exp (l k - top l)) + top l - z) (Eq.symm ?_)
  refine (Finset.sum_eq_single n (fun y _ hy => ?_) fun hx => absurd (Finset.mem_univ n) hx).trans ?_
  · have : (BitVec.ofNat 32 y.val == BitVec.ofNat 32 n.val) = false := by
      rw [beq_eq_false_iff_ne]
      intro e
      have := congrArg BitVec.toNat e
      simp only [BitVec.toNat_ofNat] at this
      exact hy (Fin.ext (by omega))
    simp [IntOp.cmpi, this, Scalar.select]
  · simp [IntOp.cmpi, Scalar.select]

/-- A label between -1 and 21 is cast to a class. -/
theorem label_range (c : EReal) (h0 : ((-1 : ℝ) : EReal) < c) (h1 : c < ((21 : ℝ) : EReal)) :
    ∃ n : Fin 21, FloatOps.fptosi (F := Ideal) (φ := .f32) 32 c = BitVec.ofNat 32 n.val := by
  induction c using EReal.rec with
  | bot => simp at h0
  | top => simp at h1
  | coe r =>
    have h0' : -1 < r := EReal.coe_lt_coe_iff.mp h0
    have h1' : r < 21 := EReal.coe_lt_coe_iff.mp h1
    obtain ⟨z, hz⟩ : ∃ z, (if 0 ≤ r then ⌊r⌋ else ⌈r⌉) = z := ⟨_, rfl⟩
    have hf : 0 ≤ z ∧ z < 21 := by
      rw [← hz]
      split
      · next h => exact ⟨Int.floor_nonneg.mpr h, Int.floor_lt.mpr (by exact_mod_cast h1')⟩
      · next h =>
        have : ⌈r⌉ = 0 := Int.ceil_eq_iff.mpr ⟨by push_cast; linarith, by push_cast; linarith⟩
        omega
    obtain ⟨hf0, hf1⟩ := hf
    refine ⟨⟨z.toNat, by omega⟩, ?_⟩
    show BitVec.ofInt 32 (max (-(2 ^ (32 - 1) : ℕ) : ℤ) (min (((2 ^ (32 - 1) : ℕ) : ℤ) - 1) (if 0 ≤ r then ⌊r⌋ else ⌈r⌉))) = _
    rw [hz]
    rw [show max (-(2 ^ (32 - 1) : ℕ) : ℤ) (min (((2 ^ (32 - 1) : ℕ) : ℤ) - 1) z) = ((z.toNat : ℕ) : ℤ) from by norm_num; omega]
    rw [BitVec.ofInt_natCast]

/-- A mask is 0 or 1. -/
theorem mask_cases (T : Fin 20 → Fin 5 → EReal) (p : Fin 5 → EReal) : mask T p = 0 ∨ mask T p = 1 := by
  unfold mask
  generalize IntOp.andi _ _ = b
  have : b = 0#1 ∨ b = 1#1 := by revert b; decide
  rcases this with rfl | rfl
  · left; show (((BitVec.setWidth 32 0#1).toInt : ℝ) : EReal) = 0; simp
  · right; show (((BitVec.setWidth 32 1#1).toInt : ℝ) : EReal) = 1
    rw [show ((BitVec.setWidth 32 1#1).toInt : ℤ) = 1 from by decide]; simp

theorem sum_mask {n : ℕ} (f : Fin n → EReal) (q : EReal) (hq : q = 0 ∨ q = 1) : ∑ k, f k * q = (∑ k, f k) * q := by
  rcases hq with rfl | rfl
  · simp
  · simp

end Cert.Box

namespace Cert.Spec

open Idealize.ShloMosaic Cert.Box

variable (D : Data)

/-- What the cross entropy needs of the arguments. -/
structure Good : Prop where
  lab0 : ∀ b x, ((-1 : ℝ) : EReal) < D.tg b x 4
  lab1 : ∀ b x, D.tg b x 4 < ((21 : ℝ) : EReal)
  fs : ∀ i k Y X, IsFin (D.fs i k Y X)
  w : ∀ o k a b, IsFin (D.w o k a b)
  b : ∀ o, IsFin (D.b o)
  wc : ∀ o k, IsFin (D.wc o k)
  bc : ∀ k, IsFin (D.bc k)

variable {D}

theorem Good.logit (h : Good D) (i : Fin 4200) (k : Fin 21) : IsFin (heads D (D.fs i) ⟨1 + k.val, by omega⟩) := by
  rw [heads_cls]
  refine IsFin.add (IsFin.sum _ fun o => IsFin.mul ?_ (h.wc o k)) (h.bc k)
  refine IsFin.mul (IsFin.coe _) (IsFin.sum _ fun y => IsFin.sum _ fun x => ?_)
  exact IsFin.max (IsFin.add (IsFin.sum _ fun t => IsFin.sum _ fun c => IsFin.mul (h.fs _ _ _ _) (h.w _ _ _ _)) (h.b o)) IsFin.zero

theorem Good.label (h : Good D) (i : Fin 4200) :
    ∃ n : Fin 21, FloatOps.fptosi (F := Ideal) (φ := .f32) 32 (pick (tgs D i) (D.bx i) 4) = BitVec.ofNat 32 n.val := by
  obtain ⟨x, hx⟩ := first_isFirst (tgs D i) (D.bx i)
  rw [pick_eq _ _ 4 x _ hx]
  exact label_range _ (h.lab0 _ _) (h.lab1 _ _)

end Cert.Spec

end
-- ==== Proof.Val.RFinal.lean ====
module

public import proofs.«01_k».proof.Proof.Val.RTake
public import proofs.«01_k».proof.Proof.Val.Finite

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

variable (V0 : Valuation τ sig (Elt Ideal))

/-! The reference's two results as the problem's sums. -/

abbrev f81 : FVec Ideal S_ .f32 := res_main_v81 V0
abbrev f79 : FVec Ideal S4200 .f32 := res_main_v79 V0
abbrev f144 : FVec Ideal S4200x64 .f32 := res_main_v144 V0
abbrev f223 : FVec Ideal S4200x64 .f32 := res_main_v223 V0
abbrev f255 : FVec Ideal S4200x4 .f32 := res_main_v255 V0
abbrev f6 : FVec Ideal S4200x21 .f32 := res_main_call6_v5 V0
abbrev g6 : FVec Ideal S64x1 .f32 := V0 (Proc.devRef .tc main_arg6)
abbrev g7 : FVec Ideal S1 .f32 := V0 (Proc.devRef .tc main_arg7)
/-- The reference's first result. -/
def lossT : FVec Ideal S_ .f32 := addf (addf (mulf (constant S_ .f32 0x3F19999A#32) (Host.divf (Host.reduceAdd (mulf (select (cmpf .olt (Host.absf (f255 V0)) (broadcastInDim S4200x4 ![] bcast_S_S4200x4 (constant S_ .f32 0x3F800000#32))) (mulf (mulf (broadcastInDim S4200x4 ![] bcast_S_S4200x4 (constant S_ .f32 0x3F000000#32)) (f255 V0)) (f255 V0)) (subf (Host.absf (f255 V0)) (broadcastInDim S4200x4 ![] bcast_S_S4200x4 (constant S_ .f32 0x3F000000#32)))) (broadcastInDim S4200x4 ![0, 1] bcast_S4200x1_S4200x4_0_1 (broadcastInDim S4200x1 ![0] bcast_S4200_S4200x1_0 (f79 V0)))) (constant S_ .f32 0x00000000#32) reducesTo_S4200x4_S_d0_1 h_S_) (mulf (f81 V0) (constant S_ .f32 0x40800000#32)))) (mulf (constant S_ .f32 0x3F19999A#32) (Host.divf (Host.reduceAdd (mulf (Host.negf (shapeCast _ (select (Host.reduce IntOp.andi (andi (cmpi .sge (r7 V0) (broadcastInDim S4200x1x1 ![] bcast_S_S4200x1x1 (constantI S_ 32 0#32))) (cmpi .sle (r7 V0) (broadcastInDim S4200x1x1 ![0, 1, 2] bcast_S1x1x1_S4200x1x1_0_1_2 (broadcastInDim S1x1x1 ![2] bcast_S1_S1x1x1_2 (constantI S1 32 20#32))))) (constantI S_ 1 1#1) reducesTo_S4200x1x1_S4200x1_d2 h_S_) (Host.gather gather_S4200x21_S4200x1x1_S4200x1_n_1_0_0_1_2_11 (subf (f6 V0) (broadcastInDim S4200x21 ![0, 1] bcast_S4200x1_S4200x21_0_1 (Host.log (broadcastInDim S4200x1 ![0] bcast_S4200_S4200x1_0 (Host.reduceAdd (Host.exp (f6 V0)) (constant S_ .f32 0x00000000#32) reducesTo_S4200x21_S4200_d1 h_S_))))) (r7 V0)) (broadcastInDim S4200x1 ![] bcast_S_S4200x1 (constant S_ .f32 0x7FC00000#32))) shapeCasts_S4200x1_S4200)) (f79 V0)) (constant S_ .f32 0x00000000#32) reducesTo_S4200_S_d0 h_S_) (f81 V0)))) (mulf (constant S_ .f32 0x3FE66666#32) (addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (f144 V0) (g6 V0)) (broadcastInDim S4200x1 ![0, 1] bcast_S1x1_S4200x1_0_1 (broadcastInDim S1x1 ![1] bcast_S1_S1x1_1 (g7 V0)))))))) shapeCasts_S4200x1_S4200))))) (f79 V0)) (constant S_ .f32 0x00000000#32) reducesTo_S4200_S_d0 h_S_) (f81 V0))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (f223 V0) (g6 V0)) (broadcastInDim S4200x1 ![0, 1] bcast_S1x1_S4200x1_0_1 (broadcastInDim S1x1 ![1] bcast_S1_S1x1_1 (g7 V0)))))))) shapeCasts_S4200x1_S4200)))))) (f79 V0)) (constant S_ .f32 0x00000000#32) reducesTo_S4200_S_d0 h_S_) (f81 V0)))))
/-- The reference's second result. -/
def disT : FVec Ideal S_ .f32 := addf (mulf (constant S_ .f32 0x3F000000#32) (Host.divf (Host.reduceAdd (mulf (Host.negf (Host.log (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (f144 V0) (g6 V0)) (broadcastInDim S4200x1 ![0, 1] bcast_S1x1_S4200x1_0_1 (broadcastInDim S1x1 ![1] bcast_S1_S1x1_1 (g7 V0)))))))) shapeCasts_S4200x1_S4200))))) (f79 V0)) (constant S_ .f32 0x00000000#32) reducesTo_S4200_S_d0 h_S_) (f81 V0))) (mulf (constant S_ .f32 0x3F000000#32) (Host.divf (Host.reduceAdd (mulf (Host.negf (Host.log (subf (broadcastInDim S4200 ![] bcast_S_S4200 (constant S_ .f32 0x3F800000#32)) (minimumf (broadcastInDim S4200 ![] bcast_S_S4200 (id (constant S_ .f32 0x3F7FFFFE#32))) (maximumf (broadcastInDim S4200 ![] bcast_S_S4200 (id (constant S_ .f32 0x33D6BF95#32))) (shapeCast _ (Host.divf (broadcastInDim S4200x1 ![] bcast_S_S4200x1 (constant S_ .f32 0x3F800000#32)) (addf (broadcastInDim S4200x1 ![] bcast_S_S4200x1 (constant S_ .f32 0x3F800000#32)) (Host.exp (Host.negf (addf (Host.dotGeneral dot_S4200x64_S64x1_S4200x1_1_0_0_1_n_n none (f223 V0) (g6 V0)) (broadcastInDim S4200x1 ![0, 1] bcast_S1x1_S4200x1_0_1 (broadcastInDim S1x1 ![1] bcast_S1_S1x1_1 (g7 V0)))))))) shapeCasts_S4200x1_S4200)))))) (f79 V0)) (constant S_ .f32 0x00000000#32) reducesTo_S4200_S_d0 h_S_) (f81 V0)))

theorem hd_ft (i : Fin 4200) : (∑ o : Fin 64, f144 V0 (ix2 i o) * g6 V0 (ix2 o 0)) + g7 V0 (ix1 0) = Spec.heads (data V0) ((data V0).ft i) 0 := by
  rw [Spec.heads_real]
  exact congrArg (· + _) (Finset.sum_congr rfl fun o _ => by rw [show f144 V0 (ix2 i o) = _ from v144_apply V0 i o]; rfl)

theorem hd_fs (i : Fin 4200) : (∑ o : Fin 64, f223 V0 (ix2 i o) * g6 V0 (ix2 o 0)) + g7 V0 (ix1 0) = Spec.heads (data V0) ((data V0).fs i) 0 := by
  rw [Spec.heads_real]
  exact congrArg (· + _) (Finset.sum_congr rfl fun o _ => by rw [show f223 V0 (ix2 i o) = _ from v223_apply V0 i o]; rfl)

/-- A head's value as a probability, kept away from 0 and 1. -/
def clip (h : EReal) : EReal := min (id (constant (F := Ideal) S_ .f32 1065353214#32) ix0 : EReal) (max (id (constant (F := Ideal) S_ .f32 869711765#32) ix0 : EReal) (Ideal.div 1 (1 + Ideal.exp (-h))))

theorem clip_eq (h : EReal) : clip h = Box.prob h := rfl

/-- The discriminator sum over the targets' features, as the reference adds it. -/
def dtR : EReal := ∑ i : Fin 4200, -Ideal.log (clip ((∑ o : Fin 64, f144 V0 (ix2 i o) * g6 V0 (ix2 o 0)) + g7 V0 (ix1 0))) * f79 V0 (ix1 i)

/-- The discriminator sum over the sources' features, as the reference adds it. -/
def dsR : EReal := ∑ i : Fin 4200, -Ideal.log (1 - clip ((∑ o : Fin 64, f223 V0 (ix2 i o) * g6 V0 (ix2 o 0)) + g7 V0 (ix1 0))) * f79 V0 (ix1 i)

theorem dtR_eq : dtR V0 = Spec.total (data V0) 2 := by
  unfold dtR Spec.total
  refine Finset.sum_congr rfl fun i _ => ?_
  rw [hd_ft, clip_eq, show f79 V0 (ix1 i) = _ from v79_apply V0 i, ← zero_sub]; rfl

theorem dsR_eq : dsR V0 = Spec.total (data V0) 3 := by
  unfold dsR Spec.total
  refine Finset.sum_congr rfl fun i _ => ?_
  rw [hd_fs, clip_eq, show f79 V0 (ix1 i) = _ from v79_apply V0 i, ← zero_sub]; rfl

/-- The discriminator's loss, as the reference adds it. -/
def disR : EReal := Ideal.ofBits .f32 1056964608#32 * Ideal.div (dtR V0) (f81 V0 ix0) + Ideal.ofBits .f32 1056964608#32 * Ideal.div (dsR V0) (f81 V0 ix0)

theorem disR_eq : disR V0 = Spec.dis (data V0) := by
  unfold disR Spec.dis
  rw [show f81 V0 ix0 = _ from v81_apply V0, dtR_eq, dsR_eq]

theorem dis_read : disT V0 ix0 = disR V0 := by
  unfold disR dtR dsR clip
  pointwise [disT]
  all_goals rfl

theorem dis_apply : disT V0 ix0 = Spec.dis (data V0) := (dis_read V0).trans (disR_eq V0)

/-- The location sum, as the reference adds it. -/
def locR : EReal := ∑ i : Fin 4200, ∑ k : Fin 4,
  (if FloatOps.absf (F := Ideal) (φ := .f32) (f255 V0 (ix2 i k)) < 1 then Ideal.ofBits .f32 1056964608#32 * f255 V0 (ix2 i k) * f255 V0 (ix2 i k)
    else FloatOps.absf (F := Ideal) (φ := .f32) (f255 V0 (ix2 i k)) - Ideal.ofBits .f32 1056964608#32 : EReal) * f79 V0 (ix1 i)

theorem locR_eq : locR V0 = Spec.total (data V0) 1 := by
  unfold locR Spec.total
  refine Finset.sum_congr rfl fun i _ => ?_
  rw [show f79 V0 (ix1 i) = _ from v79_apply V0 i, Box.sum_mask _ _ (Box.mask_cases _ _)]
  refine congrArg (· * Box.mask (Spec.tgs (data V0) i) ((data V0).bx i)) (Finset.sum_congr rfl fun k _ => ?_)
  rw [show f255 V0 (ix2 i k) = _ from v255_apply V0 i k]
  fin_cases k <;> rfl

/-- The logits less the largest, less the logarithm of their sum of exponentials. -/
def logp : FVec Ideal S4200x21 .f32 := subf (f6 V0) (broadcastInDim S4200x21 ![0, 1] bcast_S4200x1_S4200x21_0_1 (Host.log (broadcastInDim S4200x1 ![0] bcast_S4200_S4200x1_0 (Host.reduceAdd (Host.exp (f6 V0)) (constant S_ .f32 0x00000000#32) reducesTo_S4200x21_S4200_d1 h_S_))))

theorem logp_apply (i : Fin 4200) (k : Fin 21) : logp V0 (ix2 i k) = f6 V0 (ix2 i k) - Ideal.log (∑ j : Fin 21, Ideal.exp (f6 V0 (ix2 i j))) := by
  pointwise [logp]
  all_goals rfl

/-- The cross entropy of a box, as the reference takes it. -/
def clsR (i : Fin 4200) : EReal := -Scalar.select (Finset.fold IntOp.andi 1#1 (fun x : Fin 1 => IntOp.andi (IntOp.cmpi .sge (r7 V0 (ix3 i 0 x)) 0#32) (IntOp.cmpi .sle (r7 V0 (ix3 i 0 x)) 20#32)) Finset.univ)
  (Host.gather gather_S4200x21_S4200x1x1_S4200x1_n_1_0_0_1_2_11 (logp V0) (r7 V0) (ix2 i 0)) (Ideal.ofBits .f32 2143289344#32)

theorem loss_read : lossT V0 ix0 = Ideal.ofBits .f32 1058642330#32 * Ideal.div (locR V0) (f81 V0 ix0 * Ideal.ofBits .f32 1082130432#32)
    + Ideal.ofBits .f32 1058642330#32 * Ideal.div (∑ i : Fin 4200, clsR V0 i * f79 V0 (ix1 i)) (f81 V0 ix0)
    + Ideal.ofBits .f32 1072064102#32 * disR V0 := by
  unfold locR clsR disR dtR dsR clip logp
  pointwise [lossT]
  all_goals rfl

theorem class_word (n : Fin 21) : Scalar.select (IntOp.cmpi CmpIPredicate.slt (BitVec.ofNat 32 n.val) 0#32) (IntOp.addi (BitVec.ofNat 32 n.val) 21#32) (BitVec.ofNat 32 n.val) = BitVec.ofNat 32 n.val := by
  revert n; decide

theorem class_in (n : Fin 21) : IntOp.andi (IntOp.cmpi .sge (BitVec.ofNat 32 n.val) 0#32) (IntOp.cmpi .sle (BitVec.ofNat 32 n.val) 20#32) = 1#1 := by
  revert n; decide

theorem class_ix (n : Fin 21) (w : BitVec 32) (hw : w = BitVec.ofNat 32 n.val) (hm : min w.toInt.toNat 20 < 21) : (⟨min w.toInt.toNat 20, hm⟩ : Fin 21) = n := by
  subst hw; revert hm; revert n; decide

theorem cls_apply (hg : Spec.Good (data V0)) (i : Fin 4200) :
    clsR V0 i = Box.ce (fun k => Spec.heads (data V0) ((data V0).fs i) ⟨1 + k.val, by omega⟩) (Box.pick (Spec.tgs (data V0) i) ((data V0).bx i) 4) := by
  obtain ⟨n, hn⟩ := hg.label i
  have h7 : r7 V0 (ix3 i 0 0) = BitVec.ofNat 32 n.val := by
    rw [call7_apply, show label V0 i = _ from hn, class_word]
  have hf : Finset.fold IntOp.andi 1#1 (fun x : Fin 1 => IntOp.andi (IntOp.cmpi .sge (r7 V0 (ix3 i 0 x)) 0#32) (IntOp.cmpi .sle (r7 V0 (ix3 i 0 x)) 20#32)) Finset.univ = 1#1 := by
    rw [show (Finset.univ : Finset (Fin 1)) = {0} from rfl, Finset.fold_singleton, h7, class_in]; rfl
  unfold clsR
  rw [hf, take_row, class_ix n _ h7, logp_apply]
  refine Eq.trans ?_ (Box.ce_eq _ (hg.logit i) _ n hn)
  rw [show f6 V0 (ix2 i n) = _ from call6_apply V0 i n]
  refine congrArg (fun q : EReal => -(_ - Ideal.log q)) (Finset.sum_congr rfl fun j _ => ?_)
  rw [show f6 V0 (ix2 i j) = _ from call6_apply V0 i j]

theorem loss_apply (hg : Spec.Good (data V0)) : lossT V0 ix0 = Spec.loss (data V0) := by
  have e : (∑ i : Fin 4200, clsR V0 i * f79 V0 (ix1 i)) = Spec.total (data V0) 0 := by
    unfold Spec.total
    refine Finset.sum_congr rfl fun i _ => ?_
    rw [cls_apply V0 hg, show f79 V0 (ix1 i) = _ from v79_apply V0 i]
    rfl
  rw [loss_read, disR_eq, locR_eq, show f81 V0 ix0 = _ from v81_apply V0, e]
  rfl

end Cert.ReferenceIdeal.Val

end
-- ==== Proof.Val.RRun.lean ====
module

public import proofs.«01_k».proof.Proof.RI.Run
public import proofs.«01_k».proof.Proof.Val.RFinal

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.ShloMosaic.StableHlo

/-! The reference's run, its results under their names. -/

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v294) = lossT (launchContents m c)
      ∧ r.2.mem ((c.tc : Thread nD τ).loc main_v289) = disT (launchContents m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => ⟨⟨(h c).1.trans rfl, (h c).2.1.trans rfl⟩, (h c).2.2⟩) (Value.run (F := Ideal) m ρ)

end Cert.ReferenceIdeal.Val

end
-- ==== Proof.Val.Pre.lean ====
module

public import proofs.«01_k».proof.Pre_in_range
public import proofs.«01_k».proof.Proof.Val.Finite
public import Idealize.ShloMosaic.Lib.Pointwise
public import Idealize.ShloMosaic.Lib.ReduceAll

@[expose] public section

set_option maxRecDepth 16384

noncomputable section

namespace Cert.Pre_in_range

open Idealize.ShloMosaic Cert.Box

/-! What the precondition says of each element. -/

instance : Subsingleton S_.Idx := ⟨fun a b => funext fun d => d.elim0⟩

theorem inf_bits : Ideal.ofBits .f32 0x7F800000#32 = ⊤ := by
  simp [Ideal.ofBits, Ideal.ieee]

theorem bits21 : Ideal.ofBits .f32 0x41A80000#32 = ((21 : ℝ) : EReal) := by
  simp [Ideal.ofBits, Ideal.ieee]
  rw [← EReal.coe_mul]; norm_num

theorem bits_neg_one : Ideal.ofBits .f32 0xBF800000#32 = ((-1 : ℝ) : EReal) := by
  simp [Ideal.ofBits, Ideal.ieee]
  rw [← EReal.coe_mul]; norm_num

theorem and_split {a b : BitVec 1} (h : IntOp.andi a b = 1#1) : a = 1#1 ∧ b = 1#1 := by
  revert a b; decide

theorem of_lt {x y : EReal} (h : FloatOps.cmpf (F := Ideal) (φ := .f32) .olt x y = 1#1) : x < y := by
  have h' : BitVec.ofBool (decide (x < y)) = 1#1 := h
  by_contra hn
  rw [decide_eq_false hn] at h'
  exact absurd h' (by decide)

theorem of_gt {x y : EReal} (h : FloatOps.cmpf (F := Ideal) (φ := .f32) .ogt x y = 1#1) : y < x := by
  have h' : BitVec.ofBool (decide (y < x)) = 1#1 := h
  by_contra hn
  rw [decide_eq_false hn] at h'
  exact absurd h' (by decide)

/-- An array every element of which is below infinity in absolute value is finite. -/
theorem fin_of {s : Shape} (axes : List (Fin s.rank)) (x : FVec Ideal s .f32) (hb : S_.BroadcastsInDim s (![] : Fin 0 → Fin s.rank)) (hr : s.ReducesTo axes S_) (hu : 0 < S_.numel)
    (j : S_.Idx) (h : Host.reduce IntOp.andi (cmpf .olt (Host.absf x) (broadcastInDim s ![] hb (constant S_ .f32 0x7F800000#32))) (constantI S_ 1 1#1) hr hu j = 1#1) (i : s.Idx) :
    IsFin (x i) := by
  have h1 := Host.reduce_andi_all _ _ hr hu j h i
  have h2 : FloatOps.absf (F := Ideal) (φ := .f32) (x i) < Ideal.ofBits .f32 0x7F800000#32 := of_lt h1
  rw [inf_bits, Ideal.absf_def] at h2
  exact isFin_of_abs h2

variable [Facts]
open Facts

theorem facts_of (a0 a1 : FVec Ideal S4x21x50x64x7x7 .f32) (a2 : FVec Ideal S4x21x50x5 .f32) (a3 : FVec Ideal S4x20x5 .f32) (a4 : FVec Ideal S64x64x3x3 .f32) (a5 : FVec Ideal S64 .f32)
    (a6 : FVec Ideal S64x1 .f32) (a7 : FVec Ideal S1 .f32) (a8 : FVec Ideal S64x21 .f32) (a9 : FVec Ideal S21 .f32) (a10 : FVec Ideal S64x4 .f32) (a11 : FVec Ideal S4 .f32)
    (h : fn (F := Ideal) a0 a1 a2 a3 a4 a5 a6 a7 a8 a9 a10 a11 = fun _ => 1#1) :
    (∀ b x, ((-1 : ℝ) : EReal) < a3 (ix3 b x (4 : Fin 5)) ∧ a3 (ix3 b x (4 : Fin 5)) < ((21 : ℝ) : EReal)) ∧ (∀ i, IsFin (a1 i)) ∧ (∀ i, IsFin (a4 i)) ∧ (∀ i, IsFin (a5 i)) ∧ (∀ i, IsFin (a8 i)) ∧ ∀ i, IsFin (a9 i) := by
  have h0 := congrFun h ix0
  unfold fn fn_part1 at h0
  obtain ⟨h0, h9⟩ := and_split h0
  obtain ⟨h0, h8⟩ := and_split h0
  obtain ⟨h0, h5⟩ := and_split h0
  obtain ⟨h0, h4⟩ := and_split h0
  obtain ⟨h3, h1⟩ := and_split h0
  refine ⟨fun b x => ?_, fin_of _ _ _ _ _ ix0 h1, fin_of _ _ _ _ _ ix0 h4, fin_of _ _ _ _ _ ix0 h5, fin_of _ _ _ _ _ ix0 h8, fin_of _ _ _ _ _ ix0 h9⟩
  have e := Host.reduce_andi_all _ _ _ _ _ h3 (ix2 b x)
  obtain ⟨e0, e1⟩ := and_split e
  have r : (shapeCast S4x20 (extractStridedSlice S4x20x1 ![0, 0, 4] a3 slices_S4x20x5_S4x20x1_0_0_4) shapeCasts_S4x20x1_S4x20 : FVec Ideal S4x20 .f32) (ix2 b x) = a3 (ix3 b x (4 : Fin 5)) := by
    pointwise []
    all_goals rfl
  have g0 := of_gt e0
  have g1 := of_lt e1
  rw [r] at g0 g1
  constructor
  · refine lt_of_eq_of_lt ?_ g0
    exact bits_neg_one.symm
  · refine lt_of_lt_of_eq g1 ?_
    exact bits21

end Cert.Pre_in_range

end
-- ==== Proof.Val.HostA.lean ====
module

public import proofs.«01_k».proof.Proof.Val.Feat

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ)

/-! The two feature maps as the second call receives them. -/

theorem v5_apply (c : Dev nD) (s : Fin 64) (i : Fin 4200) (k : Fin 64) :
    (V7 m c main_v5 : Vec Ideal S64x4200x64 .bf16) (ix3 s i k) = feat (ar0 m c) i k (s.val / 8 + 1) (s.val % 8 + 1) := by
  rw [V7_of m c main_v5 (by decide), V6_of m c main_v5 (by decide), V5_of m c main_v5 (by decide), V4_of m c main_v5 (by decide)]
  unfold V3
  after_reads_at
  refine Eq.trans (dite_congr rfl (fun _ => rfl) fun _ => zero_word) (feat_read (ar0 m c) i k s)

theorem v11_apply (c : Dev nD) (s : Fin 64) (i : Fin 4200) (k : Fin 64) :
    (V7 m c main_v11 : Vec Ideal S64x4200x64 .bf16) (ix3 s i k) = feat (ar1 m c) i k (s.val / 8 + 1) (s.val % 8 + 1) := by
  rw [V7_of m c main_v11 (by decide), V6_of m c main_v11 (by decide)]
  unfold V5
  after_reads_at
  refine Eq.trans (dite_congr rfl (fun _ => rfl) fun _ => zero_word) (feat_read (ar1 m c) i k s)

end Cert.KernelIdeal.Val

end
-- ==== Proof.Val.HostB.lean ====
module

public import proofs.«01_k».proof.Proof.Val.Feat

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ)

/-! The weights of the heads as the second call receives them. -/

theorem v17_apply (c : Dev nD) (o : Fin 64) (j : Fin 26) :
    (V7 m c main_v17 : Vec Ideal S64x26 .f32) (ix2 o j) = wAll m c o j := by
  rw [V7_of m c main_v17 (by decide), V6_of m c main_v17 (by decide)]
  unfold V5
  after_reads_at
  rfl

theorem v19_apply (c : Dev nD) (j : Fin 26) :
    (V7 m c main_v19 : Vec Ideal S1x26 .f32) (ix2 0 j) = bAll m c j := by
  rw [V7_of m c main_v19 (by decide), V6_of m c main_v19 (by decide)]
  unfold V5
  after_reads_at
  rfl

end Cert.KernelIdeal.Val

end
-- ==== Proof.Val.HostC.lean ====
module

public import proofs.«01_k».proof.Proof.Val.Feat

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ)

/-! The pooling matrix. -/

theorem bit_and (a b : BitVec 1) : IntOp.andi a b = 1#1 ↔ a = 1#1 ∧ b = 1#1 := by
  revert a b; decide

theorem word_eq (a b : ℕ) (ha : a < 2 ^ 31) (hb : b < 2 ^ 31) :
    IntOp.cmpi CmpIPredicate.eq (BitVec.ofNat 32 a) (BitVec.ofNat 32 b) = 1#1 ↔ a = b := by
  have : IntOp.cmpi CmpIPredicate.eq (BitVec.ofNat 32 a) (BitVec.ofNat 32 b) = BitVec.ofBool (BitVec.ofNat 32 a == BitVec.ofNat 32 b) := rfl
  rw [this]
  constructor
  · intro h
    have e : BitVec.ofNat 32 a = BitVec.ofNat 32 b := by
      by_contra hne
      rw [beq_eq_false_iff_ne.mpr hne] at h
      exact absurd h (by decide)
    have := congrArg BitVec.toNat e
    simp only [BitVec.toNat_ofNat] at this
    omega
  · rintro rfl
    rw [beq_self_eq_true]; rfl

theorem word_lt (a : ℕ) (ha : a < 2 ^ 31) : IntOp.cmpi CmpIPredicate.slt (BitVec.ofNat 32 a) 7#32 = 1#1 ↔ a < 7 := by
  have e : IntOp.cmpi CmpIPredicate.slt (BitVec.ofNat 32 a) 7#32 = BitVec.ofBool ((BitVec.ofNat 32 a).slt 7#32) := rfl
  have h7 : (7#32 : BitVec 32).toInt = 7 := by decide
  have ht : (BitVec.ofNat 32 a).toInt = (a : ℤ) := by
    rw [BitVec.toInt_eq_toNat_cond, BitVec.toNat_ofNat, Nat.mod_eq_of_lt (by omega), if_pos (by omega)]
  rw [e]
  constructor
  · intro h
    have : (BitVec.ofNat 32 a).slt 7#32 = true := by
      by_contra hne
      rw [Bool.not_eq_true] at hne
      rw [hne] at h
      exact absurd h (by decide)
    have := BitVec.slt_iff_toInt_lt.mp this
    omega
  · intro h
    rw [BitVec.slt_iff_toInt_lt.mpr (by omega)]; rfl

theorem isPool (c : Dev nD) : IsPool (V7 m c main_v35 : Vec Ideal S112x6272 .bf16) := by
  intro r q
  unfold V7
  after_reads_at
  have hc : (IntOp.andi (IntOp.andi (IntOp.cmpi CmpIPredicate.eq (BitVec.ofNat 32 (r.val / 56)) (BitVec.ofNat 32 (q.val / 3136)))
      (IntOp.cmpi CmpIPredicate.eq (BitVec.ofNat 32 (r.val % 56)) (BitVec.ofNat 32 (q.val % 56))))
      (IntOp.cmpi CmpIPredicate.slt (BitVec.ofNat 32 (q.val / 56 % 8)) 7#32)) = 1#1 ↔
      (q.val / 3136 = r.val / 56 ∧ q.val % 56 = r.val % 56 ∧ q.val % 448 / 56 < 7) := by
    rw [bit_and, bit_and, word_eq _ _ (by omega) (by omega), word_eq _ _ (by omega) (by omega), word_lt _ (by omega)]
    omega
  unfold Scalar.select
  by_cases h : (q.val / 3136 = r.val / 56 ∧ q.val % 56 = r.val % 56 ∧ q.val % 448 / 56 < 7)
  · rw [if_pos h]; exact if_pos (hc.mpr h)
  · rw [if_neg h]; exact if_neg (fun e => h (hc.mp e))

end Cert.KernelIdeal.Val

end
-- ==== Proof.Val.KFold.lean ====
module

public import proofs.«01_k».proof.Proof.Val.HostA
public import proofs.«01_k».proof.Proof.Val.HostB
public import proofs.«01_k».proof.Proof.Val.HostC

@[expose] public section

set_option maxRecDepth 16384

noncomputable section

namespace Cert.KernelIdeal.Val

open Cert.KernelIdeal Cert.KernelIdeal.Gen
open Cert.KernelIdeal.R1
open Idealize.ShloMosaic Idealize.ShloMosaic.TcCoe

variable (m : Dev nD → Valuation τ sig (Elt Ideal)) (c : Dev nD)

/-! The second call's accumulated losses as one sum over the boxes, over the arrays it reads. -/

abbrev a0 : Vec Ideal S64x4200x64 .bf16 := m c (Proc.devRef .tc (Pipeline.arrRef spec1 0))
abbrev a1 : Vec Ideal S64x4200x64 .bf16 := m c (Proc.devRef .tc (Pipeline.arrRef spec1 1))
abbrev a2 : Vec Ideal S4200x16 .f32 := m c (Proc.devRef .tc (Pipeline.arrRef spec1 2))
abbrev a3 : Vec Ideal S576x64 .bf16 := m c (Proc.devRef .tc (Pipeline.arrRef spec1 3))
abbrev a4 : Vec Ideal S1x64 .f32 := m c (Proc.devRef .tc (Pipeline.arrRef spec1 4))
abbrev a5 : Vec Ideal S64x26 .f32 := m c (Proc.devRef .tc (Pipeline.arrRef spec1 5))
abbrev a6 : Vec Ideal S1x26 .f32 := m c (Proc.devRef .tc (Pipeline.arrRef spec1 6))
abbrev a7 : Vec Ideal S112x6272 .bf16 := m c (Proc.devRef .tc (Pipeline.arrRef spec1 7))

/-- Loss `j` of box `i`, from padded feature maps `F` and `G`. -/
def lossAt (F G : Fin 4200 → Fin 64 → ℕ → ℕ → EReal) (i : Fin 4200) (j : Fin 4) : EReal :=
  Box.part (headAt (F i) (a3 m c) (a4 m c) (a5 m c) (a6 m c)) (headAt (G i) (a3 m c) (a4 m c) (a5 m c) (a6 m c)) (fun k => a2 m c (ix2 i k)) j

/-- The same with the box's number as a natural number, nothing beyond the last. -/
def lossN (F G : Fin 4200 → Fin 64 → ℕ → ℕ → EReal) (j : Fin 4) (i : ℕ) : EReal :=
  if h : i < 4200 then lossAt m c F G ⟨i, h⟩ j else 0

theorem padded_block (x : Vec Ideal S64x56x64 .bf16) (A : Vec Ideal S64x4200x64 .bf16) (F : Fin 4200 → Fin 64 → ℕ → ℕ → EReal) (t : ℕ) (ht : t < 75)
    (hx : ∀ (s : Fin 64) (n : Fin 56) (k : Fin 64), x (ix3 s n k) = A (ix3 s ⟨56 * t + n.val, by omega⟩ k))
    (hA : ∀ (s : Fin 64) (i : Fin 4200) (k : Fin 64), A (ix3 s i k) = F i k (s.val / 8 + 1) (s.val % 8 + 1))
    (h0 : ∀ i k X, F i k 0 X = 0) (h1 : ∀ i k Y, F i k Y 0 = 0) (h2 : ∀ i k Y, F i k Y 8 = 0) :
    Padded x fun n => F ⟨56 * t + n.val, by omega⟩ where
  read s n k := (hx s n k).trans (hA s _ k)
  top n k X := h0 _ k X
  left n k Y := h1 _ k Y
  right n k Y := h2 _ k Y

section
variable {m c} {F G : Fin 4200 → Fin 64 → ℕ → ℕ → EReal}
  (hF : ∀ (s : Fin 64) (i : Fin 4200) (k : Fin 64), a0 m c (ix3 s i k) = F i k (s.val / 8 + 1) (s.val % 8 + 1))
  (hG : ∀ (s : Fin 64) (i : Fin 4200) (k : Fin 64), a1 m c (ix3 s i k) = G i k (s.val / 8 + 1) (s.val % 8 + 1))
  (f0 : ∀ i k X, F i k 0 X = 0) (f1 : ∀ i k Y, F i k Y 0 = 0) (f2 : ∀ i k Y, F i k Y 8 = 0)
  (g0 : ∀ i k X, G i k 0 X = 0) (g1 : ∀ i k Y, G i k Y 0 = 0) (g2 : ∀ i k Y, G i k Y 8 = 0)
  (hp : IsPool (a7 m c))
include hF hG f0 f1 f2 g0 g1 g2 hp

/-- One point adds its fifty-six boxes. -/
theorem stepAt_apply (t : Fin cfg1.N) (a : Vec Ideal S1x4 .f32) (j : Fin 4) :
    stepAt m c t a (ix2 0 j) = a (ix2 0 j) + ∑ n : Fin 56, lossN m c F G j (56 * t.val + n.val) := by
  have ht : t.val < 75 := lt_of_lt_of_eq t.isLt N_1
  have hX := padded_block (iblk m c 0 t) (a0 m c) F t.val ht (fun s n k => blk0_apply m c t s n k _ rfl) hF f0 f1 f2
  have hY := padded_block (iblk m c 1 t) (a1 m c) G t.val ht (fun s n k => blk1_apply m c t s n k _ rfl) hG g0 g1 g2
  have h7 : IsPool (iblk m c 7 t) := by rw [blk7]; exact hp
  refine (stepK_apply hX hY (iblk m c 3 t) (iblk m c 4 t) h7 (iblk m c 5 t) (iblk m c 6 t) (iblk m c 2 t) a j).trans ?_
  rw [blk3, blk4, blk5, blk6]
  refine congrArg (a (ix2 0 j) + ·) (Finset.sum_congr rfl fun n _ => ?_)
  have hi : 56 * t.val + n.val < 4200 := by omega
  rw [lossN, dif_pos hi, lossAt]
  have e : (fun k => (iblk m c 2 t : Vec Ideal S56x16 .f32) (ix2 n k)) = fun k => a2 m c (ix2 (⟨56 * t.val + n.val, hi⟩ : Fin 4200) k) :=
    funext fun k => blk2_apply m c t n k _ rfl
  rw [e]

theorem accAt_apply (j : Fin 4) : ∀ (n : ℕ) (h : n < cfg1.N),
    accAt m c n h (ix2 0 j) = ∑ t ∈ Finset.range (n + 1), ∑ r : Fin 56, lossN m c F G j (56 * t + r.val)
  | 0, h => by
    rw [accAt, stepAt_apply hF hG f0 f1 f2 g0 g1 g2 hp, Finset.sum_range_one]
    exact zero_add _
  | n + 1, h => by
    rw [accAt, stepAt_apply hF hG f0 f1 f2 g0 g1 g2 hp, Finset.sum_range_succ, accAt_apply j n]

theorem acc_total (j : Fin 4) : accAt m c last1.val last1.isLt (ix2 0 j) = ∑ i : Fin 4200, lossAt m c F G i j := by
  rw [accAt_apply hF hG f0 f1 f2 g0 g1 g2 hp, sum_rows 75 56 4200 rfl]
  show ∑ t ∈ Finset.range 75, _ = _
  rw [Finset.sum_range]
  refine Finset.sum_congr rfl fun t _ => Finset.sum_congr rfl fun r _ => ?_
  rw [lossN, dif_pos]

end

end Cert.KernelIdeal.Val

end
-- ==== Proof.Val.KVal.lean ====
module

public import proofs.«01_k».proof.Proof.Val.KFold
public import proofs.«01_k».proof.Proof.Val.Spec

@[expose] public section

set_option maxRecDepth 16384

noncomputable section

namespace Cert.KernelIdeal.Val

open Cert.KernelIdeal Cert.KernelIdeal.Gen Cert.KernelIdeal.R1
open Idealize.ShloMosaic Idealize.ShloMosaic.TcCoe

variable (m : (ℓ : Loc nD τ sig) → Buf (Elt Ideal) ℓ) (c : Dev nD)

/-! What the whole kernel leaves in its two results. -/

/-- The kernel's arguments. -/
def data : Spec.Data where
  ft := feat (ar0 m c)
  fs := feat (ar1 m c)
  tg b x k := ar3 m c (ix3 b x k)
  bx i k := ar2 m c (ix4 ⟨i.val / 1050, by omega⟩ ⟨i.val % 1050 / 50, by omega⟩ ⟨i.val % 1050 % 50, by omega⟩ k)
  w o k a b := ar4 m c (ix4 o k a b)
  b o := ar5 m c (ix1 o)
  wd o := ar6 m c (ix2 o 0)
  bd := ar7 m c (ix1 0)
  wc o k := ar8 m c (ix2 o k)
  bc k := ar9 m c (ix1 k)
  wl o k := ar10 m c (ix2 o k)
  bl k := ar11 m c (ix1 k)

theorem wAll_eq (o : Fin 64) (j : Fin 26) : wAll m c o j = Spec.wAll (data m c) o j := by
  unfold wAll Spec.wAll
  by_cases h : j.val < 1
  · rw [dif_pos h, dif_pos h]
    exact congrArg (fun q => ar6 m c (ix2 o q)) (Subsingleton.elim (α := Fin 1) _ _)
  · rw [dif_neg h, dif_neg h]; rfl

theorem bAll_eq (j : Fin 26) : bAll m c j = Spec.bAll (data m c) j := by
  unfold bAll Spec.bAll
  by_cases h : j.val < 1
  · rw [dif_pos h, dif_pos h]
    exact congrArg (fun q => ar7 m c (ix1 q)) (Subsingleton.elim (α := Fin 1) _ _)
  · rw [dif_neg h, dif_neg h]; rfl

theorem tgt_eq (b : Fin 4) : tgt (V7 m) c b = (data m c).tg b := by
  funext x k
  exact v13_apply m c b k x

theorem box_eq (b : Fin 4) (r : Fin 1050) (i : Fin 4200) (h : i.val = 1050 * b.val + r.val) : box (V7 m) c b r = (data m c).bx i := by
  funext k
  have e0 : (⟨i.val / 1050, by omega⟩ : Fin 4) = b := Fin.ext (by dsimp only; omega)
  have e1 : (⟨i.val % 1050 / 50, by omega⟩ : Fin 21) = ⟨r.val / 50, by omega⟩ := Fin.ext (by dsimp only; omega)
  have e2 : (⟨i.val % 1050 % 50, by omega⟩ : Fin 50) = ⟨r.val % 50, by omega⟩ := Fin.ext (by dsimp only; omega)
  show box (V7 m) c b r k = ar2 m c (ix4 ⟨i.val / 1050, by omega⟩ ⟨i.val % 1050 / 50, by omega⟩ ⟨i.val % 1050 % 50, by omega⟩ k)
  rw [e0, e1, e2]
  exact v12_apply m c b r k ⟨r.val / 50, by omega⟩ ⟨r.val % 50, by omega⟩ (by show r.val = 50 * (r.val / 50) + r.val % 50; omega)

/-- The number of matched boxes. -/
theorem nm_val : (V10 m (Run.outs m) c main_v36_1 : Vec Ideal S1x1 .f32) (ix2 0 0) = ∑ i : Fin 4200, Box.mask (Spec.tgs (data m c) i) ((data m c).bx i) := by
  have e : V10 m (Run.outs m) c main_v36_1 = nmArr (V7 m) c := by
    rw [V10_of m (Run.outs m) c main_v36_1 (by decide), V9_of m (Run.outs m) c main_v36_1 (by decide), ← Run.after0]
    exact (Pipeline.afterRegion_arr (R0.dat (V7 m) c) (V7 m c) winFacts0.arr_inj 3).trans (final0_nm (V7 m) c)
  rw [e]
  show nmAt (V7 m) c last0.val last0.isLt = _
  rw [nm_sum (V7 m) c last0.val last0.isLt rfl, sum_rows 4 1050 4200 rfl]
  refine Finset.sum_congr rfl fun b _ => Finset.sum_congr rfl fun r _ => ?_
  rw [tgt_eq, box_eq m c b r ⟨1050 * b.val + r.val, by omega⟩ rfl]
  have e0 : (⟨(1050 * b.val + r.val) / 1050, by omega⟩ : Fin 4) = b := Fin.ext (by dsimp only; omega)
  unfold Spec.tgs
  rw [e0]

/-- The packed matches of a box. -/
theorem aux_val (i : Fin 4200) (k : Fin 16) :
    (V9 m (Run.outs m) c main_v37 : Vec Ideal S4200x16 .f32) (ix2 i k) = Box.aux (Spec.tgs (data m c) i) ((data m c).bx i) k := by
  unfold V9
  after_reads_at
  have e : V8 m (Run.outs m) c main_v36_0 = auxArr (V7 m) c := by
    rw [← Run.after0]
    exact (Pipeline.afterRegion_arr (R0.dat (V7 m) c) (V7 m c) winFacts0.arr_inj 2).trans (final0_aux (V7 m) c)
  rw [e]
  show Box.aux (tgt (V7 m) c ⟨i.val / 1050, by omega⟩) (box (V7 m) c ⟨i.val / 1050, by omega⟩ ⟨i.val % 1050, by omega⟩) k = _
  rw [tgt_eq, box_eq m c _ _ i (by show i.val = 1050 * (i.val / 1050) + i.val % 1050; omega)]
  rfl

theorem v9_of7 (r : Ref sig .tc) (h9 : r ∉ hostOps1_W) (h8 : r ∉ ([main_v36_0, main_v36_1] : List (Ref sig .tc))) :
    V9 m (Run.outs m) c (Proc.devRef .tc r) = V7 m c (Proc.devRef .tc r) := by
  rw [V9_of m (Run.outs m) c r h9, V8_of m (Run.outs m) c r h8]

theorem conv_eq (P : Fin 64 → ℕ → ℕ → EReal) (w2 : Vec Ideal S576x64 .bf16) (bc : Vec Ideal S1x64 .f32)
    (h2 : ∀ (t : Fin 9) (k o : Fin 64), w2 (ix2 ⟨64 * t.val + k.val, by omega⟩ o) = ar4 m c (ix4 o k ⟨t.val / 3, by omega⟩ ⟨t.val % 3, by omega⟩))
    (hb : ∀ o : Fin 64, bc (ix2 0 o) = ar5 m c (ix1 o)) (o : Fin 64) (y x : ℕ) :
    convAt P w2 bc o y x = Spec.conv (data m c) P o y x := by
  unfold convAt Spec.conv
  rw [hb]
  refine congrArg (fun q => max (q + _) 0) (Finset.sum_congr rfl fun t _ => Finset.sum_congr rfl fun k _ => ?_)
  rw [h2]
  rfl

theorem head_eq (P : Fin 64 → ℕ → ℕ → EReal) (w2 : Vec Ideal S576x64 .bf16) (bc : Vec Ideal S1x64 .f32) (wh : Vec Ideal S64x26 .f32) (bh : Vec Ideal S1x26 .f32)
    (h2 : ∀ (t : Fin 9) (k o : Fin 64), w2 (ix2 ⟨64 * t.val + k.val, by omega⟩ o) = ar4 m c (ix4 o k ⟨t.val / 3, by omega⟩ ⟨t.val % 3, by omega⟩))
    (hb : ∀ o : Fin 64, bc (ix2 0 o) = ar5 m c (ix1 o)) (hw : ∀ (o : Fin 64) (j : Fin 26), wh (ix2 o j) = wAll m c o j)
    (hh : ∀ j : Fin 26, bh (ix2 0 j) = bAll m c j) : headAt P w2 bc wh bh = Spec.heads (data m c) P := by
  funext j
  unfold headAt Spec.heads Spec.lin Spec.mean
  rw [hh, bAll_eq]
  refine congrArg (· + _) (Finset.sum_congr rfl fun o _ => ?_)
  rw [hw, wAll_eq]
  simp only [conv_eq m c P w2 bc h2 hb]

/-- The second call's four losses. -/
theorem tot_val (j : Fin 4) : (V10 m (Run.outs m) c main_v38 : Vec Ideal S1x4 .f32) (ix2 0 j) = Spec.total (data m c) j := by
  have e : V10 m (Run.outs m) c main_v38 = accAt (V9 m (Run.outs m)) c last1.val last1.isLt := by
    rw [← Run.after1]
    exact (Pipeline.afterRegion_arr (R1.dat (V9 m (Run.outs m)) c) (V9 m (Run.outs m) c) winFacts1.arr_inj 8).trans (final1 (V9 m (Run.outs m)) c)
  rw [e]
  have h0 : a0 (V9 m (Run.outs m)) c = V7 m c main_v5 := v9_of7 m c main_v5 (by decide) (by decide)
  have h1 : a1 (V9 m (Run.outs m)) c = V7 m c main_v11 := v9_of7 m c main_v11 (by decide) (by decide)
  have h3 : a3 (V9 m (Run.outs m)) c = V7 m c main_v16 := v9_of7 m c main_v16 (by decide) (by decide)
  have h4 : a4 (V9 m (Run.outs m)) c = V7 m c main_v20 := v9_of7 m c main_v20 (by decide) (by decide)
  have h5 : a5 (V9 m (Run.outs m)) c = V7 m c main_v17 := v9_of7 m c main_v17 (by decide) (by decide)
  have h6 : a6 (V9 m (Run.outs m)) c = V7 m c main_v19 := v9_of7 m c main_v19 (by decide) (by decide)
  have h7 : a7 (V9 m (Run.outs m)) c = V7 m c main_v35 := v9_of7 m c main_v35 (by decide) (by decide)
  refine (acc_total (m := V9 m (Run.outs m)) (c := c) (F := feat (ar0 m c)) (G := feat (ar1 m c))
    (fun s i k => by rw [h0]; exact v5_apply m c s i k) (fun s i k => by rw [h1]; exact v11_apply m c s i k)
    (feat_top _) (feat_left _) (feat_right _) (feat_top _) (feat_left _) (feat_right _) (by rw [h7]; exact isPool m c) j).trans ?_
  refine Finset.sum_congr rfl fun i _ => ?_
  have hd : ∀ P, headAt P (a3 (V9 m (Run.outs m)) c) (a4 (V9 m (Run.outs m)) c) (a5 (V9 m (Run.outs m)) c) (a6 (V9 m (Run.outs m)) c) = Spec.heads (data m c) P := fun P =>
    head_eq m c P _ _ _ _ (fun t k o => by rw [h3]; exact v16_apply m c t k o) (fun o => by rw [h4]; exact v20_apply m c o)
      (fun o j => by rw [h5]; exact v17_apply m c o j) (fun j => by rw [h6]; exact v19_apply m c j)
  have ha : (fun k => a2 (V9 m (Run.outs m)) c (ix2 i k)) = fun k => Box.aux (Spec.tgs (data m c) i) ((data m c).bx i) k := funext fun k => aux_val m c i k
  unfold lossAt
  rw [hd, hd, ha]
  rfl

theorem dis_val : (V11 m (Run.outs m) c main_v56 : Vec Ideal S_ .f32) ix0 = Spec.dis (data m c) := by
  unfold V11
  after_reads_at
  rw [tot_val m c 2, tot_val m c 3, nm_val m c]
  rfl

theorem loss_val : (V11 m (Run.outs m) c main_v61 : Vec Ideal S_ .f32) ix0 = Spec.loss (data m c) := by
  unfold V11
  after_reads_at
  rw [tot_val m c 0, tot_val m c 1, tot_val m c 2, tot_val m c 3, nm_val m c]
  rfl

end Cert.KernelIdeal.Val

end
-- ==== Proof.Val.Same.lean ====
module

public import proofs.«01_k».proof.Defs
public import proofs.«01_k».proof.Proof.Gen.Pre_in_range
public import proofs.«01_k».proof.Proof.Val.Pre
public import proofs.«01_k».proof.Proof.Val.KVal
public import proofs.«01_k».proof.Proof.Val.RFinal

@[expose] public section

set_option maxRecDepth 16384

noncomputable section

namespace Cert.Same

open Idealize.ShloMosaic Idealize.ShloMosaic.TcCoe Idealize.ShloMosaic.StableHlo Cert.Box

/-! The two programs' arguments agree, and the precondition is what the cross entropy needs. -/

theorem good (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) : Spec.Good (KernelIdeal.Val.data m c) := by
  obtain ⟨h3, h1, h4, h5, h8, h9⟩ := Cert.Pre_in_range.facts_of _ _ _ _ _ _ _ _ _ _ _ _ (h c)
  refine ⟨fun b x => (h3 b x).1, fun b x => (h3 b x).2, fun i k Y X => ?_, fun o k a b => h4 _, fun o => h5 _, fun o k => h8 _, fun k => h9 _⟩
  show IsFin (KernelIdeal.Val.feat (KernelIdeal.Val.ar1 m c) i k Y X)
  unfold KernelIdeal.Val.feat
  split
  · exact h1 _
  · exact IsFin.zero

/-- An array of no dimension is its one element. -/
theorem scalar_ext {a b : Cert.ReferenceIdeal.S_.Idx → EReal} (h : a ix0 = b ix0) : a = b := by
  funext i
  have : i = ix0 := funext fun d => d.elim0
  rw [this, h]

theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    ReferenceIdeal.Val.data (launchContents m' c) = KernelIdeal.Val.data m c := by
  obtain ⟨h0, h1, h2, h3, h4, h5, h6, h7, h8, h9, h10, h11⟩ := h
  have e0 : ReferenceIdeal.Val.ar0 (launchContents m' c) = KernelIdeal.Val.ar0 m c := h0
  have e1 : ReferenceIdeal.Val.ar1 (launchContents m' c) = KernelIdeal.Val.ar1 m c := h1
  have e2 : ReferenceIdeal.Val.ar2 (launchContents m' c) = KernelIdeal.Val.ar2 m c := h2
  have e3 : ReferenceIdeal.Val.ar3 (launchContents m' c) = KernelIdeal.Val.ar3 m c := h3
  have e4 : ReferenceIdeal.Val.ar4 (launchContents m' c) = KernelIdeal.Val.ar4 m c := h4
  have e5 : ReferenceIdeal.Val.ar5 (launchContents m' c) = KernelIdeal.Val.ar5 m c := h5
  have e6 : ReferenceIdeal.Val.ar6 (launchContents m' c) = KernelIdeal.Val.ar6 m c := h6
  have e7 : ReferenceIdeal.Val.ar7 (launchContents m' c) = KernelIdeal.Val.ar7 m c := h7
  have e8 : ReferenceIdeal.Val.ar8 (launchContents m' c) = KernelIdeal.Val.ar8 m c := h8
  have e9 : ReferenceIdeal.Val.ar9 (launchContents m' c) = KernelIdeal.Val.ar9 m c := h9
  have e10 : ReferenceIdeal.Val.ar10 (launchContents m' c) = KernelIdeal.Val.ar10 m c := h10
  have e11 : ReferenceIdeal.Val.ar11 (launchContents m' c) = KernelIdeal.Val.ar11 m c := h11
  unfold ReferenceIdeal.Val.data KernelIdeal.Val.data
  rw [e0, e1, e2, e3, e4, e5, e6, e7, e8, e9, e10, e11]

theorem loss_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (hg : Spec.Good (KernelIdeal.Val.data m c)) :
    ReferenceIdeal.Val.lossT (launchContents m' c) = (KernelIdeal.Gen.V11 m (KernelIdeal.Run.outs m) c KernelIdeal.main_v61 : Vec Ideal KernelIdeal.S_ .f32) := by
  refine scalar_ext ?_
  have e := data_eq m m' c h
  refine (ReferenceIdeal.Val.loss_apply (launchContents m' c) (e ▸ hg)).trans ?_
  rw [e]
  exact (KernelIdeal.Val.loss_val m c).symm

theorem dis_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    ReferenceIdeal.Val.disT (launchContents m' c) = (KernelIdeal.Gen.V11 m (KernelIdeal.Run.outs m) c KernelIdeal.main_v56 : Vec Ideal KernelIdeal.S_ .f32) := by
  refine scalar_ext ?_
  refine (ReferenceIdeal.Val.dis_apply (launchContents m' c)).trans ?_
  rw [data_eq m m' c h]
  exact (KernelIdeal.Val.dis_val m c).symm

end Cert.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Run
public import proofs.«01_k».proof.Proof.KI.Run
public import proofs.«01_k».proof.Proof.RI.Run
public import proofs.«01_k».proof.Proof.Gen.Pre_in_range
public import proofs.«01_k».proof.Proof.Val.RRun
public import proofs.«01_k».proof.Proof.Val.Same
public import Idealize.ShloMosaic.Lib.Quiescent

@[expose] public section

/-! The claim, from the runs of the three programs. -/

namespace Cert.Proof

open Idealize.ShloMosaic

/-- The reference leaves its arguments as they were; it has no semaphore. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems rfl r.2⟩) (Cert.ReferenceIdeal.Value.run (F := Ideal) m ρ)

/-- The kernel and the reference leave the same two results. -/
theorem algebraic : Cert.algebraic_KernelIdeal_ReferenceIdeal_pre_in_range (hKernelIdeal := Cert.KernelIdeal.Gen.facts) (hReferenceIdeal := Cert.ReferenceIdeal.Gen.facts)
    (hPre_in_range := Cert.Pre_in_range.Gen.facts) := fun m g m' g' hp ha =>
  ⟨fun c => Cert.KernelIdeal.Gen.V11 m (Cert.KernelIdeal.Run.outs m) c (Proc.devRef .tc Cert.KernelIdeal.main_v61), fun c => Cert.KernelIdeal.Gen.V11 m (Cert.KernelIdeal.Run.outs m) c (Proc.devRef .tc Cert.KernelIdeal.main_v56),
    (θ_run _ _ _).mono (fun r h c => ⟨h.1 c Cert.KernelIdeal.main_v61 rfl, h.1 c Cert.KernelIdeal.main_v56 rfl,
      (h.1 c Cert.KernelIdeal.main_arg0 rfl).trans (Cert.KernelIdeal.Gen.V11_main_arg0 m (Cert.KernelIdeal.Run.outs m) c), (h.1 c Cert.KernelIdeal.main_arg1 rfl).trans (Cert.KernelIdeal.Gen.V11_main_arg1 m (Cert.KernelIdeal.Run.outs m) c), (h.1 c Cert.KernelIdeal.main_arg2 rfl).trans (Cert.KernelIdeal.Gen.V11_main_arg2 m (Cert.KernelIdeal.Run.outs m) c), (h.1 c Cert.KernelIdeal.main_arg3 rfl).trans (Cert.KernelIdeal.Gen.V11_main_arg3 m (Cert.KernelIdeal.Run.outs m) c), (h.1 c Cert.KernelIdeal.main_arg4 rfl).trans (Cert.KernelIdeal.Gen.V11_main_arg4 m (Cert.KernelIdeal.Run.outs m) c), (h.1 c Cert.KernelIdeal.main_arg5 rfl).trans (Cert.KernelIdeal.Gen.V11_main_arg5 m (Cert.KernelIdeal.Run.outs m) c), (h.1 c Cert.KernelIdeal.main_arg6 rfl).trans (Cert.KernelIdeal.Gen.V11_main_arg6 m (Cert.KernelIdeal.Run.outs m) c), (h.1 c Cert.KernelIdeal.main_arg7 rfl).trans (Cert.KernelIdeal.Gen.V11_main_arg7 m (Cert.KernelIdeal.Run.outs m) c), (h.1 c Cert.KernelIdeal.main_arg8 rfl).trans (Cert.KernelIdeal.Gen.V11_main_arg8 m (Cert.KernelIdeal.Run.outs m) c), (h.1 c Cert.KernelIdeal.main_arg9 rfl).trans (Cert.KernelIdeal.Gen.V11_main_arg9 m (Cert.KernelIdeal.Run.outs m) c), (h.1 c Cert.KernelIdeal.main_arg10 rfl).trans (Cert.KernelIdeal.Gen.V11_main_arg10 m (Cert.KernelIdeal.Run.outs m) c), (h.1 c Cert.KernelIdeal.main_arg11 rfl).trans (Cert.KernelIdeal.Gen.V11_main_arg11 m (Cert.KernelIdeal.Run.outs m) c)⟩) (Cert.KernelIdeal.Run.run_all m g),
    (θ_run _ _ _).mono (fun r h c => ⟨(h c).1.1.trans (Cert.Same.loss_same m m' c (ha c) (Cert.Same.good m hp c)), (h c).1.2.trans (Cert.Same.dis_same m m' c (ha c)), (h c).2⟩)
      (Cert.ReferenceIdeal.Val.run_named m' g')⟩

theorem claim : Cert.Claim :=
  ⟨Cert.Kernel.Gen.facts, Cert.KernelIdeal.Gen.facts, Cert.ReferenceIdeal.Gen.facts, Cert.Pre_in_range.Gen.facts,
    fun m ρ _ => Cert.Kernel.Run.frame m ρ, fun m ρ _ => Cert.KernelIdeal.Run.frame m ρ, fun m ρ _ => Cert.KernelIdeal.Run.frame m ρ, reference_frame,
    fun m ρ _ => reference_frame m ρ trivial,
    IdealRules.named_const.statement Cert.KernelIdeal.κ "inv49" .bf16 0x3CA7#16 _ rfl, algebraic⟩

end Cert.Proof

end
